-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate [hPre_finite_gate : Cert.Pre_finite_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate [hPre_finite_gate : Cert.Pre_finite_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_gate [hKernelIdeal : Cert.KernelIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_gate [hReferenceIdeal : Cert.ReferenceIdeal.Facts] [hPre_finite_gate : Cert.Pre_finite_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_gate [hKernelIdeal : Cert.KernelIdeal.Facts] [hReferenceIdeal : Cert.ReferenceIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_v205) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_gate : Cert.Pre_finite_gate.Facts),
    quiescent_Kernel (hKernel := hKernel)
    ∧ quiescent_KernelIdeal (hKernelIdeal := hKernelIdeal)
    ∧ quiescent_KernelIdeal_pre_finite_gate (hKernelIdeal := hKernelIdeal) (hPre_finite_gate := hPre_finite_gate)
    ∧ quiescent_ReferenceIdeal (hReferenceIdeal := hReferenceIdeal)
    ∧ quiescent_ReferenceIdeal_pre_finite_gate (hReferenceIdeal := hReferenceIdeal) (hPre_finite_gate := hPre_finite_gate)
    ∧ preserves_Kernel_KernelIdeal
    ∧ algebraic_KernelIdeal_ReferenceIdeal_pre_finite_gate (hKernelIdeal := hKernelIdeal) (hReferenceIdeal := hReferenceIdeal) (hPre_finite_gate := hPre_finite_gate)
-- ==== Pre_finite_gate.lean ====
abbrev S4x2048x1024 : Shape := ⟨3, ![4, 2048, 1024]⟩
abbrev S1024x16 : Shape := ⟨2, ![1024, 16]⟩
abbrev S16x1024x4096 : Shape := ⟨3, ![16, 1024, 4096]⟩
abbrev S16x4096 : Shape := ⟨2, ![16, 4096]⟩
abbrev S16x4096x1024 : Shape := ⟨3, ![16, 4096, 1024]⟩
abbrev S16x1024 : Shape := ⟨2, ![16, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S4x2048x1024 .f32) (main_arg1 : FVec F S1024x16 .f32) (main_arg2 : FVec F S16x1024x4096 .f32) (main_arg3 : FVec F S16x4096 .f32) (main_arg4 : FVec F S16x4096x1024 .f32) (main_arg5 : FVec F S16x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  main_v8
-- ==== Kernel.lean ====
abbrev S4x2048x1024 : Shape := ⟨3, ![4, 2048, 1024]⟩
abbrev S1024x16 : Shape := ⟨2, ![1024, 16]⟩
abbrev S16x1024x4096 : Shape := ⟨3, ![16, 1024, 4096]⟩
abbrev S16x4096 : Shape := ⟨2, ![16, 4096]⟩
abbrev S16x4096x1024 : Shape := ⟨3, ![16, 4096, 1024]⟩
abbrev S16x1024 : Shape := ⟨2, ![16, 1024]⟩
abbrev S8192x1024 : Shape := ⟨2, ![8192, 1024]⟩
abbrev S16x1x512 : Shape := ⟨3, ![16, 1, 512]⟩
abbrev S8192x16 : Shape := ⟨2, ![8192, 16]⟩
abbrev S16x1x16 : Shape := ⟨3, ![16, 1, 16]⟩
abbrev S512x1024 : Shape := ⟨2, ![512, 1024]⟩
abbrev S1x1x512 : Shape := ⟨3, ![1, 1, 512]⟩
abbrev S512x16 : Shape := ⟨2, ![512, 16]⟩
abbrev S1x1x16 : Shape := ⟨3, ![1, 1, 16]⟩
abbrev S512 : Shape := ⟨1, ![512]⟩
abbrev S512x1 : Shape := ⟨2, ![512, 1]⟩
abbrev S16 : Shape := ⟨1, ![16]⟩
abbrev S1x8192 : Shape := ⟨2, ![1, 8192]⟩
abbrev S8x128 : Shape := ⟨2, ![8, 128]⟩
abbrev S1x512 : Shape := ⟨2, ![1, 512]⟩
abbrev S512x512 : Shape := ⟨2, ![512, 512]⟩
abbrev S1x16 : Shape := ⟨2, ![1, 16]⟩
abbrev S16x16 : Shape := ⟨2, ![16, 16]⟩
abbrev S1 : Shape := ⟨1, ![1]⟩
abbrev S1x1 : Shape := ⟨2, ![1, 1]⟩
abbrev S8192 : Shape := ⟨1, ![8192]⟩
abbrev S_ : Shape := ⟨0, ![]⟩
abbrev S21760x1024 : Shape := ⟨2, ![21760, 1024]⟩
abbrev S8192x1 : Shape := ⟨2, ![8192, 1]⟩
abbrev S1280x1024 : Shape := ⟨2, ![1280, 1024]⟩
abbrev S1x1024x1024 : Shape := ⟨3, ![1, 1024, 1024]⟩
abbrev S1024x1024 : Shape := ⟨2, ![1024, 1024]⟩
abbrev S1x1024 : Shape := ⟨2, ![1, 1024]⟩

abbrev nBuf : Space → Nat
  | .hbm => 81
  | .vmem => 50
  | .smem => 0
  | _ => 0

abbrev bufTy : (tb : Table) → Fin (tcTables nBuf tb) → BufTy
  | .hbm, ⟨0, _⟩ => ⟨S4x2048x1024, .f32⟩
  | .hbm, ⟨1, _⟩ => ⟨S1024x16, .f32⟩
  | .hbm, ⟨2, _⟩ => ⟨S16x1024x4096, .f32⟩
  | .hbm, ⟨3, _⟩ => ⟨S16x4096, .f32⟩
  | .hbm, ⟨4, _⟩ => ⟨S16x4096x1024, .f32⟩
  | .hbm, ⟨5, _⟩ => ⟨S16x1024, .f32⟩
  | .hbm, ⟨6, _⟩ => ⟨S8192x1024, .f32⟩
  | .hbm, ⟨7, _⟩ => ⟨S16x1x512, .f32⟩
  | .hbm, ⟨8, _⟩ => ⟨S16x1x512, .f32⟩
  | .hbm, ⟨9, _⟩ => ⟨S16x1x512, .i32⟩
  | .hbm, ⟨10, _⟩ => ⟨S16x1x512, .i32⟩
  | .hbm, ⟨11, _⟩ => ⟨S8192x16, .f32⟩
  | .hbm, ⟨12, _⟩ => ⟨S8192x16, .f32⟩
  | .hbm, ⟨13, _⟩ => ⟨S16x1x16, .f32⟩
  | .hbm, ⟨14, _⟩ => ⟨S16x1x16, .f32⟩
  | .hbm, ⟨15, _⟩ => ⟨S1x8192, .f32⟩
  | .hbm, ⟨16, _⟩ => ⟨S1x8192, .f32⟩
  | .hbm, ⟨17, _⟩ => ⟨S1x8192, .i32⟩
  | .hbm, ⟨18, _⟩ => ⟨S1x8192, .i32⟩
  | .hbm, ⟨19, _⟩ => ⟨S16x1x512, .i32⟩
  | .hbm, ⟨20, _⟩ => ⟨S16x1x512, .i32⟩
  | .hbm, ⟨21, _⟩ => ⟨S16x1x512, .i32⟩
  | .hbm, ⟨22, _⟩ => ⟨S16x1x512, .i32⟩
  | .hbm, ⟨23, _⟩ => ⟨S16x1x512, .f32⟩
  | .hbm, ⟨24, _⟩ => ⟨S16x1x512, .f32⟩
  | .hbm, ⟨25, _⟩ => ⟨S8x128, .f32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S8192, .i32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S21760x1024, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S21760x1024, .f32⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S8192, .i32⟩
  | .hbm, ⟨50, _⟩ => ⟨S8192x1, .i32⟩
  | .hbm, ⟨51, _⟩ => ⟨S21760x1024, .f32⟩
  | .hbm, ⟨52, _⟩ => ⟨S21760x1024, .f32⟩
  | .hbm, ⟨53, _⟩ => ⟨S_, .i32⟩
  | .hbm, ⟨54, _⟩ => ⟨S8192, .i32⟩
  | .hbm, ⟨55, _⟩ => ⟨S8192, .i1⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .i32⟩
  | .hbm, ⟨60, _⟩ => ⟨S8192x1, .i32⟩
  | .hbm, ⟨61, _⟩ => ⟨S8192x1024, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S_, .i32⟩
  | .hbm, ⟨69, _⟩ => ⟨S8192, .i32⟩
  | .hbm, ⟨70, _⟩ => ⟨S8192, .i32⟩
  | .hbm, ⟨71, _⟩ => ⟨S8192, .i32⟩
  | .hbm, ⟨72, _⟩ => ⟨S8192x1, .i32⟩
  | .hbm, ⟨73, _⟩ => ⟨S8192x1024, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S4x2048x1024, .f32⟩
  | .hbm, ⟨79, _⟩ => ⟨S1x1, .f32⟩
  | .hbm, ⟨80, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1024x16, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .i32⟩
  | .local _ .vmem, ⟨8, _⟩ => ⟨S1x1x512, .i32⟩
  | .local _ .vmem, ⟨9, _⟩ => ⟨S1x1x512, .i32⟩
  | .local _ .vmem, ⟨10, _⟩ => ⟨S1x1x512, .i32⟩
  | .local _ .vmem, ⟨11, _⟩ => ⟨S512x16, .f32⟩
  | .local _ .vmem, ⟨12, _⟩ => ⟨S512x16, .f32⟩
  | .local _ .vmem, ⟨13, _⟩ => ⟨S512x16, .f32⟩
  | .local _ .vmem, ⟨14, _⟩ => ⟨S512x16, .f32⟩
  | .local _ .vmem, ⟨15, _⟩ => ⟨S1x1x16, .f32⟩
  | .local _ .vmem, ⟨16, _⟩ => ⟨S1x1x16, .f32⟩
  | .local _ .vmem, ⟨17, _⟩ => ⟨S1x1x16, .f32⟩
  | .local _ .vmem, ⟨18, _⟩ => ⟨S1x1x16, .f32⟩
  | .local _ .vmem, ⟨19, _⟩ => ⟨S1x8192, .f32⟩
  | .local _ .vmem, ⟨20, _⟩ => ⟨S1x8192, .f32⟩
  | .local _ .vmem, ⟨21, _⟩ => ⟨S1x8192, .i32⟩
  | .local _ .vmem, ⟨22, _⟩ => ⟨S1x8192, .i32⟩
  | .local _ .vmem, ⟨23, _⟩ => ⟨S8192x16, .f32⟩
  | .local _ .vmem, ⟨24, _⟩ => ⟨S8192x16, .f32⟩
  | .local _ .vmem, ⟨25, _⟩ => ⟨S16x1x16, .f32⟩
  | .local _ .vmem, ⟨26, _⟩ => ⟨S16x1x16, .f32⟩
  | .local _ .vmem, ⟨27, _⟩ => ⟨S1x1x512, .i32⟩
  | .local _ .vmem, ⟨28, _⟩ => ⟨S1x1x512, .i32⟩
  | .local _ .vmem, ⟨29, _⟩ => ⟨S1x1x512, .i32⟩
  | .local _ .vmem, ⟨30, _⟩ => ⟨S1x1x512, .i32⟩
  | .local _ .vmem, ⟨31, _⟩ => ⟨S1x1x512, .i32⟩
  | .local _ .vmem, ⟨32, _⟩ => ⟨S1x1x512, .i32⟩
  | .local _ .vmem, ⟨33, _⟩ => ⟨S1x1x512, .i32⟩
  | .local _ .vmem, ⟨34, _⟩ => ⟨S1x1x512, .i32⟩
  | .local _ .vmem, ⟨35, _⟩ => ⟨S1x1x512, .f32⟩
  | .local _ .vmem, ⟨36, _⟩ => ⟨S1x1x512, .f32⟩
  | .local _ .vmem, ⟨37, _⟩ => ⟨S1x1x512, .f32⟩
  | .local _ .vmem, ⟨38, _⟩ => ⟨S1x1x512, .f32⟩
  | .local _ .vmem, ⟨39, _⟩ => ⟨S8x128, .f32⟩
  | .local _ .vmem, ⟨40, _⟩ => ⟨S1280x1024, .f32⟩
  | .local _ .vmem, ⟨41, _⟩ => ⟨S1280x1024, .f32⟩
  | .local _ .vmem, ⟨42, _⟩ => ⟨S1x1024x1024, .f32⟩
  | .local _ .vmem, ⟨43, _⟩ => ⟨S1x1024x1024, .f32⟩
  | .local _ .vmem, ⟨44, _⟩ => ⟨S16x4096, .f32⟩
  | .local _ .vmem, ⟨45, _⟩ => ⟨S1x1024x1024, .f32⟩
  | .local _ .vmem, ⟨46, _⟩ => ⟨S1x1024x1024, .f32⟩
  | .local _ .vmem, ⟨47, _⟩ => ⟨S16x1024, .f32⟩
  | .local _ .vmem, ⟨48, _⟩ => ⟨S1280x1024, .f32⟩
  | .local _ .vmem, ⟨49, _⟩ => ⟨S1280x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩
abbrev main_v1_7 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_v6_3 : Ref sig .tc := ⟨.hbm, 22, rfl⟩
abbrev main_v6_4 : Ref sig .tc := ⟨.hbm, 23, rfl⟩
abbrev main_v6_5 : Ref sig .tc := ⟨.hbm, 24, rfl⟩
abbrev main_v6_6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_1 : Ref sig .tc := ⟨.hbm, 43, rfl⟩
abbrev main_v21 : Ref sig .tc := ⟨.hbm, 44, rfl⟩
abbrev main_v22 : Ref sig .tc := ⟨.hbm, 45, rfl⟩
abbrev main_c_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_3 : Ref sig .tc := ⟨.hbm, 53, rfl⟩
abbrev main_v29 : Ref sig .tc := ⟨.hbm, 54, rfl⟩
abbrev main_v30 : Ref sig .tc := ⟨.hbm, 55, rfl⟩
abbrev main_c_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_5 : Ref sig .tc := ⟨.hbm, 65, rfl⟩
abbrev main_v39 : Ref sig .tc := ⟨.hbm, 66, rfl⟩
abbrev main_v40 : Ref sig .tc := ⟨.hbm, 67, rfl⟩
abbrev main_c_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc1_stg0_0 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg10_1 : Ref sig .tc := ⟨.vmem, 32, rfl⟩
abbrev cc1_stg11_0 : Ref sig .tc := ⟨.vmem, 33, rfl⟩
abbrev cc1_stg11_1 : Ref sig .tc := ⟨.vmem, 34, rfl⟩
abbrev cc1_stg12_0 : Ref sig .tc := ⟨.vmem, 35, rfl⟩
abbrev cc1_stg12_1 : Ref sig .tc := ⟨.vmem, 36, rfl⟩
abbrev cc1_stg13_0 : Ref sig .tc := ⟨.vmem, 37, rfl⟩
abbrev cc1_stg13_1 : Ref sig .tc := ⟨.vmem, 38, rfl⟩
abbrev cc1_stg14_0 : Ref sig .tc := ⟨.vmem, 39, rfl⟩
abbrev cc2_stg0_0 : Ref sig .tc := ⟨.vmem, 40, rfl⟩
abbrev cc2_stg0_1 : Ref sig .tc := ⟨.vmem, 41, rfl⟩
abbrev cc2_stg1_0 : Ref sig .tc := ⟨.vmem, 42, rfl⟩
abbrev cc2_stg1_1 : Ref sig .tc := ⟨.vmem, 43, rfl⟩
abbrev cc2_stg2_0 : Ref sig .tc := ⟨.vmem, 44, rfl⟩
abbrev cc2_stg3_0 : Ref sig .tc := ⟨.vmem, 45, rfl⟩
abbrev cc2_stg3_1 : Ref sig .tc := ⟨.vmem, 46, rfl⟩
abbrev cc2_stg4_0 : Ref sig .tc := ⟨.vmem, 47, rfl⟩
abbrev cc2_stg5_0 : Ref sig .tc := ⟨.vmem, 48, rfl⟩
abbrev cc2_stg5_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem8_1 : DmaSem sig := 28
abbrev cc1_sem9_0 : DmaSem sig := 29
abbrev cc1_sem9_1 : DmaSem sig := 30
abbrev cc1_sem10_0 : DmaSem sig := 31
abbrev cc1_sem10_1 : DmaSem sig := 32
abbrev cc1_sem11_0 : DmaSem sig := 33
abbrev cc1_sem11_1 : DmaSem sig := 34
abbrev cc1_sem12_0 : DmaSem sig := 35
abbrev cc1_sem12_1 : DmaSem sig := 36
abbrev cc1_sem13_0 : DmaSem sig := 37
abbrev cc1_sem13_1 : DmaSem sig := 38
abbrev cc1_sem14_0 : DmaSem sig := 39
abbrev cc2_sem0_0 : DmaSem sig := 40
abbrev cc2_sem0_1 : DmaSem sig := 41
abbrev cc2_sem1_0 : DmaSem sig := 42
abbrev cc2_sem1_1 : DmaSem sig := 43
abbrev cc2_sem2_0 : DmaSem sig := 44
abbrev cc2_sem3_0 : DmaSem sig := 45
abbrev cc2_sem3_1 : DmaSem sig := 46
abbrev cc2_sem4_0 : DmaSem sig := 47
abbrev cc2_sem5_0 : DmaSem sig := 48
abbrev cc2_sem5_1 : DmaSem sig := 49

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def k1_off1 (i : grid1.Coords) : Fin 2 → Nat :=
  let c0 : Index := 0#32
  let arg0 : BitVec 32 := BitVec.ofNat 32 (i 0).val
  let c512_i32 : BitVec 32 := 512#32
  let v0 : BitVec 32 := Scalar.muli arg0 c512_i32
  let v1 : Index := Scalar.indexCast v0
  ![0, v1.toNat]
@[reducible] def k1_t1_loop : Scf.Loop 32 :=
  let c0_i32 : BitVec 32 := 0#32
  let c16_i32 : BitVec 32 := 16#32
  let v10 : BitVec 32 := Scalar.addi c0_i32 c16_i32
  let c1_i32 : BitVec 32 := 1#32
  ⟨c0_i32, v10, c1_i32⟩
def k1_off2 (k1_t1 : Fin k1_t1_loop.trips) : Fin 2 → Nat :=
  let c0_42 : Index := 0#32
  let c0_i32 : BitVec 32 := 0#32
  let c1_i32 : BitVec 32 := 1#32
  let arg16 : BitVec 32 := Scf.iv c0_i32 c1_i32 k1_t1
  let c512_i32_41 : BitVec 32 := 512#32
  let v87 : BitVec 32 := Scalar.muli arg16 c512_i32_41
  let v88 : Index := Scalar.indexCast v87
  ![0, v88.toNat]
def k1_off3 (k1_t1 : Fin k1_t1_loop.trips) : Fin 2 → Nat :=
  let c0_i32 : BitVec 32 := 0#32
  let c1_i32 : BitVec 32 := 1#32
  let arg16 : BitVec 32 := Scf.iv c0_i32 c1_i32 k1_t1
  let c512_i32_41 : BitVec 32 := 512#32
  let v87 : BitVec 32 := Scalar.muli arg16 c512_i32_41
  let v108 : Index := Scalar.indexCast v87
  let c0_43 : Index := 0#32
  ![v108.toNat, 0]
def k1_off4 (i : grid1.Coords) : Fin 2 → Nat :=
  let arg0 : BitVec 32 := BitVec.ofNat 32 (i 0).val
  let c512_i32 : BitVec 32 := 512#32
  let v0 : BitVec 32 := Scalar.muli arg0 c512_i32
  let v12 : Index := Scalar.indexCast v0
  let c0_2 : Index := 0#32
  ![v12.toNat, 0]
def k1_cond1 (i : grid1.Coords) : BitVec 1 :=
  let arg0 : BitVec 32 := BitVec.ofNat 32 (i 0).val
  let c0_i32_39 : BitVec 32 := 0#32
  let v84 : BitVec 1 := Scalar.cmpi .eq arg0 c0_i32_39
  let v85 : BitVec 32 := Scalar.extui v84
  let c0_i32_40 : BitVec 32 := 0#32
  let v86 : BitVec 1 := Scalar.cmpi .ne v85 c0_i32_40
  v86

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8192 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8192 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8192x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8192x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x1x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x1x512 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x512 .i32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x512 .i32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x1x512 .i32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x1x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x1x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 1 → Memref sig .tc .vmem S8x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev grid2 : Pipeline.Grid := ⟨2, ![16, 4], ![false, false]⟩

def k2_off1 (i : grid2.Coords) : Fin 2 → Nat :=
  let arg0 : BitVec 32 := BitVec.ofNat 32 (i 0).val
  let v7 : Index := Scalar.indexCast arg0
  let arg1 : BitVec 32 := BitVec.ofNat 32 (i 1).val
  let c1024_i32 : BitVec 32 := 1024#32
  let v6 : BitVec 32 := Scalar.muli arg1 c1024_i32
  let v8 : Index := Scalar.indexCast v6
  ![v7.toNat, v8.toNat]
def k2_cond1 (i : grid2.Coords) : BitVec 1 :=
  let arg1 : BitVec 32 := BitVec.ofNat 32 (i 1).val
  let c0_i32 : BitVec 32 := 0#32
  let v26 : BitVec 1 := Scalar.cmpi .eq arg1 c0_i32
  let v27 : BitVec 32 := Scalar.extui v26
  let c0_i32_11 : BitVec 32 := 0#32
  let v28 : BitVec 1 := Scalar.cmpi .ne v27 c0_i32_11
  v28

def k2_off2 (i : grid2.Coords) : Fin 2 → Nat :=
  let arg0 : BitVec 32 := BitVec.ofNat 32 (i 0).val
  let v32 : Index := Scalar.indexCast arg0
  let c0_14 : Index := 0#32
  ![v32.toNat, 0]
def k2_cond2 (i : grid2.Coords) : BitVec 1 :=
  let arg1 : BitVec 32 := BitVec.ofNat 32 (i 1).val
  let c0_i32_12 : BitVec 32 := 0#32
  let v29 : BitVec 1 := Scalar.cmpi .ne arg1 c0_i32_12
  let v30 : BitVec 32 := Scalar.extui v29
  let c0_i32_13 : BitVec 32 := 0#32
  let v31 : BitVec 1 := Scalar.cmpi .ne v30 c0_i32_13
  v31

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1280x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S16x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S16x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1280x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]
-- ==== ReferenceIdeal.lean ====
abbrev S4x2048x1024 : Shape := ⟨3, ![4, 2048, 1024]⟩
abbrev S1024x16 : Shape := ⟨2, ![1024, 16]⟩
abbrev S16x1024x4096 : Shape := ⟨3, ![16, 1024, 4096]⟩
abbrev S16x4096 : Shape := ⟨2, ![16, 4096]⟩
abbrev S16x4096x1024 : Shape := ⟨3, ![16, 4096, 1024]⟩
abbrev S16x1024 : Shape := ⟨2, ![16, 1024]⟩
abbrev S8192x1024 : Shape := ⟨2, ![8192, 1024]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S16 : Shape := ⟨1, ![16]⟩
abbrev S1x16 : Shape := ⟨2, ![1, 16]⟩
abbrev S16x1280x1024 : Shape := ⟨3, ![16, 1280, 1024]⟩
abbrev S16x1280x4096 : Shape := ⟨3, ![16, 1280, 4096]⟩
abbrev S16x1x4096 : Shape := ⟨3, ![16, 1, 4096]⟩
abbrev S16x1x1024 : Shape := ⟨3, ![16, 1, 1024]⟩

abbrev nBuf : Space → Nat
  | .hbm => 289
  | .vmem => 0
  | .smem => 0
  | _ => 0

abbrev hbmTy0_0 (i : Nat) : BufTy := match i % 128 with
  | 0 => ⟨S4x2048x1024, .f32⟩
  | 1 => ⟨S1024x16, .f32⟩
  | 2 => ⟨S16x1024x4096, .f32⟩
  | 3 => ⟨S16x4096, .f32⟩
  | 4 => ⟨S16x4096x1024, .f32⟩
  | 5 => ⟨S16x1024, .f32⟩
  | 6 => ⟨S8192x1024, .f32⟩
  | 7 => ⟨S8192x16, .f32⟩
  | 8 => ⟨S_, .f32⟩
  | 9 => ⟨S8192, .f32⟩
  | 10 => ⟨S_, .f32⟩
  | 11 => ⟨S8192, .f32⟩
  | 12 => ⟨S8192, .f32⟩
  | 13 => ⟨S8192x1, .f32⟩
  | 14 => ⟨S8192x16, .f32⟩
  | 15 => ⟨S8192x16, .f32⟩
  | 16 => ⟨S8192x16, .f32⟩
  | 17 => ⟨S_, .f32⟩
  | 18 => ⟨S8192, .f32⟩
  | 19 => ⟨S8192x1, .f32⟩
  | 20 => ⟨S8192x16, .f32⟩
  | 21 => ⟨S8192x16, .f32⟩
  | 22 => ⟨S8192x2, .f32⟩
  | 23 => ⟨S8192x2, .i32⟩
  | 24 => ⟨S_, .f32⟩
  | 25 => ⟨S16, .f32⟩
  | 26 => ⟨S_, .f32⟩
  | 27 => ⟨S16, .f32⟩
  | 28 => ⟨S16, .f32⟩
  | 29 => ⟨S8192x1, .i32⟩
  | 30 => ⟨S8192, .i32⟩
  | 31 => ⟨S8192x1, .i32⟩
  | 32 => ⟨S1x16, .i32⟩
  | 33 => ⟨S8192x16, .i32⟩
  | 34 => ⟨S8192x16, .i32⟩
  | 35 => ⟨S8192x16, .i1⟩
  | 36 => ⟨S8192x16, .f32⟩
  | 37 => ⟨S_, .f32⟩
  | 38 => ⟨S16, .f32⟩
  | 39 => ⟨S_, .f32⟩
  | 40 => ⟨S16, .f32⟩
  | 41 => ⟨S16, .f32⟩
  | 42 => ⟨S16, .f32⟩
  | 43 => ⟨S_, .f32⟩
  | 44 => ⟨S_, .f32⟩
  | 45 => ⟨S_, .f32⟩
  | 46 => ⟨S_, .f32⟩
  | 47 => ⟨S8192x1, .f32⟩
  | 48 => ⟨S8192, .f32⟩
  | 49 => ⟨S8192, .f32⟩
  | 50 => ⟨S8192, .i32⟩
  | 51 => ⟨S8192, .f32⟩
  | 52 => ⟨S8192, .i32⟩
  | 53 => ⟨S_, .i32⟩
  | 54 => ⟨S8192, .i32⟩
  | 55 => ⟨S8192, .i32⟩
  | 56 => ⟨S_, .i32⟩
  | 57 => ⟨S8192, .i32⟩
  | 58 => ⟨S8192, .i1⟩
  | 59 => ⟨S_, .i32⟩
  | 60 => ⟨S8192, .i32⟩
  | 61 => ⟨S8192, .i32⟩
  | 62 => ⟨S8192, .i32⟩
  | 63 => ⟨S8192x1, .i32⟩
  | 64 => ⟨S8192, .i32⟩
  | 65 => ⟨S_, .f32⟩
  | 66 => ⟨S8192x1024, .f32⟩
  | 67 => ⟨S_, .f32⟩
  | 68 => ⟨S16x1280x1024, .f32⟩
  | 69 => ⟨S_, .i32⟩
  | 70 => ⟨S16, .i32⟩
  | 71 => ⟨S8192x1, .i32⟩
  | 72 => ⟨S8192, .i32⟩
  | 73 => ⟨S8192x1, .i32⟩
  | 74 => ⟨S1x16, .i32⟩
  | 75 => ⟨S8192x16, .i32⟩
  | 76 => ⟨S8192x16, .i32⟩
  | 77 => ⟨S8192x16, .i1⟩
  | 78 => ⟨S8192x16, .i32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S8192x1, .i32⟩
  | 87 => ⟨S8192x16, .i32⟩
  | 88 => ⟨S_, .i32⟩
  | 89 => ⟨S_, .i32⟩
  | 90 => ⟨S8192x16, .i32⟩
  | 91 => ⟨S8192x16, .i32⟩
  | 92 => ⟨S8192x16, .i32⟩
  | 93 => ⟨S_, .i32⟩
  | 94 => ⟨S8192, .i32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S8192, .i32⟩
  | 104 => ⟨S_, .i32⟩
  | 105 => ⟨S8192, .i32⟩
  | 106 => ⟨S8192, .i1⟩
  | 107 => ⟨S_, .i32⟩
  | 108 => ⟨S8192, .i32⟩
  | 109 => ⟨S8192, .i32⟩
  | 110 => ⟨S8192, .i32⟩
  | 111 => ⟨S8192x1, .i32⟩
  | 112 => ⟨S8192, .i32⟩
  | 113 => ⟨S8192, .i32⟩
  | 114 => ⟨S_, .i32⟩
  | 115 => ⟨S16, .i32⟩
  | 116 => ⟨S16, .i32⟩
  | 117 => ⟨S_, .i32⟩
  | 118 => ⟨S8192, .i32⟩
  | 119 => ⟨S8192, .i1⟩
  | 120 => ⟨S8192, .f32⟩
  | 121 => ⟨S_, .i32⟩
  | 122 => ⟨S8192, .i32⟩
  | 123 => ⟨S8192, .i32⟩
  | 124 => ⟨S8192x1, .f32⟩
  | 125 => ⟨S8192x1024, .f32⟩
  | 126 => ⟨S8192x1024, .f32⟩
  | 127 => ⟨S_, .i32⟩
  | _ => ⟨S4x2048x1024, .f32⟩

abbrev hbmTy0_1 (i : Nat) : BufTy := match i % 128 with
  | 0 => ⟨S8192, .i32⟩
  | 1 => ⟨S8192, .i1⟩
  | 2 => ⟨S_, .i32⟩
  | 3 => ⟨S8192, .i32⟩
  | 4 => ⟨S8192, .i32⟩
  | 5 => ⟨S8192, .i32⟩
  | 6 => ⟨S_, .i32⟩
  | 7 => ⟨S8192, .i32⟩
  | 8 => ⟨S8192, .i1⟩
  | 9 => ⟨S_, .i32⟩
  | 10 => ⟨S8192, .i32⟩
  | 11 => ⟨S8192, .i32⟩
  | 12 => ⟨S8192, .i32⟩
  | 13 => ⟨S8192x1, .i32⟩
  | 14 => ⟨S8192x1, .i32⟩
  | 15 => ⟨S8192x2, .i32⟩
  | 16 => ⟨S16x1280x1024, .f32⟩
  | 17 => ⟨S8192x1, .f32⟩
  | 18 => ⟨S8192, .f32⟩
  | 19 => ⟨S8192x1, .i32⟩
  | 20 => ⟨S8192, .i32⟩
  | 21 => ⟨S8192x1, .i32⟩
  | 22 => ⟨S1x16, .i32⟩
  | 23 => ⟨S8192x16, .i32⟩
  | 24 => ⟨S8192x16, .i32⟩
  | 25 => ⟨S8192x16, .i1⟩
  | 26 => ⟨S8192x16, .i32⟩
  | 27 => ⟨S_, .i32⟩
  | 28 => ⟨S8192, .i32⟩
  | 29 => ⟨S8192, .i1⟩
  | 30 => ⟨S_, .i32⟩
  | 31 => ⟨S8192, .i32⟩
  | 32 => ⟨S8192, .i32⟩
  | 33 => ⟨S8192, .i32⟩
  | 34 => ⟨S8192x1, .i32⟩
  | 35 => ⟨S8192x16, .i32⟩
  | 36 => ⟨S_, .i32⟩
  | 37 => ⟨S_, .i32⟩
  | 38 => ⟨S8192x16, .i32⟩
  | 39 => ⟨S8192x16, .i32⟩
  | 40 => ⟨S8192x16, .i32⟩
  | 41 => ⟨S_, .i32⟩
  | 42 => ⟨S8192, .i32⟩
  | 43 => ⟨S_, .i32⟩
  | 44 => ⟨S8192, .i32⟩
  | 45 => ⟨S8192, .i1⟩
  | 46 => ⟨S_, .i32⟩
  | 47 => ⟨S8192, .i32⟩
  | 48 => ⟨S8192, .i32⟩
  | 49 => ⟨S8192, .i32⟩
  | 50 => ⟨S8192x1, .i32⟩
  | 51 => ⟨S8192, .i32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S8192x1, .i32⟩
  | 60 => ⟨S8192, .i32⟩
  | 61 => ⟨S8192, .i32⟩
  | 62 => ⟨S_, .i32⟩
  | 63 => ⟨S16, .i32⟩
  | 64 => ⟨S16, .i32⟩
  | 65 => ⟨S_, .i32⟩
  | 66 => ⟨S8192, .i32⟩
  | 67 => ⟨S8192, .i1⟩
  | 68 => ⟨S8192, .f32⟩
  | 69 => ⟨S_, .i32⟩
  | 70 => ⟨S8192, .i32⟩
  | 71 => ⟨S8192, .i32⟩
  | 72 => ⟨S8192x1, .f32⟩
  | 73 => ⟨S8192x1024, .f32⟩
  | 74 => ⟨S8192x1024, .f32⟩
  | 75 => ⟨S_, .i32⟩
  | 76 => ⟨S8192, .i32⟩
  | 77 => ⟨S8192, .i1⟩
  | 78 => ⟨S_, .i32⟩
  | 79 => ⟨S8192, .i32⟩
  | 80 => ⟨S8192, .i32⟩
  | 81 => ⟨S8192, .i32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S8192x1, .i32⟩
  | 91 => ⟨S8192x2, .i32⟩
  | 92 => ⟨S16x1280x1024, .f32⟩
  | 93 => ⟨S8192x1, .f32⟩
  | 94 => ⟨S8192, .f32⟩
  | 95 => ⟨S16x1280x4096, .f32⟩
  | 96 => ⟨S16x1x4096, .f32⟩
  | 97 => ⟨S16x1280x4096, .f32⟩
  | 98 => ⟨S16x1280x4096, .f32⟩
  | 99 => ⟨S_, .f32⟩
  | 100 => ⟨S16x1280x4096, .f32⟩
  | 101 => ⟨S16x1280x4096, .f32⟩
  | 102 => ⟨S16x1280x4096, .f32⟩
  | 103 => ⟨S_, .f32⟩
  | 104 => ⟨S16x1280x4096, .f32⟩
  | 105 => ⟨S16x1280x4096, .f32⟩
  | 106 => ⟨S16x1280x4096, .f32⟩
  | 107 => ⟨S16x1280x4096, .f32⟩
  | 108 => ⟨S16x1280x1024, .f32⟩
  | 109 => ⟨S16x1x1024, .f32⟩
  | 110 => ⟨S16x1280x1024, .f32⟩
  | 111 => ⟨S16x1280x1024, .f32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S_, .i32⟩
  | 120 => ⟨S8192, .i32⟩
  | 121 => ⟨S8192, .i1⟩
  | 122 => ⟨S_, .i32⟩
  | 123 => ⟨S8192, .i32⟩
  | 124 => ⟨S8192, .i32⟩
  | 125 => ⟨S8192, .i32⟩
  | 126 => ⟨S8192x1, .i32⟩
  | 127 => ⟨S8192x1, .i32⟩
  | _ => ⟨S4x2048x1024, .f32⟩

abbrev hbmTy0_2 (i : Nat) : BufTy := match i % 128 with
  | 0 => ⟨S8192x2, .i32⟩
  | 1 => ⟨S8192x1024, .f32⟩
  | 2 => ⟨S8192, .f32⟩
  | 3 => ⟨S8192x1, .f32⟩
  | 4 => ⟨S8192x1024, .f32⟩
  | 5 => ⟨S8192x1024, .f32⟩
  | 6 => ⟨S8192x1024, .f32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192x1, .i32⟩
  | 23 => ⟨S8192x2, .i32⟩
  | 24 => ⟨S8192x1024, .f32⟩
  | 25 => ⟨S8192, .f32⟩
  | 26 => ⟨S8192x1, .f32⟩
  | 27 => ⟨S8192x1024, .f32⟩
  | 28 => ⟨S8192x1024, .f32⟩
  | 29 => ⟨S8192x1024, .f32⟩
  | 30 => ⟨S4x2048x1024, .f32⟩
  | 31 => ⟨S_, .f32⟩
  | 32 => ⟨S_, .f32⟩
  | _ => ⟨S4x2048x1024, .f32⟩

abbrev hbmTy (i : Nat) : BufTy := match i / 128 with
  | 0 => hbmTy0_0 i
  | 1 => hbmTy0_1 i
  | 2 => hbmTy0_2 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_values : Ref sig .tc := ⟨.hbm, 22, rfl⟩
abbrev main_indices : Ref sig .tc := ⟨.hbm, 23, rfl⟩
abbrev main_cst_2 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_cst_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call1_v0 : Ref sig .tc := ⟨.hbm, 50, rfl⟩
abbrev main_call1_v1_0 : Ref sig .tc := ⟨.hbm, 51, rfl⟩
abbrev main_v28 : Ref sig .tc := ⟨.hbm, 52, rfl⟩
abbrev main_c : Ref sig .tc := ⟨.hbm, 53, rfl⟩
abbrev main_v29 : Ref sig .tc := ⟨.hbm, 54, rfl⟩
abbrev main_v30 : Ref sig .tc := ⟨.hbm, 55, rfl⟩
abbrev main_c_8 : Ref sig .tc := ⟨.hbm, 56, rfl⟩
abbrev main_v31 : Ref sig .tc := ⟨.hbm, 57, rfl⟩
abbrev main_v32 : Ref sig .tc := ⟨.hbm, 58, rfl⟩
abbrev main_c_9 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_10 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_c_12 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_v43 : Ref sig .tc := ⟨.hbm, 78, rfl⟩
abbrev main_c_13 : Ref sig .tc := ⟨.hbm, 79, rfl⟩
abbrev main_v44 : Ref sig .tc := ⟨.hbm, 80, rfl⟩
abbrev main_v45 : Ref sig .tc := ⟨.hbm, 81, rfl⟩
abbrev main_c_14 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_call3_call0_c : Ref sig .tc := ⟨.hbm, 88, rfl⟩
abbrev main_call3_call0_v0 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_c_15 : Ref sig .tc := ⟨.hbm, 93, rfl⟩
abbrev main_v54 : Ref sig .tc := ⟨.hbm, 94, rfl⟩
abbrev main_c_16 : Ref sig .tc := ⟨.hbm, 95, rfl⟩
abbrev main_v55 : Ref sig .tc := ⟨.hbm, 96, rfl⟩
abbrev main_v56 : Ref sig .tc := ⟨.hbm, 97, rfl⟩
abbrev main_c_17 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_c_18 : Ref sig .tc := ⟨.hbm, 104, rfl⟩
abbrev main_v62 : Ref sig .tc := ⟨.hbm, 105, rfl⟩
abbrev main_v63 : Ref sig .tc := ⟨.hbm, 106, rfl⟩
abbrev main_c_19 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_c_20 : Ref sig .tc := ⟨.hbm, 114, rfl⟩
abbrev main_v70 : Ref sig .tc := ⟨.hbm, 115, rfl⟩
abbrev main_v71 : Ref sig .tc := ⟨.hbm, 116, rfl⟩
abbrev main_c_21 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_c_22 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_c_23 : Ref sig .tc := ⟨.hbm, 127, rfl⟩
abbrev main_v80 : Ref sig .tc := ⟨.hbm, 128, rfl⟩
abbrev main_v81 : Ref sig .tc := ⟨.hbm, 129, rfl⟩
abbrev main_c_24 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_c_25 : Ref sig .tc := ⟨.hbm, 134, rfl⟩
abbrev main_v85 : Ref sig .tc := ⟨.hbm, 135, rfl⟩
abbrev main_v86 : Ref sig .tc := ⟨.hbm, 136, rfl⟩
abbrev main_c_26 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_v98 : Ref sig .tc := ⟨.hbm, 154, rfl⟩
abbrev main_c_27 : Ref sig .tc := ⟨.hbm, 155, rfl⟩
abbrev main_v99 : Ref sig .tc := ⟨.hbm, 156, rfl⟩
abbrev main_v100 : Ref sig .tc := ⟨.hbm, 157, rfl⟩
abbrev main_c_28 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_call5_call0_c : Ref sig .tc := ⟨.hbm, 164, rfl⟩
abbrev main_call5_call0_v0 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_c_29 : Ref sig .tc := ⟨.hbm, 169, rfl⟩
abbrev main_v109 : Ref sig .tc := ⟨.hbm, 170, rfl⟩
abbrev main_c_30 : Ref sig .tc := ⟨.hbm, 171, rfl⟩
abbrev main_v110 : Ref sig .tc := ⟨.hbm, 172, rfl⟩
abbrev main_v111 : Ref sig .tc := ⟨.hbm, 173, rfl⟩
abbrev main_c_31 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_c_32 : Ref sig .tc := ⟨.hbm, 180, rfl⟩
abbrev main_v117 : Ref sig .tc := ⟨.hbm, 181, rfl⟩
abbrev main_v118 : Ref sig .tc := ⟨.hbm, 182, rfl⟩
abbrev main_c_33 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_c_34 : Ref sig .tc := ⟨.hbm, 190, rfl⟩
abbrev main_v125 : Ref sig .tc := ⟨.hbm, 191, rfl⟩
abbrev main_v126 : Ref sig .tc := ⟨.hbm, 192, rfl⟩
abbrev main_c_35 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_c_36 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_c_37 : Ref sig .tc := ⟨.hbm, 203, rfl⟩
abbrev main_v135 : Ref sig .tc := ⟨.hbm, 204, rfl⟩
abbrev main_v136 : Ref sig .tc := ⟨.hbm, 205, rfl⟩
abbrev main_c_38 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_c_39 : Ref sig .tc := ⟨.hbm, 210, rfl⟩
abbrev main_v140 : Ref sig .tc := ⟨.hbm, 211, rfl⟩
abbrev main_v141 : Ref sig .tc := ⟨.hbm, 212, rfl⟩
abbrev main_c_40 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_cst_41 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_cst_42 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_c_43 : Ref sig .tc := ⟨.hbm, 240, rfl⟩
abbrev main_v166 : Ref sig .tc := ⟨.hbm, 241, rfl⟩
abbrev main_v167 : Ref sig .tc := ⟨.hbm, 242, rfl⟩
abbrev main_c_44 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_c_45 : Ref sig .tc := ⟨.hbm, 247, rfl⟩
abbrev main_v171 : Ref sig .tc := ⟨.hbm, 248, rfl⟩
abbrev main_v172 : Ref sig .tc := ⟨.hbm, 249, rfl⟩
abbrev main_c_46 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_c_47 : Ref sig .tc := ⟨.hbm, 263, rfl⟩
abbrev main_v185 : Ref sig .tc := ⟨.hbm, 264, rfl⟩
abbrev main_v186 : Ref sig .tc := ⟨.hbm, 265, rfl⟩
abbrev main_c_48 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_c_49 : Ref sig .tc := ⟨.hbm, 270, rfl⟩
abbrev main_v190 : Ref sig .tc := ⟨.hbm, 271, rfl⟩
abbrev main_v191 : Ref sig .tc := ⟨.hbm, 272, rfl⟩
abbrev main_c_50 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_cst_51 : Ref sig .tc := ⟨.hbm, 287, rfl⟩
abbrev main_v205 : Ref sig .tc := ⟨.hbm, 288, rfl⟩

abbrev nD : Nat := 1
abbrev τ : Topo := Topo.v7x

variable {F : FTy → Type} [FloatOps F]
-- ==== Proof.KernelIdeal.Launch.lean ====
/-
  The launch: the layout facts of the three calls, the host stretches between them, and the program as the chain of both.
-/
module

public import proofs.«01_k».proof.Proof.Gen.KernelIdeal
public import Idealize.ShloMosaic.Lib.Pipeline.Kit
public import Idealize.ShloMosaic.Lib.Pipeline.Regions

@[expose] public section

-- the launch kit's decided enumerations over 131 references recurse past the default depth
set_option maxRecDepth 1036

noncomputable section

namespace Cert.KernelIdeal.Host

open Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 3 → List (DmaSem sig) :=
  fun | 0 => Pipeline.specSems spec0 | 1 => Pipeline.specSems spec1 | 2 => Pipeline.specSems spec2 | ⟨_ + 3, h⟩ => absurd h (Nat.not_lt.2 (Nat.le_add_left _ _))
/-- Within each custom_call, no two staging buffers complete on one DMA semaphore. -/
theorem semsDistinct : ∀ p : Fin 3, (semTab p).Nodup := by decide
/-- No two custom_calls' staging buffers share a DMA semaphore. -/
theorem semsDisjoint : ∀ p p' : Fin 3, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | 1 => rfl | 2 => rfl | ⟨_ + 3, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 10, 0 < (spec0 w).block.numel := by decide
/-- The windows' arrays and the staging memrefs are whole buffers. -/
theorem arr_whole0 : ∀ w : Fin 10, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | ⟨_ + 10, h⟩ => absurd h (Nat.not_lt.2 (Nat.le_add_left _ _))
theorem stage_whole0 : ∀ (w : Fin 10) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | 9 => fun s => hstage0_9 (s.cast nbuf0_9) | ⟨_ + 10, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- The grid has 16 points. -/
theorem N_0 : grid0.N = 16 := by decide
/-- Point 0. -/
def t0_0 : Fin grid0.N := ⟨0, by rw [N_0]; decide⟩
/-- Point 1. -/
def t0_1 : Fin grid0.N := ⟨1, by rw [N_0]; decide⟩
/-- Point 2. -/
def t0_2 : Fin grid0.N := ⟨2, by rw [N_0]; decide⟩
/-- Point 3. -/
def t0_3 : Fin grid0.N := ⟨3, by rw [N_0]; decide⟩
/-- Point 4. -/
def t0_4 : Fin grid0.N := ⟨4, by rw [N_0]; decide⟩
/-- Point 5. -/
def t0_5 : Fin grid0.N := ⟨5, by rw [N_0]; decide⟩
/-- Point 6. -/
def t0_6 : Fin grid0.N := ⟨6, by rw [N_0]; decide⟩
/-- Point 7. -/
def t0_7 : Fin grid0.N := ⟨7, by rw [N_0]; decide⟩
/-- Point 8. -/
def t0_8 : Fin grid0.N := ⟨8, by rw [N_0]; decide⟩
/-- Point 9. -/
def t0_9 : Fin grid0.N := ⟨9, by rw [N_0]; decide⟩
/-- Point 10. -/
def t0_10 : Fin grid0.N := ⟨10, by rw [N_0]; decide⟩
/-- Point 11. -/
def t0_11 : Fin grid0.N := ⟨11, by rw [N_0]; decide⟩
/-- Point 12. -/
def t0_12 : Fin grid0.N := ⟨12, by rw [N_0]; decide⟩
/-- Point 13. -/
def t0_13 : Fin grid0.N := ⟨13, by rw [N_0]; decide⟩
/-- Point 14. -/
def t0_14 : Fin grid0.N := ⟨14, by rw [N_0]; decide⟩
/-- Point 15. -/
def t0_15 : Fin grid0.N := ⟨15, by rw [N_0]; decide⟩
/-- Every point is one of them. -/
theorem fin_N0 (t : Fin grid0.N) : t = t0_0 ∨ t = t0_1 ∨ t = t0_2 ∨ t = t0_3 ∨ t = t0_4 ∨ t = t0_5 ∨ t = t0_6 ∨ t = t0_7 ∨ t = t0_8 ∨ t = t0_9 ∨ t = t0_10 ∨ t = t0_11 ∨ t = t0_12 ∨ t = t0_13 ∨ t = t0_14 ∨ t = t0_15 := by
  obtain ⟨t, ht⟩ := t; have := N_0; simp only [t0_0, t0_1, t0_2, t0_3, t0_4, t0_5, t0_6, t0_7, t0_8, t0_9, t0_10, t0_11, t0_12, t0_13, t0_14, t0_15, Fin.mk.injEq]; omega

/-- The windows conjoined one by one. -/
theorem bigSep_W0 {M : Type} [URA M] (Φ : Fin 10 → sProp M) : bigSep Finset.univ Φ = iprop(Φ (0 : Fin 10) ∗ Φ (1 : Fin 10) ∗ Φ (2 : Fin 10) ∗ Φ (3 : Fin 10) ∗ Φ (4 : Fin 10) ∗ Φ (5 : Fin 10) ∗ Φ (6 : Fin 10) ∗ Φ (7 : Fin 10) ∗ Φ (8 : Fin 10) ∗ Φ (9 : Fin 10)) :=
  bigSep_univ_eq_bigSepL [(0 : Fin 10), (1 : Fin 10), (2 : Fin 10), (3 : Fin 10), (4 : Fin 10), (5 : Fin 10), (6 : Fin 10), (7 : Fin 10), (8 : Fin 10), (9 : Fin 10)] (by decide) (by decide) Φ
-- the scoped rest of custom_call 0 is 31 buffers: not enumerated (routed whole, as `Pipeline.scopedRest`)
-- the unscoped rest of custom_call 0 is 71 buffers: not enumerated (routed whole, as `Pipeline.unscopedRest`)

/-! ## custom_call 1 (pipeline 1 of @main) -/

/-- The layout the launch needs: the windows' arrays unscoped, distinct buffers, the staging buffers scoped and
    distinct, the staging semaphores scoped. -/
theorem winFacts1 : Pipeline.WinFacts spec1 := by decide
/-- No window's block is empty. -/
theorem block_pos1 : ∀ w : Fin 15, 0 < (spec1 w).block.numel := by decide
/-- The windows' arrays and the staging memrefs are whole buffers. -/
theorem arr_whole1 : ∀ w : Fin 15, (spec1 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | 13 => Memref.isWhole_whole _ | 14 => Memref.isWhole_whole _ | ⟨_ + 15, h⟩ => absurd h (Nat.not_lt.2 (Nat.le_add_left _ _))
theorem stage_whole1 : ∀ (w : Fin 15) (s : Fin (spec1 w).nbuf), ((spec1 w).stage s).IsWhole := fun | 0 => fun s => hstage1_0 (s.cast nbuf1_0) | 1 => fun s => hstage1_1 (s.cast nbuf1_1) | 2 => fun s => hstage1_2 (s.cast nbuf1_2) | 3 => fun s => hstage1_3 (s.cast nbuf1_3) | 4 => fun s => hstage1_4 (s.cast nbuf1_4) | 5 => fun s => hstage1_5 (s.cast nbuf1_5) | 6 => fun s => hstage1_6 (s.cast nbuf1_6) | 7 => fun s => hstage1_7 (s.cast nbuf1_7) | 8 => fun s => hstage1_8 (s.cast nbuf1_8) | 9 => fun s => hstage1_9 (s.cast nbuf1_9) | 10 => fun s => hstage1_10 (s.cast nbuf1_10) | 11 => fun s => hstage1_11 (s.cast nbuf1_11) | 12 => fun s => hstage1_12 (s.cast nbuf1_12) | 13 => fun s => hstage1_13 (s.cast nbuf1_13) | 14 => fun s => hstage1_14 (s.cast nbuf1_14) | ⟨_ + 15, h⟩ => absurd h (Nat.not_lt.2 (Nat.le_add_left _ _))
/-- The five, bundled: what the kit-form launch theorems (Lib/Pipeline/Kit.lean `θ_run_region*_kit`) take. -/
theorem launch1 : Pipeline.LaunchFacts (nD := nD) (τ := τ) cfgs 1 := ⟨cellOf_inj, winFacts1, block_pos1, arr_whole1, stage_whole1⟩

/-- The grid has 16 points. -/
theorem N_1 : grid1.N = 16 := by decide
/-- Point 0. -/
def t1_0 : Fin grid1.N := ⟨0, by rw [N_1]; decide⟩
/-- Point 1. -/
def t1_1 : Fin grid1.N := ⟨1, by rw [N_1]; decide⟩
/-- Point 2. -/
def t1_2 : Fin grid1.N := ⟨2, by rw [N_1]; decide⟩
/-- Point 3. -/
def t1_3 : Fin grid1.N := ⟨3, by rw [N_1]; decide⟩
/-- Point 4. -/
def t1_4 : Fin grid1.N := ⟨4, by rw [N_1]; decide⟩
/-- Point 5. -/
def t1_5 : Fin grid1.N := ⟨5, by rw [N_1]; decide⟩
/-- Point 6. -/
def t1_6 : Fin grid1.N := ⟨6, by rw [N_1]; decide⟩
/-- Point 7. -/
def t1_7 : Fin grid1.N := ⟨7, by rw [N_1]; decide⟩
/-- Point 8. -/
def t1_8 : Fin grid1.N := ⟨8, by rw [N_1]; decide⟩
/-- Point 9. -/
def t1_9 : Fin grid1.N := ⟨9, by rw [N_1]; decide⟩
/-- Point 10. -/
def t1_10 : Fin grid1.N := ⟨10, by rw [N_1]; decide⟩
/-- Point 11. -/
def t1_11 : Fin grid1.N := ⟨11, by rw [N_1]; decide⟩
/-- Point 12. -/
def t1_12 : Fin grid1.N := ⟨12, by rw [N_1]; decide⟩
/-- Point 13. -/
def t1_13 : Fin grid1.N := ⟨13, by rw [N_1]; decide⟩
/-- Point 14. -/
def t1_14 : Fin grid1.N := ⟨14, by rw [N_1]; decide⟩
/-- Point 15. -/
def t1_15 : Fin grid1.N := ⟨15, by rw [N_1]; decide⟩
/-- Every point is one of them. -/
theorem fin_N1 (t : Fin grid1.N) : t = t1_0 ∨ t = t1_1 ∨ t = t1_2 ∨ t = t1_3 ∨ t = t1_4 ∨ t = t1_5 ∨ t = t1_6 ∨ t = t1_7 ∨ t = t1_8 ∨ t = t1_9 ∨ t = t1_10 ∨ t = t1_11 ∨ t = t1_12 ∨ t = t1_13 ∨ t = t1_14 ∨ t = t1_15 := by
  obtain ⟨t, ht⟩ := t; have := N_1; simp only [t1_0, t1_1, t1_2, t1_3, t1_4, t1_5, t1_6, t1_7, t1_8, t1_9, t1_10, t1_11, t1_12, t1_13, t1_14, t1_15, Fin.mk.injEq]; omega

/-- The windows conjoined one by one. -/
theorem bigSep_W1 {M : Type} [URA M] (Φ : Fin 15 → sProp M) : bigSep Finset.univ Φ = iprop(Φ (0 : Fin 15) ∗ Φ (1 : Fin 15) ∗ Φ (2 : Fin 15) ∗ Φ (3 : Fin 15) ∗ Φ (4 : Fin 15) ∗ Φ (5 : Fin 15) ∗ Φ (6 : Fin 15) ∗ Φ (7 : Fin 15) ∗ Φ (8 : Fin 15) ∗ Φ (9 : Fin 15) ∗ Φ (10 : Fin 15) ∗ Φ (11 : Fin 15) ∗ Φ (12 : Fin 15) ∗ Φ (13 : Fin 15) ∗ Φ (14 : Fin 15)) :=
  bigSep_univ_eq_bigSepL [(0 : Fin 15), (1 : Fin 15), (2 : Fin 15), (3 : Fin 15), (4 : Fin 15), (5 : Fin 15), (6 : Fin 15), (7 : Fin 15), (8 : Fin 15), (9 : Fin 15), (10 : Fin 15), (11 : Fin 15), (12 : Fin 15), (13 : Fin 15), (14 : Fin 15)] (by decide) (by decide) Φ
-- the scoped rest of custom_call 1 is 29 buffers: not enumerated (routed whole, as `Pipeline.scopedRest`)
-- the unscoped rest of custom_call 1 is 66 buffers: not enumerated (routed whole, as `Pipeline.unscopedRest`)

/-! ## custom_call 2 (pipeline 2 of @main) -/

/-- The layout the launch needs: the windows' arrays unscoped, distinct buffers, the staging buffers scoped and
    distinct, the staging semaphores scoped. -/
theorem winFacts2 : Pipeline.WinFacts spec2 := by decide
/-- No window's block is empty. -/
theorem block_pos2 : ∀ w : Fin 6, 0 < (spec2 w).block.numel := by decide
/-- The windows' arrays and the staging memrefs are whole buffers. -/
theorem arr_whole2 : ∀ w : Fin 6, (spec2 w).arr.IsWhole := fun | 0 => Memref.isWhole_whole _ | 1 => Memref.isWhole_whole _ | 2 => Memref.isWhole_whole _ | 3 => Memref.isWhole_whole _ | 4 => Memref.isWhole_whole _ | 5 => Memref.isWhole_whole _ | ⟨_ + 6, h⟩ => absurd h (Nat.not_lt.2 (Nat.le_add_left _ _))
theorem stage_whole2 : ∀ (w : Fin 6) (s : Fin (spec2 w).nbuf), ((spec2 w).stage s).IsWhole := fun | 0 => fun s => hstage2_0 (s.cast nbuf2_0) | 1 => fun s => hstage2_1 (s.cast nbuf2_1) | 2 => fun s => hstage2_2 (s.cast nbuf2_2) | 3 => fun s => hstage2_3 (s.cast nbuf2_3) | 4 => fun s => hstage2_4 (s.cast nbuf2_4) | 5 => fun s => hstage2_5 (s.cast nbuf2_5) | ⟨_ + 6, h⟩ => absurd h (Nat.not_lt.2 (Nat.le_add_left _ _))
/-- The five, bundled: what the kit-form launch theorems (Lib/Pipeline/Kit.lean `θ_run_region*_kit`) take. -/
theorem launch2 : Pipeline.LaunchFacts (nD := nD) (τ := τ) cfgs 2 := ⟨cellOf_inj, winFacts2, block_pos2, arr_whole2, stage_whole2⟩

/-- The grid has 64 points. -/
theorem N_2 : grid2.N = 64 := by decide

/-- The windows conjoined one by one. -/
theorem bigSep_W2 {M : Type} [URA M] (Φ : Fin 6 → sProp M) : bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ
-- the scoped rest of custom_call 2 is 40 buffers: not enumerated (routed whole, as `Pipeline.scopedRest`)
-- the unscoped rest of custom_call 2 is 75 buffers: not enumerated (routed whole, as `Pipeline.unscopedRest`)

/-! ## @main as segments and as a chain of items (Lib/Pipeline/Regions.lean `θ_run_regions_kit`, `Pipeline.chain`) -/

/-- 1 host operation of @main, in order. -/
abbrev hostOps0 : List (HloOp τ sig (Elt F)) :=
  [ StableHlo.reshape main_arg0 main_v0 (rfl : (.f32 : EltTy) = .f32) shapeCasts_S4x2048x1024_S8192x1024 ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  StableHlo.reshape_bufs_sub ..
/-- 4 host operations of @main, in order. -/
abbrev hostOps1 : List (HloOp τ sig (Elt F)) :=
  [ StableHlo.reshape main_v1_0 main_v2 (rfl : (.f32 : EltTy) = .f32) shapeCasts_S16x1x512_S1x8192,
    StableHlo.reshape main_v1_1 main_v3 (rfl : (.f32 : EltTy) = .f32) shapeCasts_S16x1x512_S1x8192,
    StableHlo.reshape main_v1_2 main_v4 (rfl : (.i32 : EltTy) = .i32) shapeCasts_S16x1x512_S1x8192,
    StableHlo.reshape main_v1_3 main_v5 (rfl : (.i32 : EltTy) = .i32) shapeCasts_S16x1x512_S1x8192 ]
/-- Each touches TensorCore references only (`HostSeg.ofOps` over `StableHlo.tcRefs`, or a subset by `sub_ucRefs`). -/
theorem hostOps1_sub : (hostOps1 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub ..⟩
/-- 26 host operations of @main, in order. -/
abbrev hostOps2 : List (HloOp τ sig (Elt F)) :=
  [ StableHlo.reshape main_v6_0 main_v7 (rfl : (.i32 : EltTy) = .i32) shapeCasts_S16x1x512_S8192,
    StableHlo.reshape main_v6_1 main_v8 (rfl : (.i32 : EltTy) = .i32) shapeCasts_S16x1x512_S8192,
    StableHlo.reshape main_v6_2 main_v9 (rfl : (.i32 : EltTy) = .i32) shapeCasts_S16x1x512_S8192,
    StableHlo.reshape main_v6_3 main_v10 (rfl : (.i32 : EltTy) = .i32) shapeCasts_S16x1x512_S8192,
    StableHlo.reshape main_v6_4 main_v11 (rfl : (.f32 : EltTy) = .f32) shapeCasts_S16x1x512_S8192,
    StableHlo.reshape main_v6_5 main_v12 (rfl : (.f32 : EltTy) = .f32) shapeCasts_S16x1x512_S8192,
    StableHlo.nullary main_cst (constant S_ .f32 0x00000000#32),
    StableHlo.unary main_cst main_v13 (broadcastInDim S21760x1024 ![] bcast_S_S21760x1024 : (⟨S_, .f32⟩ : BufTy).Contents (Elt F) → (⟨S21760x1024, .f32⟩ : BufTy).Contents (Elt F)),
    StableHlo.nullary main_c (constantI S_ 32 0#32),
    StableHlo.unary main_c main_v14 (broadcastInDim S8192 ![] bcast_S_S8192 : (⟨S_, .i32⟩ : BufTy).Contents (Elt F) → (⟨S8192, .i32⟩ : BufTy).Contents (Elt F)),
    StableHlo.binary main_v7 main_v14 main_v15 (cmpi .slt : (⟨S8192, .i32⟩ : BufTy).Contents (Elt F) → (⟨S8192, .i32⟩ : BufTy).Contents (Elt F) → (⟨S8192, .i1⟩ : BufTy).Contents (Elt F)),
    StableHlo.nullary main_c_0 (constantI S_ 32 21760#32),
    StableHlo.unary main_c_0 main_v16 (broadcastInDim S8192 ![] bcast_S_S8192 : (⟨S_, .i32⟩ : BufTy).Contents (Elt F) → (⟨S8192, .i32⟩ : BufTy).Contents (Elt F)),
    StableHlo.binary main_v7 main_v16 main_v17 (addi : (⟨S8192, .i32⟩ : BufTy).Contents (Elt F) → (⟨S8192, .i32⟩ : BufTy).Contents (Elt F) → (⟨S8192, .i32⟩ : BufTy).Contents (Elt F)),
    StableHlo.ternary main_v15 main_v17 main_v7 main_v18 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v18 main_v19 (broadcastInDim S8192x1 ![0] bcast_S8192_S8192x1_0 : (⟨S8192, .i32⟩ : BufTy).Contents (Elt F) → (⟨S8192x1, .i32⟩ : BufTy).Contents (Elt F)),
    StableHlo.ternary main_v13 main_v19 main_v0 main_v20 ((fun x i u => Host.scatter scatter_S21760x1024_S8192x1_S8192x1024_1_0_0_1 (fun _ b => b) x i u) : (⟨S21760x1024, .f32⟩ : BufTy).Contents (Elt F) → (⟨S8192x1, .i32⟩ : BufTy).Contents (Elt F) → (⟨S8192x1024, .f32⟩ : BufTy).Contents (Elt F) → (⟨S21760x1024, .f32⟩ : BufTy).Contents (Elt F)),
    StableHlo.nullary main_c_1 (constantI S_ 32 0#32),
    StableHlo.unary main_c_1 main_v21 (broadcastInDim S8192 ![] bcast_S_S8192 : (⟨S_, .i32⟩ : BufTy).Contents (Elt F) → (⟨S8192, .i32⟩ : BufTy).Contents (Elt F)),
    StableHlo.binary main_v8 main_v21 main_v22 (cmpi .slt : (⟨S8192, .i32⟩ : BufTy).Contents (Elt F) → (⟨S8192, .i32⟩ : BufTy).Contents (Elt F) → (⟨S8192, .i1⟩ : BufTy).Contents (Elt F)),
    StableHlo.nullary main_c_2 (constantI S_ 32 21760#32),
    StableHlo.unary main_c_2 main_v23 (broadcastInDim S8192 ![] bcast_S_S8192 : (⟨S_, .i32⟩ : BufTy).Contents (Elt F) → (⟨S8192, .i32⟩ : BufTy).Contents (Elt F)),
    StableHlo.binary main_v8 main_v23 main_v24 (addi : (⟨S8192, .i32⟩ : BufTy).Contents (Elt F) → (⟨S8192, .i32⟩ : BufTy).Contents (Elt F) → (⟨S8192, .i32⟩ : BufTy).Contents (Elt F)),
    StableHlo.ternary main_v22 main_v24 main_v8 main_v25 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v25 main_v26 (broadcastInDim S8192x1 ![0] bcast_S8192_S8192x1_0 : (⟨S8192, .i32⟩ : BufTy).Contents (Elt F) → (⟨S8192x1, .i32⟩ : BufTy).Contents (Elt F)),
    StableHlo.ternary main_v20 main_v26 main_v0 main_v27 ((fun x i u => Host.scatter scatter_S21760x1024_S8192x1_S8192x1024_1_0_0_1 (fun _ b => b) x i u) : (⟨S21760x1024, .f32⟩ : BufTy).Contents (Elt F) → (⟨S8192x1, .i32⟩ : BufTy).Contents (Elt F) → (⟨S8192x1024, .f32⟩ : BufTy).Contents (Elt F) → (⟨S21760x1024, .f32⟩ : BufTy).Contents (Elt F)) ]
/-- Each touches TensorCore references only (`HostSeg.ofOps` over `StableHlo.tcRefs`, or a subset by `sub_ucRefs`). -/
theorem hostOps2_sub : (hostOps2 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub .., StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub ..⟩
/-- 28 host operations of @main, in order. -/
abbrev hostOps3 : List (HloOp τ sig (Elt F)) :=
  [ StableHlo.nullary main_c_3 (constantI S_ 32 0#32),
    StableHlo.unary main_c_3 main_v29 (broadcastInDim S8192 ![] bcast_S_S8192 : (⟨S_, .i32⟩ : BufTy).Contents (Elt F) → (⟨S8192, .i32⟩ : BufTy).Contents (Elt F)),
    StableHlo.binary main_v9 main_v29 main_v30 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 21760#32),
    StableHlo.unary main_c_4 main_v31 (broadcastInDim S8192 ![] bcast_S_S8192 : (⟨S_, .i32⟩ : BufTy).Contents (Elt F) → (⟨S8192, .i32⟩ : BufTy).Contents (Elt F)),
    StableHlo.binary main_v9 main_v31 main_v32 (addi : (⟨S8192, .i32⟩ : BufTy).Contents (Elt F) → (⟨S8192, .i32⟩ : BufTy).Contents (Elt F) → (⟨S8192, .i32⟩ : BufTy).Contents (Elt F)),
    StableHlo.ternary main_v30 main_v32 main_v9 main_v33 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v33 main_v34 (broadcastInDim S8192x1 ![0] bcast_S8192_S8192x1_0 : (⟨S8192, .i32⟩ : BufTy).Contents (Elt F) → (⟨S8192x1, .i32⟩ : BufTy).Contents (Elt F)),
    StableHlo.binary main_v28 main_v34 main_v35 ((fun x i => Host.gather gather_S21760x1024_S8192x1_S8192x1024_1_0_n_n_0_1_11024 x i) : (⟨S21760x1024, .f32⟩ : BufTy).Contents (Elt F) → (⟨S8192x1, .i32⟩ : BufTy).Contents (Elt F) → (⟨S8192x1024, .f32⟩ : BufTy).Contents (Elt F)),
    StableHlo.unary main_v11 main_v36 (broadcastInDim S8192x1 ![0] bcast_S8192_S8192x1_0 : (⟨S8192, .f32⟩ : BufTy).Contents (Elt F) → (⟨S8192x1, .f32⟩ : BufTy).Contents (Elt F)),
    StableHlo.unary main_v36 main_v37 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v35 main_v37 main_v38 (mulf : (⟨S8192x1024, .f32⟩ : BufTy).Contents (Elt F) → (⟨S8192x1024, .f32⟩ : BufTy).Contents (Elt F) → (⟨S8192x1024, .f32⟩ : BufTy).Contents (Elt F)),
    StableHlo.nullary main_c_5 (constantI S_ 32 0#32),
    StableHlo.unary main_c_5 main_v39 (broadcastInDim S8192 ![] bcast_S_S8192 : (⟨S_, .i32⟩ : BufTy).Contents (Elt F) → (⟨S8192, .i32⟩ : BufTy).Contents (Elt F)),
    StableHlo.binary main_v10 main_v39 main_v40 (cmpi .slt : (⟨S8192, .i32⟩ : BufTy).Contents (Elt F) → (⟨S8192, .i32⟩ : BufTy).Contents (Elt F) → (⟨S8192, .i1⟩ : BufTy).Contents (Elt F)),
    StableHlo.nullary main_c_6 (constantI S_ 32 21760#32),
    StableHlo.unary main_c_6 main_v41 (broadcastInDim S8192 ![] bcast_S_S8192 : (⟨S_, .i32⟩ : BufTy).Contents (Elt F) → (⟨S8192, .i32⟩ : BufTy).Contents (Elt F)),
    StableHlo.binary main_v10 main_v41 main_v42 (addi : (⟨S8192, .i32⟩ : BufTy).Contents (Elt F) → (⟨S8192, .i32⟩ : BufTy).Contents (Elt F) → (⟨S8192, .i32⟩ : BufTy).Contents (Elt F)),
    StableHlo.ternary main_v40 main_v42 main_v10 main_v43 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v43 main_v44 (broadcastInDim S8192x1 ![0] bcast_S8192_S8192x1_0 : (⟨S8192, .i32⟩ : BufTy).Contents (Elt F) → (⟨S8192x1, .i32⟩ : BufTy).Contents (Elt F)),
    StableHlo.binary main_v28 main_v44 main_v45 ((fun x i => Host.gather gather_S21760x1024_S8192x1_S8192x1024_1_0_n_n_0_1_11024 x i) : (⟨S21760x1024, .f32⟩ : BufTy).Contents (Elt F) → (⟨S8192x1, .i32⟩ : BufTy).Contents (Elt F) → (⟨S8192x1024, .f32⟩ : BufTy).Contents (Elt F)),
    StableHlo.unary main_v12 main_v46 (broadcastInDim S8192x1 ![0] bcast_S8192_S8192x1_0 : (⟨S8192, .f32⟩ : BufTy).Contents (Elt F) → (⟨S8192x1, .f32⟩ : BufTy).Contents (Elt F)),
    StableHlo.unary main_v46 main_v47 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v45 main_v47 main_v48 (mulf : (⟨S8192x1024, .f32⟩ : BufTy).Contents (Elt F) → (⟨S8192x1024, .f32⟩ : BufTy).Contents (Elt F) → (⟨S8192x1024, .f32⟩ : BufTy).Contents (Elt F)),
    StableHlo.binary main_v38 main_v48 main_v49 (addf : (⟨S8192x1024, .f32⟩ : BufTy).Contents (Elt F) → (⟨S8192x1024, .f32⟩ : BufTy).Contents (Elt F) → (⟨S8192x1024, .f32⟩ : BufTy).Contents (Elt F)),
    StableHlo.reshape main_v49 main_v50 (rfl : (.f32 : EltTy) = .f32) shapeCasts_S8192x1024_S4x2048x1024,
    StableHlo.unary main_v6_6 main_v51 ((extractStridedSlice S1x1 ![0, 0] · slices_S8x128_S1x1_0_0) : (⟨S8x128, .f32⟩ : BufTy).Contents (Elt F) → (⟨S1x1, .f32⟩ : BufTy).Contents (Elt F)),
    StableHlo.reshape main_v51 main_v52 (rfl : (.f32 : EltTy) = .f32) shapeCasts_S1x1_S_ ]
/-- Each touches TensorCore references only (`HostSeg.ofOps` over `StableHlo.tcRefs`, or a subset by `sub_ucRefs`). -/
theorem hostOps3_sub : (hostOps3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.binary_bufs_sub .., StableHlo.reshape_bufs_sub .., StableHlo.unary_bufs_sub .., StableHlo.reshape_bufs_sub ..⟩
/-- 1 host operation of @main, window 0 (statements 1 … 60), in order. -/
abbrev main_part0_ops0 : List (HloOp τ sig (Elt F)) :=
  [ StableHlo.reshape main_arg0 main_v0 (rfl : (.f32 : EltTy) = .f32) shapeCasts_S4x2048x1024_S8192x1024 ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  StableHlo.reshape_bufs_sub ..
/-- 4 host operations of @main, window 0 (statements 1 … 60), in order. -/
abbrev main_part0_ops1 : List (HloOp τ sig (Elt F)) :=
  [ StableHlo.reshape main_v1_0 main_v2 (rfl : (.f32 : EltTy) = .f32) shapeCasts_S16x1x512_S1x8192,
    StableHlo.reshape main_v1_1 main_v3 (rfl : (.f32 : EltTy) = .f32) shapeCasts_S16x1x512_S1x8192,
    StableHlo.reshape main_v1_2 main_v4 (rfl : (.i32 : EltTy) = .i32) shapeCasts_S16x1x512_S1x8192,
    StableHlo.reshape main_v1_3 main_v5 (rfl : (.i32 : EltTy) = .i32) shapeCasts_S16x1x512_S1x8192 ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub ..⟩
/-- 26 host operations of @main, window 0 (statements 1 … 60), in order. -/
abbrev main_part0_ops2 : List (HloOp τ sig (Elt F)) :=
  [ StableHlo.reshape main_v6_0 main_v7 (rfl : (.i32 : EltTy) = .i32) shapeCasts_S16x1x512_S8192,
    StableHlo.reshape main_v6_1 main_v8 (rfl : (.i32 : EltTy) = .i32) shapeCasts_S16x1x512_S8192,
    StableHlo.reshape main_v6_2 main_v9 (rfl : (.i32 : EltTy) = .i32) shapeCasts_S16x1x512_S8192,
    StableHlo.reshape main_v6_3 main_v10 (rfl : (.i32 : EltTy) = .i32) shapeCasts_S16x1x512_S8192,
    StableHlo.reshape main_v6_4 main_v11 (rfl : (.f32 : EltTy) = .f32) shapeCasts_S16x1x512_S8192,
    StableHlo.reshape main_v6_5 main_v12 (rfl : (.f32 : EltTy) = .f32) shapeCasts_S16x1x512_S8192,
    StableHlo.nullary main_cst (constant S_ .f32 0x00000000#32),
    StableHlo.unary main_cst main_v13 (broadcastInDim S21760x1024 ![] bcast_S_S21760x1024 : (⟨S_, .f32⟩ : BufTy).Contents (Elt F) → (⟨S21760x1024, .f32⟩ : BufTy).Contents (Elt F)),
    StableHlo.nullary main_c (constantI S_ 32 0#32),
    StableHlo.unary main_c main_v14 (broadcastInDim S8192 ![] bcast_S_S8192 : (⟨S_, .i32⟩ : BufTy).Contents (Elt F) → (⟨S8192, .i32⟩ : BufTy).Contents (Elt F)),
    StableHlo.binary main_v7 main_v14 main_v15 (cmpi .slt : (⟨S8192, .i32⟩ : BufTy).Contents (Elt F) → (⟨S8192, .i32⟩ : BufTy).Contents (Elt F) → (⟨S8192, .i1⟩ : BufTy).Contents (Elt F)),
    StableHlo.nullary main_c_0 (constantI S_ 32 21760#32),
    StableHlo.unary main_c_0 main_v16 (broadcastInDim S8192 ![] bcast_S_S8192 : (⟨S_, .i32⟩ : BufTy).Contents (Elt F) → (⟨S8192, .i32⟩ : BufTy).Contents (Elt F)),
    StableHlo.binary main_v7 main_v16 main_v17 (addi : (⟨S8192, .i32⟩ : BufTy).Contents (Elt F) → (⟨S8192, .i32⟩ : BufTy).Contents (Elt F) → (⟨S8192, .i32⟩ : BufTy).Contents (Elt F)),
    StableHlo.ternary main_v15 main_v17 main_v7 main_v18 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v18 main_v19 (broadcastInDim S8192x1 ![0] bcast_S8192_S8192x1_0 : (⟨S8192, .i32⟩ : BufTy).Contents (Elt F) → (⟨S8192x1, .i32⟩ : BufTy).Contents (Elt F)),
    StableHlo.ternary main_v13 main_v19 main_v0 main_v20 ((fun x i u => Host.scatter scatter_S21760x1024_S8192x1_S8192x1024_1_0_0_1 (fun _ b => b) x i u) : (⟨S21760x1024, .f32⟩ : BufTy).Contents (Elt F) → (⟨S8192x1, .i32⟩ : BufTy).Contents (Elt F) → (⟨S8192x1024, .f32⟩ : BufTy).Contents (Elt F) → (⟨S21760x1024, .f32⟩ : BufTy).Contents (Elt F)),
    StableHlo.nullary main_c_1 (constantI S_ 32 0#32),
    StableHlo.unary main_c_1 main_v21 (broadcastInDim S8192 ![] bcast_S_S8192 : (⟨S_, .i32⟩ : BufTy).Contents (Elt F) → (⟨S8192, .i32⟩ : BufTy).Contents (Elt F)),
    StableHlo.binary main_v8 main_v21 main_v22 (cmpi .slt : (⟨S8192, .i32⟩ : BufTy).Contents (Elt F) → (⟨S8192, .i32⟩ : BufTy).Contents (Elt F) → (⟨S8192, .i1⟩ : BufTy).Contents (Elt F)),
    StableHlo.nullary main_c_2 (constantI S_ 32 21760#32),
    StableHlo.unary main_c_2 main_v23 (broadcastInDim S8192 ![] bcast_S_S8192 : (⟨S_, .i32⟩ : BufTy).Contents (Elt F) → (⟨S8192, .i32⟩ : BufTy).Contents (Elt F)),
    StableHlo.binary main_v8 main_v23 main_v24 (addi : (⟨S8192, .i32⟩ : BufTy).Contents (Elt F) → (⟨S8192, .i32⟩ : BufTy).Contents (Elt F) → (⟨S8192, .i32⟩ : BufTy).Contents (Elt F)),
    StableHlo.ternary main_v22 main_v24 main_v8 main_v25 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v25 main_v26 (broadcastInDim S8192x1 ![0] bcast_S8192_S8192x1_0 : (⟨S8192, .i32⟩ : BufTy).Contents (Elt F) → (⟨S8192x1, .i32⟩ : BufTy).Contents (Elt F)),
    StableHlo.ternary main_v20 main_v26 main_v0 main_v27 ((fun x i u => Host.scatter scatter_S21760x1024_S8192x1_S8192x1024_1_0_0_1 (fun _ b => b) x i u) : (⟨S21760x1024, .f32⟩ : BufTy).Contents (Elt F) → (⟨S8192x1, .i32⟩ : BufTy).Contents (Elt F) → (⟨S8192x1024, .f32⟩ : BufTy).Contents (Elt F) → (⟨S21760x1024, .f32⟩ : BufTy).Contents (Elt F)) ]
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub .., StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub ..⟩
/-- 26 host operations of @main, window 0 (statements 1 … 60), in order. -/
abbrev main_part0_ops3 : List (HloOp τ sig (Elt F)) :=
  [ StableHlo.nullary main_c_3 (constantI S_ 32 0#32),
    StableHlo.unary main_c_3 main_v29 (broadcastInDim S8192 ![] bcast_S_S8192 : (⟨S_, .i32⟩ : BufTy).Contents (Elt F) → (⟨S8192, .i32⟩ : BufTy).Contents (Elt F)),
    StableHlo.binary main_v9 main_v29 main_v30 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 21760#32),
    StableHlo.unary main_c_4 main_v31 (broadcastInDim S8192 ![] bcast_S_S8192 : (⟨S_, .i32⟩ : BufTy).Contents (Elt F) → (⟨S8192, .i32⟩ : BufTy).Contents (Elt F)),
    StableHlo.binary main_v9 main_v31 main_v32 (addi : (⟨S8192, .i32⟩ : BufTy).Contents (Elt F) → (⟨S8192, .i32⟩ : BufTy).Contents (Elt F) → (⟨S8192, .i32⟩ : BufTy).Contents (Elt F)),
    StableHlo.ternary main_v30 main_v32 main_v9 main_v33 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v33 main_v34 (broadcastInDim S8192x1 ![0] bcast_S8192_S8192x1_0 : (⟨S8192, .i32⟩ : BufTy).Contents (Elt F) → (⟨S8192x1, .i32⟩ : BufTy).Contents (Elt F)),
    StableHlo.binary main_v28 main_v34 main_v35 ((fun x i => Host.gather gather_S21760x1024_S8192x1_S8192x1024_1_0_n_n_0_1_11024 x i) : (⟨S21760x1024, .f32⟩ : BufTy).Contents (Elt F) → (⟨S8192x1, .i32⟩ : BufTy).Contents (Elt F) → (⟨S8192x1024, .f32⟩ : BufTy).Contents (Elt F)),
    StableHlo.unary main_v11 main_v36 (broadcastInDim S8192x1 ![0] bcast_S8192_S8192x1_0 : (⟨S8192, .f32⟩ : BufTy).Contents (Elt F) → (⟨S8192x1, .f32⟩ : BufTy).Contents (Elt F)),
    StableHlo.unary main_v36 main_v37 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v35 main_v37 main_v38 (mulf : (⟨S8192x1024, .f32⟩ : BufTy).Contents (Elt F) → (⟨S8192x1024, .f32⟩ : BufTy).Contents (Elt F) → (⟨S8192x1024, .f32⟩ : BufTy).Contents (Elt F)),
    StableHlo.nullary main_c_5 (constantI S_ 32 0#32),
    StableHlo.unary main_c_5 main_v39 (broadcastInDim S8192 ![] bcast_S_S8192 : (⟨S_, .i32⟩ : BufTy).Contents (Elt F) → (⟨S8192, .i32⟩ : BufTy).Contents (Elt F)),
    StableHlo.binary main_v10 main_v39 main_v40 (cmpi .slt : (⟨S8192, .i32⟩ : BufTy).Contents (Elt F) → (⟨S8192, .i32⟩ : BufTy).Contents (Elt F) → (⟨S8192, .i1⟩ : BufTy).Contents (Elt F)),
    StableHlo.nullary main_c_6 (constantI S_ 32 21760#32),
    StableHlo.unary main_c_6 main_v41 (broadcastInDim S8192 ![] bcast_S_S8192 : (⟨S_, .i32⟩ : BufTy).Contents (Elt F) → (⟨S8192, .i32⟩ : BufTy).Contents (Elt F)),
    StableHlo.binary main_v10 main_v41 main_v42 (addi : (⟨S8192, .i32⟩ : BufTy).Contents (Elt F) → (⟨S8192, .i32⟩ : BufTy).Contents (Elt F) → (⟨S8192, .i32⟩ : BufTy).Contents (Elt F)),
    StableHlo.ternary main_v40 main_v42 main_v10 main_v43 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v43 main_v44 (broadcastInDim S8192x1 ![0] bcast_S8192_S8192x1_0 : (⟨S8192, .i32⟩ : BufTy).Contents (Elt F) → (⟨S8192x1, .i32⟩ : BufTy).Contents (Elt F)),
    StableHlo.binary main_v28 main_v44 main_v45 ((fun x i => Host.gather gather_S21760x1024_S8192x1_S8192x1024_1_0_n_n_0_1_11024 x i) : (⟨S21760x1024, .f32⟩ : BufTy).Contents (Elt F) → (⟨S8192x1, .i32⟩ : BufTy).Contents (Elt F) → (⟨S8192x1024, .f32⟩ : BufTy).Contents (Elt F)),
    StableHlo.unary main_v12 main_v46 (broadcastInDim S8192x1 ![0] bcast_S8192_S8192x1_0 : (⟨S8192, .f32⟩ : BufTy).Contents (Elt F) → (⟨S8192x1, .f32⟩ : BufTy).Contents (Elt F)),
    StableHlo.unary main_v46 main_v47 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v45 main_v47 main_v48 (mulf : (⟨S8192x1024, .f32⟩ : BufTy).Contents (Elt F) → (⟨S8192x1024, .f32⟩ : BufTy).Contents (Elt F) → (⟨S8192x1024, .f32⟩ : BufTy).Contents (Elt F)),
    StableHlo.binary main_v38 main_v48 main_v49 (addf : (⟨S8192x1024, .f32⟩ : BufTy).Contents (Elt F) → (⟨S8192x1024, .f32⟩ : BufTy).Contents (Elt F) → (⟨S8192x1024, .f32⟩ : BufTy).Contents (Elt F)),
    StableHlo.reshape main_v49 main_v50 (rfl : (.f32 : EltTy) = .f32) shapeCasts_S8192x1024_S4x2048x1024 ]
/-- Each touches TensorCore references only (`HostSeg.ofOps` over `StableHlo.tcRefs`, or a subset by `sub_ucRefs`). -/
theorem main_part0_ops3_sub : (main_part0_ops3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.binary_bufs_sub .., StableHlo.reshape_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    Prog.lift (.customCall (Pipeline.entry 0) ()),
    StableHlo.seq main_part0_ops1,
    Prog.lift (.customCall (Pipeline.entry 1) ()),
    StableHlo.seq main_part0_ops2,
    Prog.lift (.customCall (Pipeline.entry 2) ()) ]
  (StableHlo.seq main_part0_ops3) : Prog (TpuEff nD τ sig (Elt F) (Pipeline.Sig Λ₀ (Fin 3) fun p => (pcfgs (F := F) p).Adm) .tc) PUnit) := by
  rewrite [StableHlo.chainK_seq_cons, Pipeline.chainK_cons, StableHlo.chainK_seq_cons, Pipeline.chainK_cons, StableHlo.chainK_seq_cons, Pipeline.chainK_cons]
  chain_rfl

/-- 2 host operations of @main, window 1 (statements 61 … 63), in order. -/
abbrev main_part1_ops0 : List (HloOp τ sig (Elt F)) :=
  [ StableHlo.unary main_v6_6 main_v51 ((extractStridedSlice S1x1 ![0, 0] · slices_S8x128_S1x1_0_0) : (⟨S8x128, .f32⟩ : BufTy).Contents (Elt F) → (⟨S1x1, .f32⟩ : BufTy).Contents (Elt F)),
    StableHlo.reshape main_v51 main_v52 (rfl : (.f32 : EltTy) = .f32) shapeCasts_S1x1_S_ ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.reshape_bufs_sub ..⟩
/-- The last window of `main` (`main_part1`, statements 61 … 63) is the chain of ITS items, each item aligned with the window's
    statements, then `chain_rfl`. -/
theorem main_part1_chain (c : Dev nD) : main_part1 (F := F) c = (Pipeline.chain
  [ StableHlo.seq main_part1_ops0 ] : Prog (TpuEff nD τ sig (Elt F) (Pipeline.Sig Λ₀ (Fin 3) fun p => (pcfgs (F := F) p).Adm) .tc) PUnit) := by
  rewrite [StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    Prog.lift (.customCall (Pipeline.entry 0) ()),
    StableHlo.seq main_part0_ops1,
    Prog.lift (.customCall (Pipeline.entry 1) ()),
    StableHlo.seq main_part0_ops2,
    Prog.lift (.customCall (Pipeline.entry 2) ()),
    StableHlo.seq main_part0_ops3,
    StableHlo.seq main_part1_ops0 ] : Prog (TpuEff nD τ sig (Elt F) (Pipeline.Sig Λ₀ (Fin 3) fun p => (pcfgs (F := F) p).Adm) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (Pipeline.Sig Λ₀ (Fin 3) fun p => (pcfgs (F := F) p).Adm)) :=
  [ .ops [main_part0_ops0],
    .prog (Prog.lift (.customCall (Pipeline.entry 0) ())),
    .ops [main_part0_ops1],
    .prog (Prog.lift (.customCall (Pipeline.entry 1) ())),
    .ops [main_part0_ops2],
    .prog (Prog.lift (.customCall (Pipeline.entry 2) ())),
    .ops [main_part0_ops3, main_part1_ops0] ]

/-- The windows' item list is `main_groups` with each stretch cut into its window pieces (`StableHlo.Group.cut`): the two
    lists are the same, by `chain_rfl`. -/
theorem main_chain_cut (c : Dev nD) : (Pipeline.chain
  [ StableHlo.seq main_part0_ops0,
    Prog.lift (.customCall (Pipeline.entry 0) ()),
    StableHlo.seq main_part0_ops1,
    Prog.lift (.customCall (Pipeline.entry 1) ()),
    StableHlo.seq main_part0_ops2,
    Prog.lift (.customCall (Pipeline.entry 2) ()),
    StableHlo.seq main_part0_ops3,
    StableHlo.seq main_part1_ops0 ] : Prog (TpuEff nD τ sig (Elt F) (Pipeline.Sig Λ₀ (Fin 3) fun p => (pcfgs (F := F) p).Adm) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3 ] : Prog (TpuEff nD τ sig (Elt F) (Pipeline.Sig Λ₀ (Fin 3) fun p => (pcfgs (F := F) p).Adm) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3 ] : Prog (TpuEff nD τ sig (Elt F) (Pipeline.Sig Λ₀ (Fin 3) fun p => (pcfgs (F := F) p).Adm) .tc) PUnit) :=
  (main_chain_windows (F := F) c).trans <| (main_chain_cut (F := F) c).trans <|
    (StableHlo.chain_cut_eq_whole (main_groups (F := F) c)).trans (main_chain_whole (F := F) c)

end Cert.KernelIdeal.Host

end
-- ==== Proof.KernelIdeal.Gate.lean ====
/-
  The gating call: what its body leaves in each output block, the triple of the body, and the pipeline's proof data
  over any contents `V` of the buffers at its entry.
-/
module

public import proofs.«01_k».proof.Proof.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Gate

open Cert.KernelIdeal.Gen Cert.KernelIdeal.Host
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S512x1024 := Rect.unit (s := S512x1024) ![0, 0] S512x1024.size inb_S512x1024_S512x1024_0_0
abbrev r0_1 : Rect S1024x16 := Rect.unit (s := S1024x16) ![0, 0] S1024x16.size inb_S1024x16_S1024x16_0_0
abbrev r0_2 : Rect S1x1x512 := Rect.unit (s := S1x1x512) ![0, 0, 0] S1x1x512.size inb_S1x1x512_S1x1x512_0_0_0
abbrev r0_3 : Rect S512x16 := Rect.unit (s := S512x16) ![0, 0] S512x16.size inb_S512x16_S512x16_0_0
abbrev r0_4 : Rect S1x1x16 := Rect.unit (s := S1x1x16) ![0, 0, 0] S1x1x16.size inb_S1x1x16_S1x1x16_0_0_0

/-! ## What the body leaves in each output window's buffer -/

/-! ### Values of the body that the stores' payloads, spelt out, would write more than once

    Each is a vector the body binds (often a part call's result), stated over the input windows' blocks and
    numbered on from the skeleton's payload functions (`k0_pay18` …, after `k0_pay17`), so that
    `out0_W` and the values after it name it instead of spelling it out (`unfold_out out0_W` opens a canon
    with them, `unfold_payloads` opens them with the payloads); the comment after each is the printed function's
    name for the value (a count appended where that name is bound again). -/

def k0_pay18 (x0 : Vec F S512x1024 .f32) (x1 : Vec F S1024x16 .f32) : IVec S512x16 1 :=
  k0_pay11 (View.ld x0 r0_0) (View.ld x1 r0_1) -- `v22`

/-- Window 2's staging buffer after the body, from the input windows' blocks: its 1 store as pieces, LAST
    FIRST. -/
def out0_2 (x0 : Vec F S512x1024 .f32) (x1 : Vec F S1024x16 .f32) : Vec F S1x1x512 .f32 :=
  View.canon [⟨r0_2, k0_pay16 (View.ld x0 r0_0) (View.ld x1 r0_1)⟩]

/-- Its stores tile the buffer (checked by evaluation), so they cover it. -/
theorem cover0_2 (p0 : Vec F S1x1x512 .f32) (y : S1x1x512.Idx) :
    ∃ pc ∈ ([⟨r0_2, p0⟩] : List (View.Piece (Elt F) S1x1x512 .f32)), y ∈ pc.1.set :=
  View.cover_of_tiled [⟨r0_2, p0⟩] S1x1x512.size (by rfl) y

/-- Window 3's staging buffer after the body, from the input windows' blocks: its 1 store as pieces, LAST
    FIRST. -/
def out0_3 (x0 : Vec F S512x1024 .f32) (x1 : Vec F S1024x16 .f32) : Vec F S1x1x512 .f32 :=
  View.canon [⟨r0_2, k0_pay1 (k0_pay17 (View.ld x0 r0_0) (View.ld x1 r0_1))⟩]

/-- Its stores tile the buffer (checked by evaluation), so they cover it. -/
theorem cover0_3 (p0 : Vec F S1x1x512 .f32) (y : S1x1x512.Idx) :
    ∃ pc ∈ ([⟨r0_2, p0⟩] : List (View.Piece (Elt F) S1x1x512 .f32)), y ∈ pc.1.set :=
  View.cover_of_tiled [⟨r0_2, p0⟩] S1x1x512.size (by rfl) y

/-- Window 4's staging buffer after the body, from the input windows' blocks: its 1 store as pieces, LAST
    FIRST. -/
def out0_4 (x0 : Vec F S512x1024 .f32) (x1 : Vec F S1024x16 .f32) : Vec F S1x1x512 .i32 :=
  View.canon [⟨r0_2, k0_pay2 (k0_pay10 (View.ld x0 r0_0) (View.ld x1 r0_1))⟩]

/-- Its stores tile the buffer (checked by evaluation), so they cover it. -/
theorem cover0_4 (p0 : Vec F S1x1x512 .i32) (y : S1x1x512.Idx) :
    ∃ pc ∈ ([⟨r0_2, p0⟩] : List (View.Piece (Elt F) S1x1x512 .i32)), y ∈ pc.1.set :=
  View.cover_of_tiled [⟨r0_2, p0⟩] S1x1x512.size (by rfl) y

/-- Window 5's staging buffer after the body, from the input windows' blocks: its 1 store as pieces, LAST
    FIRST. -/
def out0_5 (x0 : Vec F S512x1024 .f32) (x1 : Vec F S1024x16 .f32) : Vec F S1x1x512 .i32 :=
  View.canon [⟨r0_2, k0_pay3 (k0_pay14 (View.ld x0 r0_0) (View.ld x1 r0_1))⟩]

/-- Its stores tile the buffer (checked by evaluation), so they cover it. -/
theorem cover0_5 (p0 : Vec F S1x1x512 .i32) (y : S1x1x512.Idx) :
    ∃ pc ∈ ([⟨r0_2, p0⟩] : List (View.Piece (Elt F) S1x1x512 .i32)), y ∈ pc.1.set :=
  View.cover_of_tiled [⟨r0_2, p0⟩] S1x1x512.size (by rfl) y

/-- Window 6's staging buffer after the body, from the input windows' blocks: its 1 store as pieces, LAST
    FIRST. -/
def out0_6 (x0 : Vec F S512x1024 .f32) (x1 : Vec F S1024x16 .f32) : Vec F S512x16 .f32 :=
  View.canon [⟨r0_3, k0_pay4 (F := F) (k0_pay18 x0 x1)⟩]

/-- Its stores tile the buffer (checked by evaluation), so they cover it. -/
theorem cover0_6 (p0 : Vec F S512x16 .f32) (y : S512x16.Idx) :
    ∃ pc ∈ ([⟨r0_3, p0⟩] : List (View.Piece (Elt F) S512x16 .f32)), y ∈ pc.1.set :=
  View.cover_of_tiled [⟨r0_3, p0⟩] S512x16.size (by rfl) y

/-- Window 7's staging buffer after the body, from the input windows' blocks: its 1 store as pieces, LAST
    FIRST. -/
def out0_7 (x0 : Vec F S512x1024 .f32) (x1 : Vec F S1024x16 .f32) : Vec F S512x16 .f32 :=
  View.canon [⟨r0_3, k0_pay5 (F := F) (k0_pay15 (View.ld x0 r0_0) (View.ld x1 r0_1))⟩]

/-- Its stores tile the buffer (checked by evaluation), so they cover it. -/
theorem cover0_7 (p0 : Vec F S512x16 .f32) (y : S512x16.Idx) :
    ∃ pc ∈ ([⟨r0_3, p0⟩] : List (View.Piece (Elt F) S512x16 .f32)), y ∈ pc.1.set :=
  View.cover_of_tiled [⟨r0_3, p0⟩] S512x16.size (by rfl) y

/-- Window 8's staging buffer after the body, from the input windows' blocks: its 1 store as pieces, LAST
    FIRST. -/
def out0_8 (x0 : Vec F S512x1024 .f32) (x1 : Vec F S1024x16 .f32) : Vec F S1x1x16 .f32 :=
  View.canon [⟨r0_4, k0_pay6 (k0_pay8 (View.ld x0 r0_0) (View.ld x1 r0_1))⟩]

/-- Its stores tile the buffer (checked by evaluation), so they cover it. -/
theorem cover0_8 (p0 : Vec F S1x1x16 .f32) (y : S1x1x16.Idx) :
    ∃ pc ∈ ([⟨r0_4, p0⟩] : List (View.Piece (Elt F) S1x1x16 .f32)), y ∈ pc.1.set :=
  View.cover_of_tiled [⟨r0_4, p0⟩] S1x1x16.size (by rfl) y

/-- Window 9's staging buffer after the body, from the input windows' blocks: its 1 store as pieces, LAST
    FIRST. -/
def out0_9 (x0 : Vec F S512x1024 .f32) (x1 : Vec F S1024x16 .f32) : Vec F S1x1x16 .f32 :=
  View.canon [⟨r0_4, k0_pay7 (F := F) (k0_pay18 x0 x1)⟩]

/-- Its stores tile the buffer (checked by evaluation), so they cover it. -/
theorem cover0_9 (p0 : Vec F S1x1x16 .f32) (y : S1x1x16.Idx) :
    ∃ pc ∈ ([⟨r0_4, p0⟩] : List (View.Piece (Elt F) S1x1x16 .f32)), y ∈ pc.1.set :=
  View.cover_of_tiled [⟨r0_4, p0⟩] S1x1x16.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel (c : Dev nD) (E : Set ℕ) (i : grid0.Coords) (arg1 : Memref sig .tc .vmem S512x1024 .f32) (harg1 : arg1.IsWhole) (arg2 : Memref sig .tc .vmem S1024x16 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x1x512 .i32) (harg5 : arg5.IsWhole) (arg6 : Memref sig .tc .vmem S1x1x512 .i32) (harg6 : arg6.IsWhole) (arg7 : Memref sig .tc .vmem S512x16 .f32) (harg7 : arg7.IsWhole) (arg8 : Memref sig .tc .vmem S512x16 .f32) (harg8 : arg8.IsWhole) (arg9 : Memref sig .tc .vmem S1x1x16 .f32) (harg9 : arg9.IsWhole) (arg10 : Memref sig .tc .vmem S1x1x16 .f32) (harg10 : arg10.IsWhole)
    (x0 : Vec F S512x1024 .f32) (x1 : Vec F S1024x16 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1) ∗ owns (c : Thread nD τ) arg6 fullShare (out0_5 x0 x1) ∗ owns (c : Thread nD τ) arg7 fullShare (out0_6 x0 x1) ∗ owns (c : Thread nD τ) arg8 fullShare (out0_7 x0 x1) ∗ owns (c : Thread nD τ) arg9 fullShare (out0_8 x0 x1) ∗ owns (c : Thread nD τ) arg10 fullShare (out0_9 x0 x1)) -∗ K ⟨⟩))
      ⊢ wp frame (wpE (defs₀ (F := F)) Variants.none c none) E (cc0__gating_body i arg1 harg1 arg2 harg2 arg3 harg3 arg4 harg4 arg5 harg5 arg6 harg6 arg7 harg7 arg8 harg8 arg9 harg9 arg10 harg10) K := by
  simp only [cc0__gating_body_eq_skeleton]; unfold cc0__gating_body_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _)).trans ?_
    rfl
  isplitl [H4]
  · iexists _; isplitr
    swap; · iexact H4
    ipureintro
    refine (View.read_writes_eq_canon _ _ _ (cover0_4 _)).trans ?_
    rfl
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _)).trans ?_
    rfl
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  iexists _; isplitr
  swap; · iexact H9
  ipureintro
  refine (View.read_writes_eq_canon _ _ _ (cover0_9 _)).trans ?_
  rfl

/-! ## The pipeline's proof data -/

/-- The proof data of the one pipeline on core `c`: the arrays as the region finds them (`V`); after the body at
    point `t` each input's buffer at its block and each output's at `out0_W` of the input blocks; the invariant the
    class's; nothing owed;
    full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out0_2 (iblk V c 0 t) (iblk V c 1 t)
    | ⟨3, _⟩ => out0_3 (iblk V c 0 t) (iblk V c 1 t)
    | ⟨4, _⟩ => out0_4 (iblk V c 0 t) (iblk V c 1 t)
    | ⟨5, _⟩ => out0_5 (iblk V c 0 t) (iblk V c 1 t)
    | ⟨6, _⟩ => out0_6 (iblk V c 0 t) (iblk V c 1 t)
    | ⟨7, _⟩ => out0_7 (iblk V c 0 t) (iblk V c 1 t)
    | ⟨8, _⟩ => out0_8 (iblk V c 0 t) (iblk V c 1 t)
    | ⟨9, _⟩ => out0_9 (iblk V c 0 t) (iblk V c 1 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`, never `rfl`: Lib/Pipeline.lean `Dat`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = out0_2 (iblk V c 0 t) (iblk V c 1 t) := by dsimp only [dat]
theorem after0_3 (c : Dev nD) (t : Fin cfg0.N) : (dat V c).after 3 t = out0_3 (iblk V c 0 t) (iblk V c 1 t) := by dsimp only [dat]
theorem after0_4 (c : Dev nD) (t : Fin cfg0.N) : (dat V c).after 4 t = out0_4 (iblk V c 0 t) (iblk V c 1 t) := by dsimp only [dat]
theorem after0_5 (c : Dev nD) (t : Fin cfg0.N) : (dat V c).after 5 t = out0_5 (iblk V c 0 t) (iblk V c 1 t) := by dsimp only [dat]
theorem after0_6 (c : Dev nD) (t : Fin cfg0.N) : (dat V c).after 6 t = out0_6 (iblk V c 0 t) (iblk V c 1 t) := by dsimp only [dat]
theorem after0_7 (c : Dev nD) (t : Fin cfg0.N) : (dat V c).after 7 t = out0_7 (iblk V c 0 t) (iblk V c 1 t) := by dsimp only [dat]
theorem after0_8 (c : Dev nD) (t : Fin cfg0.N) : (dat V c).after 8 t = out0_8 (iblk V c 0 t) (iblk V c 1 t) := by dsimp only [dat]
theorem after0_9 (c : Dev nD) (t : Fin cfg0.N) : (dat V c).after 9 t = out0_9 (iblk V c 0 t) (iblk V c 1 t) := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

/-- The body at any point: the inputs' memrefs hold their blocks (`before0_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).Φ t.succ = (dat V c).Φ t.castSucc from rfl,
    show (dat V c).owesAt () t.succ = (dat V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk V c 0 t) (iblk V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.Gate

end
-- ==== Proof.KernelIdeal.Route.lean ====
/-
  The routing call: grid point `i` handles tokens `512 i … 512 i + 511`. What its body leaves in each output block
  (the two cells a token goes to, the cells it is read back from, its two weights, and, at the first point, the balance
  term), the triple of the body with its loop over the blocks of tokens, and the pipeline's proof data over any contents
  `V` of the buffers at its entry.
-/
module

public import proofs.«01_k».proof.Proof.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Route

open Cert.KernelIdeal.Gen Cert.KernelIdeal.Host
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, for proof data entering its array at `V` whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point, for proof data entering its array at `V` whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point, for proof data entering its array at `V` whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point, for proof data entering its array at `V` whose body leaves the block in place. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's buffer holds its block at every point, for proof data entering its array at `V` whose body leaves the block in place. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's buffer holds its block at every point, for proof data entering its array at `V` whose body leaves the block in place. -/
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's buffer holds its block at every point, for proof data entering its array at `V` whose body leaves the block in place. -/
theorem before_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's buffer holds its block at every point, for proof data entering its array at `V` whose body leaves the block in place. -/
theorem before_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The two cases of the body -/

/-- The first grid point: the balance term is stored. -/
abbrev cond0 (i : grid1.Coords) : Prop := k1_cond1 i = 1#1
theorem hcond0 : ∀ t : Fin cfg1.N, cond0 (grid1.coords t) ↔ t.val = 0 :=
  (fun t => by
    have ht : t.val < 16 := Nat.lt_of_lt_of_eq t.isLt N_1
    have e0 : (grid1.coords t 0).val = t.val / 1 % 16 := Pipeline.Grid.coords_val t 0 (by decide) rfl
    simp only [cond0, k1_cond1, e0]
    word_cmp
   : ∀ t : Fin grid1.N, cond0 (grid1.coords t) ↔ t.val = 0)

/-- The balance term's block is live at the first point and idle at the others. -/
theorem idle14 (t : Fin cfg1.N) : cfg1.idle 14 (grid1.coords t) = !(k1_cond1 (grid1.coords t) == 1#1) := rfl
theorem idle14_A (t : Fin cfg1.N) (h : t.val = 0) : cfg1.idle 14 (grid1.coords t) = false := by
  rw [idle14, (hcond0 t).mpr h]; rfl
theorem idle14_B (t : Fin cfg1.N) (h : ¬t.val = 0) : cfg1.idle 14 (grid1.coords t) = true := by
  rw [idle14, Bool.not_eq_true', beq_eq_false_iff_ne]; exact fun h' => h ((hcond0 t).mp h')

/-- Whether the balance term's buffer is fresh at each position: at the start, and after the one write-back. -/
def freshTab : ℕ → Bool
  | 0 => true
  | n + 1 => (0x8000 : ℕ).testBit n
theorem freshTab_step : ∀ t : Fin cfg1.N,
    freshTab (t.val + 1) = ((cfg1.win 14).flush t || (cfg1.idle 14 (cfg1.grid.coords t) && freshTab t.val)) := by decide +kernel
theorem fresh_eq (t : Fin cfg1.N) : cfg1.fresh 14 t.val = freshTab t.val :=
  Pipeline.Cfg.fresh_tab cfg1 14 freshTab rfl freshTab_step t.val (Nat.le_of_lt t.isLt)
theorem notFresh : ∀ t : Fin cfg1.N, ¬t.val = 0 → cfg1.fresh 14 t.val = false := by
  intro t; rw [fresh_eq t]; revert t; decide +kernel

/-! ## What the body leaves in the output blocks -/

/-- The point's 512 tokens in a row of all tokens, -/
abbrev rT (i : grid1.Coords) : Rect S1x8192 := Rect.unit (s := S1x8192) (k1_off1 i) S1x512.size (k1_off1_inb i)
/-- and in a column table; -/
abbrev rO (i : grid1.Coords) : Rect S8192x16 := Rect.unit (s := S8192x16) (k1_off4 i) S512x16.size (k1_off4_inb i)
/-- the tokens of trip `k` in a row of all tokens, -/
abbrev rTk (k : Fin k1_t1_loop.trips) : Rect S1x8192 := Rect.unit (s := S1x8192) (k1_off2 k) S1x512.size (k1_off2_inb k)
/-- and in a column table. -/
abbrev rOk (k : Fin k1_t1_loop.trips) : Rect S8192x16 := Rect.unit (s := S8192x16) (k1_off3 k) S512x16.size (k1_off3_inb k)
abbrev rAll : Rect S8192x16 := Rect.unit (s := S8192x16) ![0, 0] S8192x16.size inb_S8192x16_S8192x16_0_0
abbrev rM : Rect S16x1x16 := Rect.unit (s := S16x1x16) ![0, 0, 0] S16x1x16.size inb_S16x1x16_S16x1x16_0_0_0
abbrev rS : Rect S1x1x512 := Rect.unit (s := S1x1x512) ![0, 0, 0] S1x1x512.size inb_S1x1x512_S1x1x512_0_0_0
abbrev rL : Rect S8x128 := Rect.unit (s := S8x128) ![0, 0] S8x128.size inb_S8x128_S8x128_0_0

/-- The two tables of counts before trip `k` of the loop over the blocks of tokens. -/
def acc (i : grid1.Coords) (v2 : Vec F S1x512 .f32) (x0 : Vec F S1x8192 .f32) (x4 x5 : Vec F S8192x16 .f32) : ℕ → FVec F S512x16 .f32 × FVec F S512x16 .f32
  | 0 => (k1_pay4 (F := F), k1_pay5 (F := F))
  | k + 1 =>
    if h : k < k1_t1_loop.trips then
      (k1_pay7 i v2 ⟨k, h⟩ (acc i v2 x0 x4 x5 k).1 (View.ld x0 (rTk ⟨k, h⟩)) (View.ld x4 (rOk ⟨k, h⟩)),
        k1_pay8 i v2 ⟨k, h⟩ (acc i v2 x0 x4 x5 k).2 (View.ld x0 (rTk ⟨k, h⟩)) (View.ld x5 (rOk ⟨k, h⟩)))
    else acc i v2 x0 x4 x5 k

theorem acc_succ (i : grid1.Coords) (v2 : Vec F S1x512 .f32) (x0 : Vec F S1x8192 .f32) (x4 x5 : Vec F S8192x16 .f32) (k : Fin k1_t1_loop.trips) :
    acc i v2 x0 x4 x5 (k.val + 1)
      = (k1_pay7 i v2 k (acc i v2 x0 x4 x5 k.val).1 (View.ld x0 (rTk k)) (View.ld x4 (rOk k)),
        k1_pay8 i v2 k (acc i v2 x0 x4 x5 k.val).2 (View.ld x0 (rTk k)) (View.ld x5 (rOk k))) := by
  rw [acc]; exact dif_pos k.isLt

/-- The two tables after the loop. -/
def cnt (i : grid1.Coords) (x0 : Vec F S1x8192 .f32) (x4 x5 : Vec F S8192x16 .f32) : FVec F S512x16 .f32 × FVec F S512x16 .f32 :=
  acc i (View.ld x0 (rT i)) x0 x4 x5 k1_t1_loop.trips

/-- The rank of each token's first choice, -/
def pos0 (i : grid1.Coords) (x0 : Vec F S1x8192 .f32) (x1 : Vec F S1x8192 .f32) (x2 : Vec F S1x8192 .i32) (x3 : Vec F S1x8192 .i32) (x4 : Vec F S8192x16 .f32) (x5 : Vec F S8192x16 .f32) (x6 : Vec F S16x1x16 .f32) (x7 : Vec F S16x1x16 .f32) : IVec S512 32 := k1_pay9 (cnt i x0 x4 x5).1 (View.ld x4 (rO i))
/-- whether it is below the capacity, -/
def ok0 (i : grid1.Coords) (x0 : Vec F S1x8192 .f32) (x1 : Vec F S1x8192 .f32) (x2 : Vec F S1x8192 .i32) (x3 : Vec F S1x8192 .i32) (x4 : Vec F S8192x16 .f32) (x5 : Vec F S8192x16 .f32) (x6 : Vec F S16x1x16 .f32) (x7 : Vec F S16x1x16 .f32) : IVec S512 1 := k1_pay13 (cnt i x0 x4 x5).1 (View.ld x4 (rO i))
/-- and the rank of its second choice. -/
def pos1 (i : grid1.Coords) (x0 : Vec F S1x8192 .f32) (x1 : Vec F S1x8192 .f32) (x2 : Vec F S1x8192 .i32) (x3 : Vec F S1x8192 .i32) (x4 : Vec F S8192x16 .f32) (x5 : Vec F S8192x16 .f32) (x6 : Vec F S16x1x16 .f32) (x7 : Vec F S16x1x16 .f32) : IVec S512 32 := k1_pay10 (cnt i x0 x4 x5).2 (View.ld x5 (rO i)) (View.ld x4 rAll)

/-- What the body leaves in output block 8. -/
def out8 (i : grid1.Coords) (x0 : Vec F S1x8192 .f32) (x1 : Vec F S1x8192 .f32) (x2 : Vec F S1x8192 .i32) (x3 : Vec F S1x8192 .i32) (x4 : Vec F S8192x16 .f32) (x5 : Vec F S8192x16 .f32) (x6 : Vec F S16x1x16 .f32) (x7 : Vec F S16x1x16 .f32) : Vec F S1x1x512 .i32 :=
  View.canon [⟨rS, k1_pay17 (pos0 i x0 x1 x2 x3 x4 x5 x6 x7) (k1_pay11 (View.ld x2 (rT i))) (ok0 i x0 x1 x2 x3 x4 x5 x6 x7)⟩]

/-- What the body leaves in output block 9. -/
def out9 (i : grid1.Coords) (x0 : Vec F S1x8192 .f32) (x1 : Vec F S1x8192 .f32) (x2 : Vec F S1x8192 .i32) (x3 : Vec F S1x8192 .i32) (x4 : Vec F S8192x16 .f32) (x5 : Vec F S8192x16 .f32) (x6 : Vec F S16x1x16 .f32) (x7 : Vec F S16x1x16 .f32) : Vec F S1x1x512 .i32 :=
  View.canon [⟨rS, k1_pay18 (pos1 i x0 x1 x2 x3 x4 x5 x6 x7) (k1_pay12 (View.ld x3 (rT i)))⟩]

/-- What the body leaves in output block 10. -/
def out10 (i : grid1.Coords) (x0 : Vec F S1x8192 .f32) (x1 : Vec F S1x8192 .f32) (x2 : Vec F S1x8192 .i32) (x3 : Vec F S1x8192 .i32) (x4 : Vec F S8192x16 .f32) (x5 : Vec F S8192x16 .f32) (x6 : Vec F S16x1x16 .f32) (x7 : Vec F S16x1x16 .f32) : Vec F S1x1x512 .i32 :=
  View.canon [⟨rS, k1_pay19 (pos0 i x0 x1 x2 x3 x4 x5 x6 x7) (k1_pay11 (View.ld x2 (rT i)))⟩]

/-- What the body leaves in output block 11. -/
def out11 (i : grid1.Coords) (x0 : Vec F S1x8192 .f32) (x1 : Vec F S1x8192 .f32) (x2 : Vec F S1x8192 .i32) (x3 : Vec F S1x8192 .i32) (x4 : Vec F S8192x16 .f32) (x5 : Vec F S8192x16 .f32) (x6 : Vec F S16x1x16 .f32) (x7 : Vec F S16x1x16 .f32) : Vec F S1x1x512 .i32 :=
  View.canon [⟨rS, k1_pay20 (pos1 i x0 x1 x2 x3 x4 x5 x6 x7) (k1_pay12 (View.ld x3 (rT i)))⟩]

/-- What the body leaves in output block 12. -/
def out12 (i : grid1.Coords) (x0 : Vec F S1x8192 .f32) (x1 : Vec F S1x8192 .f32) (x2 : Vec F S1x8192 .i32) (x3 : Vec F S1x8192 .i32) (x4 : Vec F S8192x16 .f32) (x5 : Vec F S8192x16 .f32) (x6 : Vec F S16x1x16 .f32) (x7 : Vec F S16x1x16 .f32) : Vec F S1x1x512 .f32 :=
  View.canon [⟨rS, k1_pay1 (k1_pay21 (ok0 i x0 x1 x2 x3 x4 x5 x6 x7) (View.ld x0 (rT i)))⟩]

/-- What the body leaves in output block 13. -/
def out13 (i : grid1.Coords) (x0 : Vec F S1x8192 .f32) (x1 : Vec F S1x8192 .f32) (x2 : Vec F S1x8192 .i32) (x3 : Vec F S1x8192 .i32) (x4 : Vec F S8192x16 .f32) (x5 : Vec F S8192x16 .f32) (x6 : Vec F S16x1x16 .f32) (x7 : Vec F S16x1x16 .f32) : Vec F S1x1x512 .f32 :=
  View.canon [⟨rS, k1_pay2 (k1_pay14 (pos1 i x0 x1 x2 x3 x4 x5 x6 x7)) (View.ld x1 (rT i))⟩]

/-- What the first point leaves in the balance term's block. -/
def out14 (x6 x7 : Vec F S16x1x16 .f32) : Vec F S8x128 .f32 :=
  View.canon [⟨rL, k1_pay3 (View.ld x6 rM) (View.ld x7 rM)⟩]

theorem coverI (p0 : Vec F S1x1x512 .i32) (y : S1x1x512.Idx) :
    ∃ pc ∈ ([⟨rS, p0⟩] : List (View.Piece (Elt F) S1x1x512 .i32)), y ∈ pc.1.set :=
  View.cover_of_tiledL [⟨rS, p0⟩] S1x1x512.size (by sl_kernel_rfl) y

theorem coverF (p0 : Vec F S1x1x512 .f32) (y : S1x1x512.Idx) :
    ∃ pc ∈ ([⟨rS, p0⟩] : List (View.Piece (Elt F) S1x1x512 .f32)), y ∈ pc.1.set :=
  View.cover_of_tiledL [⟨rS, p0⟩] S1x1x512.size (by sl_kernel_rfl) y

theorem coverL (p0 : Vec F S8x128 .f32) (y : S8x128.Idx) :
    ∃ pc ∈ ([⟨rL, p0⟩] : List (View.Piece (Elt F) S8x128 .f32)), y ∈ pc.1.set :=
  View.cover_of_tiledL [⟨rL, p0⟩] S8x128.size (by sl_kernel_rfl) y

/-! ## The loop -/

/-- One trip of the loop: it only reads, and yields the counts one trip further. -/
theorem trip (c : Dev nD) (E : Set ℕ) (i : grid1.Coords) (arg1 : Memref sig .tc .vmem S1x8192 .f32) (harg1 : arg1.IsWhole) (arg2 : Memref sig .tc .vmem S1x8192 .f32) (harg2 : arg2.IsWhole) (arg3 : Memref sig .tc .vmem S1x8192 .i32) (harg3 : arg3.IsWhole) (arg4 : Memref sig .tc .vmem S1x8192 .i32) (harg4 : arg4.IsWhole) (arg5 : Memref sig .tc .vmem S8192x16 .f32) (harg5 : arg5.IsWhole) (arg6 : Memref sig .tc .vmem S8192x16 .f32) (harg6 : arg6.IsWhole) (arg7 : Memref sig .tc .vmem S16x1x16 .f32) (harg7 : arg7.IsWhole) (arg8 : Memref sig .tc .vmem S16x1x16 .f32) (harg8 : arg8.IsWhole) (arg9 : Memref sig .tc .vmem S1x1x512 .i32) (harg9 : arg9.IsWhole) (arg10 : Memref sig .tc .vmem S1x1x512 .i32) (harg10 : arg10.IsWhole) (arg11 : Memref sig .tc .vmem S1x1x512 .i32) (harg11 : arg11.IsWhole) (arg12 : Memref sig .tc .vmem S1x1x512 .i32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S8x128 .f32) (harg15 : arg15.IsWhole)
    (v2 : Vec F S1x512 .f32) (f0 : BufTy.Contents (Elt F) arg1.view.ty) (f4 : BufTy.Contents (Elt F) arg5.view.ty) (f5 : BufTy.Contents (Elt F) arg6.view.ty)
    (k : Fin k1_t1_loop.trips) (a : FVec F S512x16 .f32 × FVec F S512x16 .f32) :
    (iprop((arg1.view.loc (c : Thread nD τ) ↦[arg1.view.set]{fullShare} f0) ∗ (arg5.view.loc (c : Thread nD τ) ↦[arg5.view.set]{fullShare} f4)
        ∗ (arg6.view.loc (c : Thread nD τ) ↦[arg6.view.set]{fullShare} f5)) : sProp 𝕄)
      ⊢ wp frame (wpE (defs₀ (F := F)) Variants.none (c : Thread nD τ) none) E (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v2 k a)
          (fun y => iprop(⌜y = (k1_pay7 i v2 k a.1 (View.ld (arg1.view.read (Elt F) f0) (rTk k)) (View.ld (arg5.view.read (Elt F) f4) (rOk k)),
              k1_pay8 i v2 k a.2 (View.ld (arg1.view.read (Elt F) f0) (rTk k)) (View.ld (arg6.view.read (Elt F) f5) (rOk k)))⌝
            ∗ (arg1.view.loc (c : Thread nD τ) ↦[arg1.view.set]{fullShare} f0) ∗ (arg5.view.loc (c : Thread nD τ) ↦[arg5.view.set]{fullShare} f4)
            ∗ (arg6.view.loc (c : Thread nD τ) ↦[arg6.view.set]{fullShare} f5))) := by
  unfold k1_t1_body
  iintro ⟨H0, H4, H5⟩
  sl_exec
  sl_step
  isplitr; · ipureintro; rfl
  isplitl [H0]; · iexact H0
  isplitl [H4]; · iexact H4
  iexact H5

set_option warn.classDefReducibility false in
/-- The loop by its invariant: before trip `k` the carried counts are `acc … k`. -/
@[sl_loop] def loopInv (c : Dev nD) (E : Set ℕ) (i : grid1.Coords) (arg1 : Memref sig .tc .vmem S1x8192 .f32) (harg1 : arg1.IsWhole) (arg2 : Memref sig .tc .vmem S1x8192 .f32) (harg2 : arg2.IsWhole) (arg3 : Memref sig .tc .vmem S1x8192 .i32) (harg3 : arg3.IsWhole) (arg4 : Memref sig .tc .vmem S1x8192 .i32) (harg4 : arg4.IsWhole) (arg5 : Memref sig .tc .vmem S8192x16 .f32) (harg5 : arg5.IsWhole) (arg6 : Memref sig .tc .vmem S8192x16 .f32) (harg6 : arg6.IsWhole) (arg7 : Memref sig .tc .vmem S16x1x16 .f32) (harg7 : arg7.IsWhole) (arg8 : Memref sig .tc .vmem S16x1x16 .f32) (harg8 : arg8.IsWhole) (arg9 : Memref sig .tc .vmem S1x1x512 .i32) (harg9 : arg9.IsWhole) (arg10 : Memref sig .tc .vmem S1x1x512 .i32) (harg10 : arg10.IsWhole) (arg11 : Memref sig .tc .vmem S1x1x512 .i32) (harg11 : arg11.IsWhole) (arg12 : Memref sig .tc .vmem S1x1x512 .i32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S8x128 .f32) (harg15 : arg15.IsWhole)
    (v2 : Vec F S1x512 .f32) (f0 : BufTy.Contents (Elt F) arg1.view.ty) (f4 : BufTy.Contents (Elt F) arg5.view.ty) (f5 : BufTy.Contents (Elt F) arg6.view.ty) :
    Idealize.ShloMosaic.LoopInv (M := 𝕄) Idealize.ShloMosaic.frame (wpE (defs₀ (F := F)) Variants.none (c : Thread nD τ) none) E
      k1_t1_loop.lb k1_t1_loop.ub k1_t1_loop.st k1_t1_ok (k1_pay4 (F := F), k1_pay5 (F := F)) (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v2) where
  inv k a := iprop((arg1.view.loc (c : Thread nD τ) ↦[arg1.view.set]{fullShare} f0) ∗ (arg5.view.loc (c : Thread nD τ) ↦[arg5.view.set]{fullShare} f4)
    ∗ (arg6.view.loc (c : Thread nD τ) ↦[arg6.view.set]{fullShare} f5)
    ∗ ⌜a = acc i v2 (arg1.view.read (Elt F) f0) (arg5.view.read (Elt F) f4) (arg6.view.read (Elt F) f5) k⌝)
  step k a := by
    iintro ⟨H0, H4, H5, %ha⟩
    subst ha
    iapply (wp_wand_r Idealize.ShloMosaic.frame (wpE (defs₀ (F := F)) Variants.none (c : Thread nD τ) none) E)
    isplitl [H0 H4 H5]
    · iapply (trip c E i arg1 harg1 arg2 harg2 arg3 harg3 arg4 harg4 arg5 harg5 arg6 harg6 arg7 harg7 arg8 harg8 arg9 harg9 arg10 harg10 arg11 harg11 arg12 harg12 arg13 harg13 arg14 harg14 arg15 harg15 v2 f0 f4 f5 k (acc i v2 (arg1.view.read (Elt F) f0) (arg5.view.read (Elt F) f4) (arg6.view.read (Elt F) f5) k.val))
      isplitl [H0]; · iexact H0
      isplitl [H4]; · iexact H4
      iexact H5
    · iintro %y ⟨%hy, H0, H4, H5⟩
      isplitl [H0]; · iexact H0
      isplitl [H4]; · iexact H4
      isplitl [H5]; · iexact H5
      ipureintro; rw [hy]; exact (acc_succ i v2 _ _ _ k).symm

/-! ## The body's triples -/

set_option maxHeartbeats 1000000 in
/-- The body in case A: the inputs' buffers stay, each output's ends at its `out`. -/
theorem sound_A (c : Dev nD) (E : Set ℕ) (i : grid1.Coords) (arg1 : Memref sig .tc .vmem S1x8192 .f32) (harg1 : arg1.IsWhole) (arg2 : Memref sig .tc .vmem S1x8192 .f32) (harg2 : arg2.IsWhole) (arg3 : Memref sig .tc .vmem S1x8192 .i32) (harg3 : arg3.IsWhole) (arg4 : Memref sig .tc .vmem S1x8192 .i32) (harg4 : arg4.IsWhole) (arg5 : Memref sig .tc .vmem S8192x16 .f32) (harg5 : arg5.IsWhole) (arg6 : Memref sig .tc .vmem S8192x16 .f32) (harg6 : arg6.IsWhole) (arg7 : Memref sig .tc .vmem S16x1x16 .f32) (harg7 : arg7.IsWhole) (arg8 : Memref sig .tc .vmem S16x1x16 .f32) (harg8 : arg8.IsWhole) (arg9 : Memref sig .tc .vmem S1x1x512 .i32) (harg9 : arg9.IsWhole) (arg10 : Memref sig .tc .vmem S1x1x512 .i32) (harg10 : arg10.IsWhole) (arg11 : Memref sig .tc .vmem S1x1x512 .i32) (harg11 : arg11.IsWhole) (arg12 : Memref sig .tc .vmem S1x1x512 .i32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S8x128 .f32) (harg15 : arg15.IsWhole) (hc0 : cond0 i)
    (x0 : Vec F S1x8192 .f32) (x1 : Vec F S1x8192 .f32) (x2 : Vec F S1x8192 .i32) (x3 : Vec F S1x8192 .i32) (x4 : Vec F S8192x16 .f32) (x5 : Vec F S8192x16 .f32) (x6 : Vec F S16x1x16 .f32) (x7 : Vec F S16x1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 i x0 x1 x2 x3 x4 x5 x6 x7) ∗ owns (c : Thread nD τ) arg10 fullShare (out9 i x0 x1 x2 x3 x4 x5 x6 x7) ∗ owns (c : Thread nD τ) arg11 fullShare (out10 i x0 x1 x2 x3 x4 x5 x6 x7) ∗ owns (c : Thread nD τ) arg12 fullShare (out11 i x0 x1 x2 x3 x4 x5 x6 x7) ∗ owns (c : Thread nD τ) arg13 fullShare (out12 i x0 x1 x2 x3 x4 x5 x6 x7) ∗ owns (c : Thread nD τ) arg14 fullShare (out13 i x0 x1 x2 x3 x4 x5 x6 x7) ∗ owns (c : Thread nD τ) arg15 fullShare (out14 x6 x7)) -∗ K ⟨⟩))
      ⊢ wp frame (wpE (defs₀ (F := F)) Variants.none c none) E (cc1__routing_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__routing_body_eq_skeleton]; unfold cc1__routing_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf0 hf1 hf2 hf3 hf4 hf5 hf6 hf7
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (coverI _)).trans ?_
    rfl
  isplitl [H9]
  · iexists _; isplitr
    swap; · iexact H9
    ipureintro
    refine (View.read_writes_eq_canon _ _ _ (coverI _)).trans ?_
    rfl
  isplitl [H10]
  · iexists _; isplitr
    swap; · iexact H10
    ipureintro
    refine (View.read_writes_eq_canon _ _ _ (coverI _)).trans ?_
    rfl
  isplitl [H11]
  · iexists _; isplitr
    swap; · iexact H11
    ipureintro
    refine (View.read_writes_eq_canon _ _ _ (coverI _)).trans ?_
    rfl
  isplitl [H12]
  · iexists _; isplitr
    swap; · iexact H12
    ipureintro
    refine (View.read_writes_eq_canon _ _ _ (coverF _)).trans ?_
    rfl
  isplitl [H13]
  · iexists _; isplitr
    swap; · iexact H13
    ipureintro
    refine (View.read_writes_eq_canon _ _ _ (coverF _)).trans ?_
    rfl
  iexists _; isplitr
  swap; · iexact H14
  ipureintro
  refine (View.read_writes_eq_canon _ _ _ (coverL _)).trans ?_
  rfl

set_option maxHeartbeats 1000000 in
/-- The body in case B: the inputs' buffers stay, each output's ends at its `out`, the balance term's stays. -/
theorem sound_B (c : Dev nD) (E : Set ℕ) (i : grid1.Coords) (arg1 : Memref sig .tc .vmem S1x8192 .f32) (harg1 : arg1.IsWhole) (arg2 : Memref sig .tc .vmem S1x8192 .f32) (harg2 : arg2.IsWhole) (arg3 : Memref sig .tc .vmem S1x8192 .i32) (harg3 : arg3.IsWhole) (arg4 : Memref sig .tc .vmem S1x8192 .i32) (harg4 : arg4.IsWhole) (arg5 : Memref sig .tc .vmem S8192x16 .f32) (harg5 : arg5.IsWhole) (arg6 : Memref sig .tc .vmem S8192x16 .f32) (harg6 : arg6.IsWhole) (arg7 : Memref sig .tc .vmem S16x1x16 .f32) (harg7 : arg7.IsWhole) (arg8 : Memref sig .tc .vmem S16x1x16 .f32) (harg8 : arg8.IsWhole) (arg9 : Memref sig .tc .vmem S1x1x512 .i32) (harg9 : arg9.IsWhole) (arg10 : Memref sig .tc .vmem S1x1x512 .i32) (harg10 : arg10.IsWhole) (arg11 : Memref sig .tc .vmem S1x1x512 .i32) (harg11 : arg11.IsWhole) (arg12 : Memref sig .tc .vmem S1x1x512 .i32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S8x128 .f32) (harg15 : arg15.IsWhole) (hc0 : ¬cond0 i)
    (x0 : Vec F S1x8192 .f32) (x1 : Vec F S1x8192 .f32) (x2 : Vec F S1x8192 .i32) (x3 : Vec F S1x8192 .i32) (x4 : Vec F S8192x16 .f32) (x5 : Vec F S8192x16 .f32) (x6 : Vec F S16x1x16 .f32) (x7 : Vec F S16x1x16 .f32) (xl : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xl
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 i x0 x1 x2 x3 x4 x5 x6 x7) ∗ owns (c : Thread nD τ) arg10 fullShare (out9 i x0 x1 x2 x3 x4 x5 x6 x7) ∗ owns (c : Thread nD τ) arg11 fullShare (out10 i x0 x1 x2 x3 x4 x5 x6 x7) ∗ owns (c : Thread nD τ) arg12 fullShare (out11 i x0 x1 x2 x3 x4 x5 x6 x7) ∗ owns (c : Thread nD τ) arg13 fullShare (out12 i x0 x1 x2 x3 x4 x5 x6 x7) ∗ owns (c : Thread nD τ) arg14 fullShare (out13 i x0 x1 x2 x3 x4 x5 x6 x7) ∗ owns (c : Thread nD τ) arg15 fullShare xl) -∗ K ⟨⟩))
      ⊢ wp frame (wpE (defs₀ (F := F)) Variants.none c none) E (cc1__routing_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__routing_body_eq_skeleton]; unfold cc1__routing_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, Hk⟩
  subst hf0 hf1 hf2 hf3 hf4 hf5 hf6 hf7 hf14
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (coverI _)).trans ?_
    rfl
  isplitl [H9]
  · iexists _; isplitr
    swap; · iexact H9
    ipureintro
    refine (View.read_writes_eq_canon _ _ _ (coverI _)).trans ?_
    rfl
  isplitl [H10]
  · iexists _; isplitr
    swap; · iexact H10
    ipureintro
    refine (View.read_writes_eq_canon _ _ _ (coverI _)).trans ?_
    rfl
  isplitl [H11]
  · iexists _; isplitr
    swap; · iexact H11
    ipureintro
    refine (View.read_writes_eq_canon _ _ _ (coverI _)).trans ?_
    rfl
  isplitl [H12]
  · iexists _; isplitr
    swap; · iexact H12
    ipureintro
    refine (View.read_writes_eq_canon _ _ _ (coverF _)).trans ?_
    rfl
  isplitl [H13]
  · iexists _; isplitr
    swap; · iexact H13
    ipureintro
    refine (View.read_writes_eq_canon _ _ _ (coverF _)).trans ?_
    rfl
  iexists f14; isplitr; · ipureintro; rfl
  iexact H14

/-! ## The pipeline's proof data -/

/-- The first point. -/
abbrev t0 : Fin cfg1.N := ⟨0, Nat.lt_of_lt_of_eq (by decide : 0 < 16) N_1.symm⟩

/-- The arrays as the region finds them; after the body each input's buffer at its block, each output's at its `out`; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (out8 (grid1.coords t) (iblk V c 0 t) (iblk V c 1 t) (iblk V c 2 t) (iblk V c 3 t) (iblk V c 4 t) (iblk V c 5 t) (iblk V c 6 t) (iblk V c 7 t))
    | ⟨9, _⟩ => (out9 (grid1.coords t) (iblk V c 0 t) (iblk V c 1 t) (iblk V c 2 t) (iblk V c 3 t) (iblk V c 4 t) (iblk V c 5 t) (iblk V c 6 t) (iblk V c 7 t))
    | ⟨10, _⟩ => (out10 (grid1.coords t) (iblk V c 0 t) (iblk V c 1 t) (iblk V c 2 t) (iblk V c 3 t) (iblk V c 4 t) (iblk V c 5 t) (iblk V c 6 t) (iblk V c 7 t))
    | ⟨11, _⟩ => (out11 (grid1.coords t) (iblk V c 0 t) (iblk V c 1 t) (iblk V c 2 t) (iblk V c 3 t) (iblk V c 4 t) (iblk V c 5 t) (iblk V c 6 t) (iblk V c 7 t))
    | ⟨12, _⟩ => (out12 (grid1.coords t) (iblk V c 0 t) (iblk V c 1 t) (iblk V c 2 t) (iblk V c 3 t) (iblk V c 4 t) (iblk V c 5 t) (iblk V c 6 t) (iblk V c 7 t))
    | ⟨13, _⟩ => (out13 (grid1.coords t) (iblk V c 0 t) (iblk V c 1 t) (iblk V c 2 t) (iblk V c 3 t) (iblk V c 4 t) (iblk V c 5 t) (iblk V c 6 t) (iblk V c 7 t))
    | ⟨14, _⟩ => (out14 (iblk V c 6 t0) (iblk V c 7 t0))
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = (out8 (grid1.coords t) (iblk V c 0 t) (iblk V c 1 t) (iblk V c 2 t) (iblk V c 3 t) (iblk V c 4 t) (iblk V c 5 t) (iblk V c 6 t) (iblk V c 7 t)) := by dsimp only [dat]
theorem after_9 (c : Dev nD) (t : Fin cfg1.N) : (dat V c).after 9 t = (out9 (grid1.coords t) (iblk V c 0 t) (iblk V c 1 t) (iblk V c 2 t) (iblk V c 3 t) (iblk V c 4 t) (iblk V c 5 t) (iblk V c 6 t) (iblk V c 7 t)) := by dsimp only [dat]
theorem after_10 (c : Dev nD) (t : Fin cfg1.N) : (dat V c).after 10 t = (out10 (grid1.coords t) (iblk V c 0 t) (iblk V c 1 t) (iblk V c 2 t) (iblk V c 3 t) (iblk V c 4 t) (iblk V c 5 t) (iblk V c 6 t) (iblk V c 7 t)) := by dsimp only [dat]
theorem after_11 (c : Dev nD) (t : Fin cfg1.N) : (dat V c).after 11 t = (out11 (grid1.coords t) (iblk V c 0 t) (iblk V c 1 t) (iblk V c 2 t) (iblk V c 3 t) (iblk V c 4 t) (iblk V c 5 t) (iblk V c 6 t) (iblk V c 7 t)) := by dsimp only [dat]
theorem after_12 (c : Dev nD) (t : Fin cfg1.N) : (dat V c).after 12 t = (out12 (grid1.coords t) (iblk V c 0 t) (iblk V c 1 t) (iblk V c 2 t) (iblk V c 3 t) (iblk V c 4 t) (iblk V c 5 t) (iblk V c 6 t) (iblk V c 7 t)) := by dsimp only [dat]
theorem after_13 (c : Dev nD) (t : Fin cfg1.N) : (dat V c).after 13 t = (out13 (grid1.coords t) (iblk V c 0 t) (iblk V c 1 t) (iblk V c 2 t) (iblk V c 3 t) (iblk V c 4 t) (iblk V c 5 t) (iblk V c 6 t) (iblk V c 7 t)) := by dsimp only [dat]
theorem after_14 (c : Dev nD) (t : Fin cfg1.N) : (dat V c).after 14 t = (out14 (iblk V c 6 t0) (iblk V c 7 t0)) := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d
theorem before_6 (c : Dev nD) (t : Fin cfg1.N) (d) : (dat V c).before 6 t d = iblk V c 6 t :=
  before_6_of V (dat V c) (A_eq V c 6) (after_6 V c) t d
theorem before_7 (c : Dev nD) (t : Fin cfg1.N) (d) : (dat V c).before 7 t d = iblk V c 7 t :=
  before_7_of V (dat V c) (A_eq V c 7) (after_7 V c) t d

/-- Past the first point the balance term's buffer holds what the first point left. -/
theorem before_14_B (c : Dev nD) (t : Fin cfg1.N) (h0 : ¬t.val = 0) (d) :
    (dat V c).before 14 t d = (out14 (iblk V c 6 t0) (iblk V c 7 t0)) := by
  rw [Dat.before_out_traj _ 14 rfl (fun _ _ => rfl)
      (fun t _ _ _ => by rw [after_14, after_14]) t.val t rfl d,
    if_neg (by rw [notFresh t h0]; exact Bool.false_ne_true)]
  dsimp only [dat]

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t
    ∗ (dat V c).leavesExact 13 t
    ∗ (dat V c).leavesExact 14 t)

/-- The balance term's block after a later point, from what the first left. -/
theorem leaves_14_B (c : Dev nD) (t : Fin cfg1.N) (h0 : ¬t.val = 0) :
    (owns (c : Thread nD τ) (st1_14 t) fullShare (out14 (iblk V c 6 t0) (iblk V c 7 t0)) : sProp 𝕄) ⊢ (dat V c).leavesExact 14 t := by
  cases hf : (cfg1.win 14).flush t with
  | false =>
    rw [Dat.leavesExact_idle _ 14 t (idle14_B t h0) hf]
    simp only [before_14_B V c t h0]
    iintro H
    iexists (fun _ => default)
    iexact H
  | true =>
    unfold Dat.leavesExact
    rw [idle14_B t h0, hf, after_14]

set_option maxHeartbeats 1600000 in
/-- The body at any point, by its case. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).Φ t.succ = (dat V c).Φ t.castSucc from rfl,
    show (dat V c).owesAt () t.succ = (dat V c).owesAt () t.castSucc from rfl]
  rw [show (dat V c).leavesExact 0 t = owns (c : Thread nD τ) (st1_0 t) fullShare ((dat V c).after 0 t) from rfl, after_0]
  rw [show (dat V c).leavesExact 1 t = owns (c : Thread nD τ) (st1_1 t) fullShare ((dat V c).after 1 t) from rfl, after_1]
  rw [show (dat V c).leavesExact 2 t = owns (c : Thread nD τ) (st1_2 t) fullShare ((dat V c).after 2 t) from rfl, after_2]
  rw [show (dat V c).leavesExact 3 t = owns (c : Thread nD τ) (st1_3 t) fullShare ((dat V c).after 3 t) from rfl, after_3]
  rw [show (dat V c).leavesExact 4 t = owns (c : Thread nD τ) (st1_4 t) fullShare ((dat V c).after 4 t) from rfl, after_4]
  rw [show (dat V c).leavesExact 5 t = owns (c : Thread nD τ) (st1_5 t) fullShare ((dat V c).after 5 t) from rfl, after_5]
  rw [show (dat V c).leavesExact 6 t = owns (c : Thread nD τ) (st1_6 t) fullShare ((dat V c).after 6 t) from rfl, after_6]
  rw [show (dat V c).leavesExact 7 t = owns (c : Thread nD τ) (st1_7 t) fullShare ((dat V c).after 7 t) from rfl, after_7]
  rw [show (dat V c).leavesExact 8 t = owns (c : Thread nD τ) (st1_8 t) fullShare ((dat V c).after 8 t) from rfl, after_8]
  rw [show (dat V c).leavesExact 9 t = owns (c : Thread nD τ) (st1_9 t) fullShare ((dat V c).after 9 t) from rfl, after_9]
  rw [show (dat V c).leavesExact 10 t = owns (c : Thread nD τ) (st1_10 t) fullShare ((dat V c).after 10 t) from rfl, after_10]
  rw [show (dat V c).leavesExact 11 t = owns (c : Thread nD τ) (st1_11 t) fullShare ((dat V c).after 11 t) from rfl, after_11]
  rw [show (dat V c).leavesExact 12 t = owns (c : Thread nD τ) (st1_12 t) fullShare ((dat V c).after 12 t) from rfl, after_12]
  rw [show (dat V c).leavesExact 13 t = owns (c : Thread nD τ) (st1_13 t) fullShare ((dat V c).after 13 t) from rfl, after_13]
  by_cases h0 : t.val = 0
  · rw [show (dat V c).leavesExact 14 t = owns (c : Thread nD τ) (st1_14 t) fullShare ((dat V c).after 14 t) from by
      unfold Dat.leavesExact; rw [idle14_A t h0], after_14]
    obtain rfl : t = t0 := Fin.ext h0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (sound_A c Set.univ (grid1.coords t0) _ _ _ _ _ _ _ _ _ _ _ _ _ _ _ _ _ _ _ _ _ _ _ _ _ _ _ _ _ _ ((hcond0 t0).mpr h0) (iblk V c 0 t0) (iblk V c 1 t0) (iblk V c 2 t0) (iblk V c 3 t0) (iblk V c 4 t0) (iblk V c 5 t0) (iblk V c 6 t0) (iblk V c 7 t0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, H10, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · simp only [before_14_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (sound_B c Set.univ (grid1.coords t) _ _ _ _ _ _ _ _ _ _ _ _ _ _ _ _ _ _ _ _ _ _ _ _ _ _ _ _ _ _ (fun h => h0 ((hcond0 t).mp h)) (iblk V c 0 t) (iblk V c 1 t) (iblk V c 2 t) (iblk V c 3 t) (iblk V c 4 t) (iblk V c 5 t) (iblk V c 6 t) (iblk V c 7 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexact H14
    iintro ⟨H0, H1, H2, H3, H4, H5, H6, H7, H8, H9, H10, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iapply (leaves_14_B V c t h0)
    iexact H14

theorem defs₀_row (t : Fin cfg1.N) :
    defs₀ (F := F) .tc cfg1.body (cfg1.bodyArgs t (cfg1.slots t)) = bodyAt1 t := by
  unfold defs₀; rw [Defs.onTc_tc]

/-- The body obligation of the pipeline, at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.Route

end
-- ==== Proof.KernelIdeal.Ffn.lean ====
/-
  The feed-forward call: grid point `t` is expert `t / 4`, hidden block `t % 4`. What its body leaves in the output block
  in its two cases (first hidden block: start the sum; later ones: add to it), the triple of the body in each case, and the
  pipeline's proof data over any contents `V` of the buffers at its entry.
-/
module

public import proofs.«01_k».proof.Proof.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Ffn

open Cert.KernelIdeal.Gen Cert.KernelIdeal.Host
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every point, for proof data entering its array at `V` whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point, for proof data entering its array at `V` whose body leaves the block in place. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point, for proof data entering its array at `V` whose body leaves the block in place. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point, for proof data entering its array at `V` whose body leaves the block in place. -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's buffer holds its block at every point, for proof data entering its array at `V` whose body leaves the block in place. -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The two cases of the body -/

/-- The first hidden block: the sum is started. -/
abbrev cond0 (i : grid2.Coords) : Prop := k2_cond1 i = 1#1
theorem hcond0 : ∀ t : Fin cfg2.N, cond0 (grid2.coords t) ↔ t.val % 4 = 0 :=
  (fun t => by
    have ht : t.val < 64 := Nat.lt_of_lt_of_eq t.isLt N_2
    have e0 : (grid2.coords t 0).val = t.val / 4 % 16 := Pipeline.Grid.coords_val t 0 (by decide) rfl
    have e1 : (grid2.coords t 1).val = t.val / 1 % 4 := Pipeline.Grid.coords_val t 1 (by decide) rfl
    simp only [cond0, k2_cond1, e0, e1]
    word_cmp
   : ∀ t : Fin grid2.N, cond0 (grid2.coords t) ↔ t.val % 4 = 0)

/-- A later hidden block: the sum is added to. -/
abbrev cond1 (i : grid2.Coords) : Prop := k2_cond2 i = 1#1
theorem hcond1 : ∀ t : Fin cfg2.N, cond1 (grid2.coords t) ↔ 1 ≤ t.val % 4 :=
  (fun t => by
    have ht : t.val < 64 := Nat.lt_of_lt_of_eq t.isLt N_2
    have e0 : (grid2.coords t 0).val = t.val / 4 % 16 := Pipeline.Grid.coords_val t 0 (by decide) rfl
    have e1 : (grid2.coords t 1).val = t.val / 1 % 4 := Pipeline.Grid.coords_val t 1 (by decide) rfl
    simp only [cond1, k2_cond2, e0, e1]
    word_cmp
   : ∀ t : Fin grid2.N, cond1 (grid2.coords t) ↔ 1 ≤ t.val % 4)

/-- The output block is live at every point. -/
theorem liveAt5 : ∀ t : Fin cfg2.N, cfg2.idle 5 (grid2.coords t) = false := by decide +kernel
/-- Whether the output buffer is fresh at each position: it is after each write-back, every fourth point. -/
def freshTab : ℕ → Bool
  | 0 => true
  | n + 1 => (0x8888888888888888 : ℕ).testBit n
theorem freshTab_step : ∀ t : Fin cfg2.N,
    freshTab (t.val + 1) = ((cfg2.win 5).flush t || (cfg2.idle 5 (cfg2.grid.coords t) && freshTab t.val)) := by decide +kernel
theorem fresh_eq (t : Fin cfg2.N) : cfg2.fresh 5 t.val = freshTab t.val :=
  Pipeline.Cfg.fresh_tab cfg2 5 freshTab rfl freshTab_step t.val (Nat.le_of_lt t.isLt)
/-- At a later hidden block the output buffer still holds the running sum. -/
theorem notFresh : ∀ t : Fin cfg2.N, ¬cond0 (grid2.coords t) → cond1 (grid2.coords t) → cfg2.fresh 5 t.val = false := by
  intro t; rw [fresh_eq t]; revert t; decide +kernel

/-! ## What the body leaves in the output block -/

abbrev rX : Rect S1280x1024 := Rect.unit (s := S1280x1024) ![0, 0] S1280x1024.size inb_S1280x1024_S1280x1024_0_0
abbrev rW : Rect S1x1024x1024 := Rect.unit (s := S1x1024x1024) ![0, 0, 0] S1x1024x1024.size inb_S1x1024x1024_S1x1024x1024_0_0_0
abbrev rB1 (i : grid2.Coords) : Rect S16x4096 := Rect.unit (s := S16x4096) (k2_off1 i) S1x1024.size (k2_off1_inb i)
abbrev rB2 (i : grid2.Coords) (h : cond0 i) : Rect S16x1024 := Rect.unit (s := S16x1024) (k2_off2 i) S1x1024.size (k2_off2_inb i h)

/-- At the first hidden block. -/
def outA (i : grid2.Coords) (h : cond0 i) (x0 : Vec F S1280x1024 .f32) (x1 : Vec F S1x1024x1024 .f32) (x2 : Vec F S16x4096 .f32) (x3 : Vec F S1x1024x1024 .f32) (x4 : Vec F S16x1024 .f32) : Vec F S1280x1024 .f32 :=
  View.canon [⟨rX, k2_pay2 (View.ld x0 rX) (View.ld x1 rW) (View.ld x2 (rB1 i)) (View.ld x3 rW) (View.ld x4 (rB2 i h))⟩]

/-- At a later hidden block, over the running sum `xo`. -/
def outB (i : grid2.Coords) (x0 : Vec F S1280x1024 .f32) (x1 : Vec F S1x1024x1024 .f32) (x2 : Vec F S16x4096 .f32) (x3 : Vec F S1x1024x1024 .f32) (x4 : Vec F S16x1024 .f32) (xo : Vec F S1280x1024 .f32) : Vec F S1280x1024 .f32 :=
  View.canon [⟨rX, k2_pay3 (View.ld x0 rX) (View.ld x1 rW) (View.ld x2 (rB1 i)) (View.ld x3 rW) (View.ld xo rX)⟩]

/-- The one store covers the block. -/
theorem cover (p0 : Vec F S1280x1024 .f32) (y : S1280x1024.Idx) :
    ∃ pc ∈ ([⟨rX, p0⟩] : List (View.Piece (Elt F) S1280x1024 .f32)), y ∈ pc.1.set :=
  View.cover_of_tiledL [⟨rX, p0⟩] S1280x1024.size (by sl_kernel_rfl) y

/-! ## The body's triples -/

set_option maxHeartbeats 1000000 in
/-- The body in case A: the inputs' buffers stay, the output's ends at `outA`. -/
theorem sound_A (c : Dev nD) (E : Set ℕ) (i : grid2.Coords) (arg2 : Memref sig .tc .vmem S1280x1024 .f32) (harg2 : arg2.IsWhole) (arg3 : Memref sig .tc .vmem S1x1024x1024 .f32) (harg3 : arg3.IsWhole) (arg4 : Memref sig .tc .vmem S16x4096 .f32) (harg4 : arg4.IsWhole) (arg5 : Memref sig .tc .vmem S1x1024x1024 .f32) (harg5 : arg5.IsWhole) (arg6 : Memref sig .tc .vmem S16x1024 .f32) (harg6 : arg6.IsWhole) (arg7 : Memref sig .tc .vmem S1280x1024 .f32) (harg7 : arg7.IsWhole) (hc0 : cond0 i) (hc1 : ¬cond1 i)
    (x0 : Vec F S1280x1024 .f32) (x1 : Vec F S1x1024x1024 .f32) (x2 : Vec F S16x4096 .f32) (x3 : Vec F S1x1024x1024 .f32) (x4 : Vec F S16x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outA i hc0 x0 x1 x2 x3 x4)) -∗ K ⟨⟩))
      ⊢ wp frame (wpE (defs₀ (F := F)) Variants.none c none) E (cc2__ffn_body i arg2 harg2 arg3 harg3 arg4 harg4 arg5 harg5 arg6 harg6 arg7 harg7) K := by
  simp only [cc2__ffn_body_eq_skeleton]; unfold cc2__ffn_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover _)).trans ?_
  rfl

set_option maxHeartbeats 1000000 in
/-- The body in case B: the inputs' buffers stay, the output's ends at `outB`. -/
theorem sound_B (c : Dev nD) (E : Set ℕ) (i : grid2.Coords) (arg2 : Memref sig .tc .vmem S1280x1024 .f32) (harg2 : arg2.IsWhole) (arg3 : Memref sig .tc .vmem S1x1024x1024 .f32) (harg3 : arg3.IsWhole) (arg4 : Memref sig .tc .vmem S16x4096 .f32) (harg4 : arg4.IsWhole) (arg5 : Memref sig .tc .vmem S1x1024x1024 .f32) (harg5 : arg5.IsWhole) (arg6 : Memref sig .tc .vmem S16x1024 .f32) (harg6 : arg6.IsWhole) (arg7 : Memref sig .tc .vmem S1280x1024 .f32) (harg7 : arg7.IsWhole) (hc0 : ¬cond0 i) (hc1 : cond1 i)
    (x0 : Vec F S1280x1024 .f32) (x1 : Vec F S1x1024x1024 .f32) (x2 : Vec F S16x4096 .f32) (x3 : Vec F S1x1024x1024 .f32) (x4 : Vec F S16x1024 .f32) (xo : Vec F S1280x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outB i x0 x1 x2 x3 x4 xo)) -∗ K ⟨⟩))
      ⊢ wp frame (wpE (defs₀ (F := F)) Variants.none c none) E (cc2__ffn_body i arg2 harg2 arg3 harg3 arg4 harg4 arg5 harg5 arg6 harg6 arg7 harg7) K := by
  simp only [cc2__ffn_body_eq_skeleton]; unfold cc2__ffn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover _)).trans ?_
  rfl

/-! ## What the output buffer holds point by point -/

/-- The contents after point `n`: the running sum over the hidden blocks of the expert. -/
def outsAt (c : Dev nD) : (n : ℕ) → n < cfg2.N → Vec F S1280x1024 .f32
  | 0, hn => outA (grid2.coords ⟨0, hn⟩) ((hcond0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩)
  | n + 1, hn =>
    if h0 : (n + 1) % 4 = 0 then outA (grid2.coords ⟨n + 1, hn⟩) ((hcond0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩)
    else outB (grid2.coords ⟨n + 1, hn⟩) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn))

theorem outsAt_A (c : Dev nD) (t : Fin cfg2.N) (h0 : t.val % 4 = 0) :
    outsAt V c t.val t.isLt = outA (grid2.coords t) ((hcond0 t).mpr h0) (iblk V c 0 t) (iblk V c 1 t) (iblk V c 2 t) (iblk V c 3 t) (iblk V c 4 t) := by
  obtain ⟨n, hn⟩ := t
  cases n with
  | zero => exact rfl
  | succ n => exact dif_pos h0

theorem outsAt_B (c : Dev nD) (t : Fin cfg2.N) (h0 : ¬t.val % 4 = 0) :
    outsAt V c t.val t.isLt = outB (grid2.coords t) (iblk V c 0 t) (iblk V c 1 t) (iblk V c 2 t) (iblk V c 3 t) (iblk V c 4 t) (outsAt V c (t.val - 1) (Nat.lt_of_le_of_lt (Nat.sub_le _ _) t.isLt)) := by
  obtain ⟨n, hn⟩ := t
  cases n with
  | zero => exact absurd (Nat.zero_mod _) h0
  | succ n => exact dif_neg h0

/-! ## The pipeline's proof data -/

/-- The arrays as the region finds them; after the body each input's buffer at its block, the output's at `outsAt`; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt)
  Φ _ := Pipeline.ΦA spec2 c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = (outsAt V c t.val t.isLt) := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d

/-- At a later hidden block the output buffer holds what the point before left. -/
theorem before_5_B (c : Dev nD) (t : Fin cfg2.N) (h0 : ¬t.val % 4 = 0) (d) :
    (dat V c).before 5 t d = (outsAt V c (t.val - 1) (Nat.lt_of_le_of_lt (Nat.sub_le _ _) t.isLt)) := by
  rw [Dat.before_out_traj _ 5 rfl (fun _ _ => rfl)
      (fun t _ hi _ => absurd ((liveAt5 t).symm.trans hi) Bool.false_ne_true) t.val t rfl d,
    if_neg (by rw [notFresh t (fun h => h0 ((hcond0 t).mp h)) ((hcond1 t).mpr (by omega))]; exact Bool.false_ne_true)]
  dsimp only [dat]

/-! ## The body obligation -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 800000 in
/-- The body at any point, by its case. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl]
  rw [show (dat V c).leavesExact 0 t = owns (c : Thread nD τ) (st2_0 t) fullShare ((dat V c).after 0 t) from rfl, after_0]
  rw [show (dat V c).leavesExact 1 t = owns (c : Thread nD τ) (st2_1 t) fullShare ((dat V c).after 1 t) from rfl, after_1]
  rw [show (dat V c).leavesExact 2 t = owns (c : Thread nD τ) (st2_2 t) fullShare ((dat V c).after 2 t) from rfl, after_2]
  rw [show (dat V c).leavesExact 3 t = owns (c : Thread nD τ) (st2_3 t) fullShare ((dat V c).after 3 t) from rfl, after_3]
  rw [show (dat V c).leavesExact 4 t = owns (c : Thread nD τ) (st2_4 t) fullShare ((dat V c).after 4 t) from rfl, after_4]
  rw [show (dat V c).leavesExact 5 t = owns (c : Thread nD τ) (st2_5 t) fullShare ((dat V c).after 5 t) from by
    unfold Dat.leavesExact; rw [liveAt5 t], after_5]
  by_cases h0 : t.val % 4 = 0
  · rw [outsAt_A V c t h0]
    iintro ⟨HΦ, Ho, ⟨%d0, H0⟩, ⟨%d1, H1⟩, ⟨%d2, H2⟩, ⟨%d3, H3⟩, ⟨%d4, H4⟩, ⟨%d5, H5⟩⟩
    iapply (sound_A c Set.univ (grid2.coords t) _ _ _ _ _ _ _ _ _ _ _ _ ((hcond0 t).mpr h0) (fun h => absurd ((hcond1 t).mp h) (by omega)) (iblk V c 0 t) (iblk V c 1 t) (iblk V c 2 t) (iblk V c 3 t) (iblk V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [outsAt_B V c t h0]
    simp only [before_5_B V c t h0]
    iintro ⟨HΦ, Ho, ⟨%d0, H0⟩, ⟨%d1, H1⟩, ⟨%d2, H2⟩, ⟨%d3, H3⟩, ⟨%d4, H4⟩, ⟨%d5, H5⟩⟩
    iapply (sound_B c Set.univ (grid2.coords t) _ _ _ _ _ _ _ _ _ _ _ _ (fun h => h0 ((hcond0 t).mp h)) ((hcond1 t).mpr (by omega)) (iblk V c 0 t) (iblk V c 1 t) (iblk V c 2 t) (iblk V c 3 t) (iblk V c 4 t) _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg2.N) :
    defs₀ (F := F) .tc cfg2.body (cfg2.bodyArgs t (cfg2.slots t)) = bodyAt2 t := by
  unfold defs₀; rw [Defs.onTc_tc]

/-- The body obligation of the pipeline, at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.KernelIdeal.Ffn

end
-- ==== Proof.KernelIdeal.Run.lean ====
/-
  The run of the whole program: what every buffer holds between the host stretches and the three calls (`U0` … `U7`), and
  the theorem that every run ends, with each argument as launched, the two results at `U7` and every counter at zero.
-/
module

public import proofs.«01_k».proof.Proof.KernelIdeal.Gate
public import proofs.«01_k».proof.Proof.KernelIdeal.Route
public import proofs.«01_k».proof.Proof.KernelIdeal.Ffn
public import Idealize.ShloMosaic.Lib.Pipeline.RegionArraysS
public import Idealize.ShloMosaic.Lib.Pipeline.Frame
public import Idealize.ShloMosaic.Lib.Pipeline.Value

@[expose] public section

set_option maxRecDepth 16384

noncomputable section

namespace Cert.KernelIdeal.Run

open Cert.KernelIdeal.Gen Cert.KernelIdeal.Host
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- The TensorCore's buffers of a valuation. -/
abbrev tcOf (U : Dev nD → Valuation τ sig (Elt F)) : (c : Dev nD) → (b : Ref sig .tc) → Buf (Elt F) ((c : Thread nD τ).loc b) :=
  fun c b => U c (Proc.devRef .tc b)

/-- At launch, -/
abbrev U0 (c : Dev nD) : Valuation τ sig (Elt F) := fun b => m (c, b)
/-- at the gating call's entry, -/
abbrev U1 (c : Dev nD) : Valuation τ sig (Elt F) := StableHlo.after hostOps0 (U0 m c)
/-- the gating call's proof data, -/
abbrev dat0 (c : Dev nD) : Dat τ (Elt F) Unit ℕ (UR sig nD τ) ℕ cfg0 c := Gate.dat (tcOf (U1 m)) c
/-- at its exit, -/
def U2 (c : Dev nD) : Valuation τ sig (Elt F) := Pipeline.afterRegion (dat0 m c) (U1 m c)
/-- at the routing call's entry, -/
abbrev U3 (c : Dev nD) : Valuation τ sig (Elt F) := StableHlo.after hostOps1 (U2 m c)
/-- the routing call's proof data, -/
abbrev dat1 (c : Dev nD) : Dat τ (Elt F) Unit ℕ (UR sig nD τ) ℕ cfg1 c := Route.dat (tcOf (U3 m)) c
/-- at its exit, -/
def U4 (c : Dev nD) : Valuation τ sig (Elt F) := Pipeline.afterRegion (dat1 m c) (U3 m c)
/-- at the feed-forward call's entry, -/
abbrev U5 (c : Dev nD) : Valuation τ sig (Elt F) := StableHlo.after hostOps2 (U4 m c)
/-- the feed-forward call's proof data, -/
abbrev dat2 (c : Dev nD) : Dat τ (Elt F) Unit ℕ (UR sig nD τ) ℕ cfg2 c := Ffn.dat (tcOf (U5 m)) c
/-- at its exit, -/
def U6 (c : Dev nD) : Valuation τ sig (Elt F) := Pipeline.afterRegion (dat2 m c) (U5 m c)
/-- and at the end. -/
abbrev U7 (c : Dev nD) : Valuation τ sig (Elt F) := StableHlo.after hostOps3 (U6 m c)

/-- The three calls' proof data. -/
abbrev pdats : (p : Fin 3) → (c : Dev nD) → Dat τ (Elt F) Unit ℕ (UR sig nD τ) ℕ (cfgs p) c := fun
  | 0 => dat0 m
  | 1 => dat1 m
  | 2 => dat2 m
  | ⟨n + 3, h⟩ => absurd h (by omega)

/-! ## What the host stretches write -/

theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3, main_v4, main_v5]
theorem hostOps1_writes : (hostOps1 : List (HloOp τ sig (Elt F))).Forall fun op => op.writes ⊆ (hostOps1_W.map (Proc.devRef (τ := τ) .tc)).toFinset :=
  StableHlo.forall_writes_sub_of_map rfl
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v7, main_v8, main_v9, main_v10, main_v11, main_v12, main_cst, main_v13, main_c, main_v14, main_v15, main_c_0, main_v16, main_v17, main_v18, main_v19, main_v20, main_c_1, main_v21, main_v22, main_c_2, main_v23, main_v24, main_v25, main_v26, main_v27]
theorem hostOps2_writes : (hostOps2 : List (HloOp τ sig (Elt F))).Forall fun op => op.writes ⊆ (hostOps2_W.map (Proc.devRef (τ := τ) .tc)).toFinset :=
  StableHlo.forall_writes_sub_of_map rfl
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_c_3, main_v29, main_v30, main_c_4, main_v31, main_v32, main_v33, main_v34, main_v35, main_v36, main_v37, main_v38, main_c_5, main_v39, main_v40, main_c_6, main_v41, main_v42, main_v43, main_v44, main_v45, main_v46, main_v47, main_v48, main_v49, main_v50, main_v51, main_v52]
theorem hostOps3_writes : (hostOps3 : List (HloOp τ sig (Elt F))).Forall fun op => op.writes ⊆ (hostOps3_W.map (Proc.devRef (τ := τ) .tc)).toFinset :=
  StableHlo.forall_writes_sub_of_map rfl

/-! ## What each item leaves unchanged -/

theorem U1_of (c : Dev nD) (r : Ref sig .tc) (h : r ∉ hostOps0_W) : U1 m c (Proc.devRef .tc r) = U0 m c (Proc.devRef .tc r) :=
  StableHlo.after_of_writes_sub hostOps0 _ hostOps0_writes h
theorem U3_of (c : Dev nD) (r : Ref sig .tc) (h : r ∉ hostOps1_W) : U3 m c (Proc.devRef .tc r) = U2 m c (Proc.devRef .tc r) :=
  StableHlo.after_of_writes_sub hostOps1 _ hostOps1_writes h
theorem U5_of (c : Dev nD) (r : Ref sig .tc) (h : r ∉ hostOps2_W) : U5 m c (Proc.devRef .tc r) = U4 m c (Proc.devRef .tc r) :=
  StableHlo.after_of_writes_sub hostOps2 _ hostOps2_writes h
theorem U7_of (c : Dev nD) (r : Ref sig .tc) (h : r ∉ hostOps3_W) : U7 m c (Proc.devRef .tc r) = U6 m c (Proc.devRef .tc r) :=
  StableHlo.after_of_writes_sub hostOps3 _ hostOps3_writes h
theorem U2_of (c : Dev nD) (r : Ref sig .tc) (h : ∀ w, Pipeline.arrRef spec0 w = r → (cfg0.win w).isOut = false) :
    U2 m c (Proc.devRef .tc r) = U1 m c (Proc.devRef .tc r) :=
  Pipeline.afterRegion_keeps (dat0 m c) (U1 m c) launch0.win.arr_inj (fun w => Gate.A_eq (tcOf (U1 m)) c w) r h
theorem U2_arr (c : Dev nD) (w : Fin cfg0.W) : U2 m c (Proc.devRef .tc (Pipeline.arrRef spec0 w)) = (dat0 m c).arrAt w cfg0.N :=
  Pipeline.afterRegion_arr (dat0 m c) (U1 m c) launch0.win.arr_inj w
theorem U4_of (c : Dev nD) (r : Ref sig .tc) (h : ∀ w, Pipeline.arrRef spec1 w = r → (cfg1.win w).isOut = false) :
    U4 m c (Proc.devRef .tc r) = U3 m c (Proc.devRef .tc r) :=
  Pipeline.afterRegion_keeps (dat1 m c) (U3 m c) launch1.win.arr_inj (fun w => Route.A_eq (tcOf (U3 m)) c w) r h
theorem U4_arr (c : Dev nD) (w : Fin cfg1.W) : U4 m c (Proc.devRef .tc (Pipeline.arrRef spec1 w)) = (dat1 m c).arrAt w cfg1.N :=
  Pipeline.afterRegion_arr (dat1 m c) (U3 m c) launch1.win.arr_inj w
theorem U6_of (c : Dev nD) (r : Ref sig .tc) (h : ∀ w, Pipeline.arrRef spec2 w = r → (cfg2.win w).isOut = false) :
    U6 m c (Proc.devRef .tc r) = U5 m c (Proc.devRef .tc r) :=
  Pipeline.afterRegion_keeps (dat2 m c) (U5 m c) launch2.win.arr_inj (fun w => Ffn.A_eq (tcOf (U5 m)) c w) r h
theorem U6_arr (c : Dev nD) (w : Fin cfg2.W) : U6 m c (Proc.devRef .tc (Pipeline.arrRef spec2 w)) = (dat2 m c).arrAt w cfg2.N :=
  Pipeline.afterRegion_arr (dat2 m c) (U5 m c) launch2.win.arr_inj w

/-- `main_arg0` is never written. -/
theorem U7_main_arg0 (c : Dev nD) : U7 m c (Proc.devRef .tc main_arg0) = m ((c : Thread nD τ).loc main_arg0) :=
  (U7_of m c main_arg0 (by decide)).trans <| (U6_of m c main_arg0 (by decide)).trans <| (U5_of m c main_arg0 (by decide)).trans <|
    (U4_of m c main_arg0 (by decide)).trans <| (U3_of m c main_arg0 (by decide)).trans <| (U2_of m c main_arg0 (by decide)).trans <|
    (U1_of m c main_arg0 (by decide)).trans rfl

/-- `main_arg1` is never written. -/
theorem U7_main_arg1 (c : Dev nD) : U7 m c (Proc.devRef .tc main_arg1) = m ((c : Thread nD τ).loc main_arg1) :=
  (U7_of m c main_arg1 (by decide)).trans <| (U6_of m c main_arg1 (by decide)).trans <| (U5_of m c main_arg1 (by decide)).trans <|
    (U4_of m c main_arg1 (by decide)).trans <| (U3_of m c main_arg1 (by decide)).trans <| (U2_of m c main_arg1 (by decide)).trans <|
    (U1_of m c main_arg1 (by decide)).trans rfl

/-- `main_arg2` is never written. -/
theorem U7_main_arg2 (c : Dev nD) : U7 m c (Proc.devRef .tc main_arg2) = m ((c : Thread nD τ).loc main_arg2) :=
  (U7_of m c main_arg2 (by decide)).trans <| (U6_of m c main_arg2 (by decide)).trans <| (U5_of m c main_arg2 (by decide)).trans <|
    (U4_of m c main_arg2 (by decide)).trans <| (U3_of m c main_arg2 (by decide)).trans <| (U2_of m c main_arg2 (by decide)).trans <|
    (U1_of m c main_arg2 (by decide)).trans rfl

/-- `main_arg3` is never written. -/
theorem U7_main_arg3 (c : Dev nD) : U7 m c (Proc.devRef .tc main_arg3) = m ((c : Thread nD τ).loc main_arg3) :=
  (U7_of m c main_arg3 (by decide)).trans <| (U6_of m c main_arg3 (by decide)).trans <| (U5_of m c main_arg3 (by decide)).trans <|
    (U4_of m c main_arg3 (by decide)).trans <| (U3_of m c main_arg3 (by decide)).trans <| (U2_of m c main_arg3 (by decide)).trans <|
    (U1_of m c main_arg3 (by decide)).trans rfl

/-- `main_arg4` is never written. -/
theorem U7_main_arg4 (c : Dev nD) : U7 m c (Proc.devRef .tc main_arg4) = m ((c : Thread nD τ).loc main_arg4) :=
  (U7_of m c main_arg4 (by decide)).trans <| (U6_of m c main_arg4 (by decide)).trans <| (U5_of m c main_arg4 (by decide)).trans <|
    (U4_of m c main_arg4 (by decide)).trans <| (U3_of m c main_arg4 (by decide)).trans <| (U2_of m c main_arg4 (by decide)).trans <|
    (U1_of m c main_arg4 (by decide)).trans rfl

/-- `main_arg5` is never written. -/
theorem U7_main_arg5 (c : Dev nD) : U7 m c (Proc.devRef .tc main_arg5) = m ((c : Thread nD τ).loc main_arg5) :=
  (U7_of m c main_arg5 (by decide)).trans <| (U6_of m c main_arg5 (by decide)).trans <| (U5_of m c main_arg5 (by decide)).trans <|
    (U4_of m c main_arg5 (by decide)).trans <| (U3_of m c main_arg5 (by decide)).trans <| (U2_of m c main_arg5 (by decide)).trans <|
    (U1_of m c main_arg5 (by decide)).trans rfl

/-! ## The segments -/

/-- The prefetched tables' admissible contents: no call has a table. -/
abbrev adm : (p : Fin 3) → (pcfgs (F := F) p).Adm := fun p => (cfgs p).toPCfg_adm

/-- Every TensorCore counter has the one level. -/
def L₀ : GSem nD τ sig → Finset Unit := fun g => if g.1.2 = .tc then {()} else ∅
def lv₀ : GSem nD τ sig → Unit → ℕ := fun _ _ => 0

/-- What rides along between items: nothing owed, and the generator register. -/
abbrev Rest (c : Dev nD) : sProp 𝕄 := iprop((∃ W, owes (c : Thread nD τ) (0 : CellTallies nD τ sig Unit) W) ∗ (∃ r, prngReg c r) ∗ emp)

/-- Host stretch 0. -/
def hseg0 : HostSeg (Ix := Unit) (Name := ℕ) (U := UR sig nD τ) (Lvl := ℕ) (pcfgs (F := F)) defs₀ Variants.none L₀ lv₀ :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) Rest
/-- Host stretch 1. -/
def hseg1 : HostSeg (Ix := Unit) (Name := ℕ) (U := UR sig nD τ) (Lvl := ℕ) (pcfgs (F := F)) defs₀ Variants.none L₀ lv₀ :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) Rest
/-- Host stretch 2. -/
def hseg2 : HostSeg (Ix := Unit) (Name := ℕ) (U := UR sig nD τ) (Lvl := ℕ) (pcfgs (F := F)) defs₀ Variants.none L₀ lv₀ :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U4 m) Rest
/-- Host stretch 3. -/
def hseg3 : HostSeg (Ix := Unit) (Name := ℕ) (U := UR sig nD τ) (Lvl := ℕ) (pcfgs (F := F)) defs₀ Variants.none L₀ lv₀ :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (U6 m) Rest

theorem mem_L₀ (c : Dev nD) (s : SemLoc sig) : () ∈ L₀ ((c : Thread nD τ), s) := by
  unfold L₀; rw [if_pos rfl]; exact Finset.mem_singleton_self _

theorem cut (p : Fin 3) : Pipeline.LevelCut (pcfgs (F := F)) adm () L₀ lv₀ p (fun _ => 0) (fun _ => 0) where
  hι c w s := mem_L₀ c _
  hιb c w s := Nat.le_refl _
  hD c g i h := absurd h (Nat.lt_irrefl 0)

set_option backward.isDefEq.respectTransparency.types false in
/-- Call 0 as a segment. -/
def rseg0 : RegionSeg (pcfgs (F := F)) adm (pdats m) () defs₀ Variants.none L₀ lv₀ 0 :=
  RegionSeg.ofHeldIn (pcfgs (F := F)) adm (pdats m) () defs₀ Variants.none L₀ lv₀ 0 (fun _ => 0) (Pipeline.ucRefs τ sig)
    (fun c => iprop(∃ r, prngReg c r)) (fun c => iprop(∃ r, prngReg c r)) launch0.toP rfl
    (fun c => (Gate.body_obligation (tcOf (U1 m)) c).loose) (fun _ _ => rfl) (fun _ => rfl) (fun c w => (dat0 m c).share_full (fun _ => rfl) w)
    (fun _ => .rfl) (fun _ => .rfl) (fun _ => 0) (cut 0) (fun _ => iprop(emp)) (U1 m)
    (fun c w => Gate.A_eq (tcOf (U1 m)) c w)

set_option backward.isDefEq.respectTransparency.types false in
/-- Call 1 as a segment. -/
def rseg1 : RegionSeg (pcfgs (F := F)) adm (pdats m) () defs₀ Variants.none L₀ lv₀ 1 :=
  RegionSeg.ofHeldIn (pcfgs (F := F)) adm (pdats m) () defs₀ Variants.none L₀ lv₀ 1 (fun _ => 0) (Pipeline.ucRefs τ sig)
    (fun c => iprop(∃ r, prngReg c r)) (fun c => iprop(∃ r, prngReg c r)) launch1.toP rfl
    (fun c => (Route.body_obligation (tcOf (U3 m)) c).loose) (fun _ _ => rfl) (fun _ => rfl) (fun c w => (dat1 m c).share_full (fun _ => rfl) w)
    (fun _ => .rfl) (fun _ => .rfl) (fun _ => 0) (cut 1) (fun _ => iprop(emp)) (U3 m)
    (fun c w => Route.A_eq (tcOf (U3 m)) c w)

set_option backward.isDefEq.respectTransparency.types false in
/-- Call 2 as a segment. -/
def rseg2 : RegionSeg (pcfgs (F := F)) adm (pdats m) () defs₀ Variants.none L₀ lv₀ 2 :=
  RegionSeg.ofHeldIn (pcfgs (F := F)) adm (pdats m) () defs₀ Variants.none L₀ lv₀ 2 (fun _ => 0) (Pipeline.ucRefs τ sig)
    (fun c => iprop(∃ r, prngReg c r)) (fun c => iprop(∃ r, prngReg c r)) launch2.toP rfl
    (fun c => (Ffn.body_obligation (tcOf (U5 m)) c).loose) (fun _ _ => rfl) (fun _ => rfl) (fun c w => (dat2 m c).share_full (fun _ => rfl) w)
    (fun _ => .rfl) (fun _ => .rfl) (fun _ => 0) (cut 2) (fun _ => iprop(emp)) (U5 m)
    (fun c w => Ffn.A_eq (tcOf (U5 m)) c w)

/-- The program's items on core `c`. -/
abbrev segs (c : Dev nD) : List (Seg (pcfgs (F := F)) adm (pdats m) () defs₀ Variants.none L₀ lv₀) :=
  [.host (hseg0 m), .region (rseg0 m), .host (hseg1 m), .region (rseg1 m), .host (hseg2 m), .region (rseg2 m), .host (hseg3 m)]

/-- The TensorCore has no unscoped semaphore. -/
theorem regions_no_unscoped : ∀ sm : SemLoc sig, sm.isScoped .tc = true := by decide

theorem arrs0 : Pipeline.arrRefs (τ := τ) spec0 ⊆ Pipeline.ucRefs τ sig := by decide
/-- Call 0's segment is entered from the buffers as they are, -/
theorem pre0 (c : Dev nD) : (iprop(StableHlo.held (c : Thread nD τ) (Pipeline.ucRefs τ sig) (U1 m c) ∗ Rest c) : sProp 𝕄) ⊢ (rseg0 m).pre c := by
  unfold rseg0
  exact RegionSeg.ofHeldIn_pre (pcs := pcfgs (F := F)) (p := 0) (D := fun _ => 0) (X := fun c => iprop(∃ r, prngReg c r)) (R := fun _ => iprop(emp)) (W := U1 m) arrs0 c
/-- and left with its output arrays written. -/
theorem post0 (c : Dev nD) : (rseg0 m).post c ⊢ (iprop(StableHlo.held (c : Thread nD τ) (Pipeline.ucRefs τ sig) (U2 m c) ∗ Rest c) : sProp 𝕄) :=
  RegionSeg.ofHeldIn_post (pcs := pcfgs (F := F)) (p := 0) arrs0 c
theorem arrs1 : Pipeline.arrRefs (τ := τ) spec1 ⊆ Pipeline.ucRefs τ sig := by decide
/-- Call 1's segment is entered from the buffers as they are, -/
theorem pre1 (c : Dev nD) : (iprop(StableHlo.held (c : Thread nD τ) (Pipeline.ucRefs τ sig) (U3 m c) ∗ Rest c) : sProp 𝕄) ⊢ (rseg1 m).pre c := by
  unfold rseg1
  exact RegionSeg.ofHeldIn_pre (pcs := pcfgs (F := F)) (p := 1) (D := fun _ => 0) (X := fun c => iprop(∃ r, prngReg c r)) (R := fun _ => iprop(emp)) (W := U3 m) arrs1 c
/-- and left with its output arrays written. -/
theorem post1 (c : Dev nD) : (rseg1 m).post c ⊢ (iprop(StableHlo.held (c : Thread nD τ) (Pipeline.ucRefs τ sig) (U4 m c) ∗ Rest c) : sProp 𝕄) :=
  RegionSeg.ofHeldIn_post (pcs := pcfgs (F := F)) (p := 1) arrs1 c
theorem arrs2 : Pipeline.arrRefs (τ := τ) spec2 ⊆ Pipeline.ucRefs τ sig := by decide
/-- Call 2's segment is entered from the buffers as they are, -/
theorem pre2 (c : Dev nD) : (iprop(StableHlo.held (c : Thread nD τ) (Pipeline.ucRefs τ sig) (U5 m c) ∗ Rest c) : sProp 𝕄) ⊢ (rseg2 m).pre c := by
  unfold rseg2
  exact RegionSeg.ofHeldIn_pre (pcs := pcfgs (F := F)) (p := 2) (D := fun _ => 0) (X := fun c => iprop(∃ r, prngReg c r)) (R := fun _ => iprop(emp)) (W := U5 m) arrs2 c
/-- and left with its output arrays written. -/
theorem post2 (c : Dev nD) : (rseg2 m).post c ⊢ (iprop(StableHlo.held (c : Thread nD τ) (Pipeline.ucRefs τ sig) (U6 m c) ∗ Rest c) : sProp 𝕄) :=
  RegionSeg.ofHeldIn_post (pcs := pcfgs (F := F)) (p := 2) arrs2 c

set_option backward.isDefEq.respectTransparency.types false in
/-- Every run of the program ends, with the arguments as launched, the results at `U7`, and every counter at zero. -/
theorem run (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.mem ((c.tc : Thread nD τ).loc main_v50) = U7 m c (Proc.devRef .tc main_v50) ∧ r.2.mem ((c.tc : Thread nD τ).loc main_v52) = U7 m c (Proc.devRef .tc main_v52))
      ∧ r.2.sem = fun _ => 0) := by
  refine Pipeline.θ_run_regions_kit_dev_sems (pcfgs (F := F)) adm (pdats m) () cellOf_inj emb₁ defs₀ Variants.none L₀ lv₀ m ρ main
    (segs m)
    (fun c Q => by
      rewrite [main_chain c, Seg.run_eq_chain,
        show (segs m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp)) (initOf (Pipeline.cells cfgs cellOf_inj) (Pipeline.launchToks cfgs cellOf_inj)) ?_
    (T₀ := fun c => iprop(StableHlo.held (c : Thread nD τ) (Pipeline.ucRefs τ sig) (U0 m c) ∗ Rest c))
    (Tₙ := fun c => StableHlo.held (c : Thread nD τ) (Pipeline.ucRefs τ sig) (U7 m c))
    (hch := fun c => ⟨.rfl, pre0 m c, post0 m c, pre1 m c, post1 m c, pre2 m c, post2 m c, sep_mono .rfl (by iintro ⟨H, -⟩; iexact H)⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5)) ∧ s.mem ((c.tc : Thread nD τ).loc main_v50) = U7 m c (Proc.devRef .tc main_v50) ∧ s.mem ((c.tc : Thread nD τ).loc main_v52) = U7 m c (Proc.devRef .tc main_v52))
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (U0 m c) ∗ Rest c) : sProp 𝕄) := by
      refine bigSep_mono fun c _ => ?_
      refine (show (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp) : sProp 𝕄)
        ⊢ (iprop(StableHlo.held (c : Thread nD τ) (Pipeline.ucRefs τ sig) (U0 m c) ∗ Rest c) : sProp 𝕄) from ?_)
      rw [← Pipeline.unscopedBufs_held (Ix := Unit) (Name := ℕ) (U := UR sig nD τ) (Lvl := ℕ) c (U0 m c)]
      iintro ⟨HU, -, HO, -, HP, -⟩
      isplitl [HU]; · iexact HU
      isplitl [HO]; · iexists _; iexact HO
      isplitl [HP]; · iexists _; iexact HP
      iempintro
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (U7 m c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (U7_main_arg0 m c), (h (Proc.devRef .tc main_arg1) (Finset.mem_filter.mpr ⟨StableHlo.devRef_mem_tcRefs main_arg1, by decide⟩)).trans (U7_main_arg1 m c), (h (Proc.devRef .tc main_arg2) (Finset.mem_filter.mpr ⟨StableHlo.devRef_mem_tcRefs main_arg2, by decide⟩)).trans (U7_main_arg2 m c), (h (Proc.devRef .tc main_arg3) (Finset.mem_filter.mpr ⟨StableHlo.devRef_mem_tcRefs main_arg3, by decide⟩)).trans (U7_main_arg3 m c), (h (Proc.devRef .tc main_arg4) (Finset.mem_filter.mpr ⟨StableHlo.devRef_mem_tcRefs main_arg4, by decide⟩)).trans (U7_main_arg4 m c), (h (Proc.devRef .tc main_arg5) (Finset.mem_filter.mpr ⟨StableHlo.devRef_mem_tcRefs main_arg5, by decide⟩)).trans (U7_main_arg5 m c)⟩,
        (h (Proc.devRef .tc main_v50) (Finset.mem_filter.mpr ⟨StableHlo.devRef_mem_tcRefs main_v50, by decide⟩)), (h (Proc.devRef .tc main_v52) (Finset.mem_filter.mpr ⟨StableHlo.devRef_mem_tcRefs main_v52, by decide⟩))⟩
    · iexact HSI

end Cert.KernelIdeal.Run

end
-- ==== Proof.Frames.lean ====
/-
  The three frames: each program runs from every memory, leaves its arguments unchanged, and ends with every
  semaphore at zero. The kernel's two come from its run (Proof/Kernel/Run.lean, Proof/KernelIdeal/Run.lean), the
  reference's from its list of host operations.
-/
module

public import proofs.«01_k».proof.Defs
public import proofs.«01_k».proof.Proof.Kernel.Run
public import proofs.«01_k».proof.Proof.KernelIdeal.Run
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The shape relations the precondition's operations state. -/
theorem preFacts : Cert.Pre_finite_gate.Facts where
  bcast_S_S4x2048x1024 := by decide
  reducesTo_S4x2048x1024_S_d0_1_2 := by decide
  h_S_ := by decide
  bcast_S_S1024x16 := by decide
  reducesTo_S1024x16_S_d0_1 := by decide

attribute [local instance] preFacts

theorem frame_kernel : Cert.quiescent_Kernel := fun m g _ =>
  (θ_run (Cert.Kernel.defs (F := Bits)) _ _).mono (fun _ h => ⟨fun c => (h.1 c).1, h.2⟩) (Cert.Kernel.Run.run m g)

theorem frame_kernelIdeal : Cert.quiescent_KernelIdeal := fun m g _ =>
  (θ_run (Cert.KernelIdeal.defs (F := Ideal)) _ _).mono (fun _ h => ⟨fun c => (h.1 c).1, h.2⟩)
    (Cert.KernelIdeal.Run.run m g)

theorem frame_kernelIdeal_pre : Cert.quiescent_KernelIdeal_pre_finite_gate := fun m g _ =>
  frame_kernelIdeal m g trivial

theorem frame_reference : Cert.quiescent_ReferenceIdeal := fun m g _ =>
  (θ_run (Cert.ReferenceIdeal.defs (F := Ideal)) _ _).mono
    (fun r h => ⟨fun c => (h c).2.2, sem_eq_zero_of_no_sems (by decide) r.2⟩)
    (Cert.ReferenceIdeal.Value.run (F := Ideal) m g)

theorem frame_reference_pre : Cert.quiescent_ReferenceIdeal_pre_finite_gate := fun m g _ =>
  frame_reference m g trivial

end Cert.Proof

end
-- ==== Proof.Spec.lean ====
/-
  The mathematics both programs compute, on plain functions: the gate of a token, its two best experts, its positions in
  the experts' buffers, an expert's buffer, the feed-forward network on a row, the result and the balance loss.
-/
module

public import Idealize.ShloMosaic.PureOps.Ideal
public import Mathlib.Data.EReal.Operations
public import Mathlib.Algebra.BigOperators.Fin
public import Mathlib.Data.Finset.Fold
public import Mathlib.Data.Finset.Max

@[expose] public section

noncomputable section

namespace Cert.Spec

open Idealize.ShloMosaic

/-! ## One token's row of sixteen numbers -/

/-- The largest of sixteen numbers. -/
def mx (l : Fin 16 → EReal) : EReal := Finset.univ.fold max ⊥ l

theorem le_mx (l : Fin 16 → EReal) (e : Fin 16) : l e ≤ mx l := by
  unfold mx; exact (Finset.le_fold_max _).mpr (.inr ⟨e, Finset.mem_univ _, le_rfl⟩)

theorem mx_mem (l : Fin 16 → EReal) : ∃ e, l e = mx l := by
  obtain ⟨e, -, he⟩ := Finset.exists_max_image Finset.univ l ⟨0, Finset.mem_univ _⟩
  refine ⟨e, le_antisymm (le_mx l e) ?_⟩
  unfold mx
  exact (Finset.fold_max_le _).mpr ⟨bot_le, fun x hx => he x hx⟩

/-- The softmax of sixteen numbers. -/
def soft (l : Fin 16 → EReal) (e : Fin 16) : EReal :=
  Ideal.div (Ideal.exp (l e - mx l)) (∑ k, Ideal.exp (l k - mx l))

/-- The positions of the largest number, not empty. -/
theorem best_nonempty (f : Fin 16 → EReal) : (Finset.univ.filter fun e => f e = mx f).Nonempty := by
  obtain ⟨e, he⟩ := mx_mem f
  exact ⟨e, Finset.mem_filter.mpr ⟨Finset.mem_univ _, he⟩⟩

/-- The first position of the largest number. -/
def top (f : Fin 16 → EReal) : Fin 16 := (Finset.univ.filter fun e => f e = mx f).min' (best_nonempty f)

theorem top_eq (f : Fin 16 → EReal) : f (top f) = mx f :=
  (Finset.mem_filter.mp (Finset.min'_mem _ (best_nonempty f))).2

theorem top_le (f : Fin 16 → EReal) {e : Fin 16} (h : f e = mx f) : top f ≤ e :=
  Finset.min'_le _ e (Finset.mem_filter.mpr ⟨Finset.mem_univ e, h⟩)

theorem top_of (f : Fin 16 → EReal) {i : Fin 16} (h1 : f i = mx f) (h2 : ∀ e, f e = mx f → i ≤ e) : top f = i :=
  le_antisymm (top_le f h1) (h2 _ (top_eq f))

/-- The row without its first best number. -/
def rest (f : Fin 16 → EReal) : Fin 16 → EReal := fun e => if e = top f then ⊥ else f e

/-- The position of the second best number. -/
def top2 (f : Fin 16 → EReal) : Fin 16 := top (rest f)

/-- With every number above `-∞`, the second best is at another position … -/
theorem top2_ne (f : Fin 16 → EReal) (h : ∀ e, ⊥ < f e) : top2 f ≠ top f := by
  intro hh
  have h1 : rest f (top2 f) = mx (rest f) := top_eq _
  rw [hh] at h1
  have h0 : rest f (top f) = ⊥ := by simp [rest]
  obtain ⟨e, he⟩ : ∃ e : Fin 16, e ≠ top f := exists_ne _
  have h2 := le_mx (rest f) e
  rw [← h1, h0] at h2
  have h3 : rest f e = f e := by simp [rest, he]
  rw [h3] at h2
  exact absurd (h e) (not_lt.mpr h2)

/-- … and its value is that of the row there. -/
theorem mx_rest (f : Fin 16 → EReal) (h : ∀ e, ⊥ < f e) : mx (rest f) = f (top2 f) := by
  have h1 : rest f (top2 f) = mx (rest f) := top_eq _
  rw [← h1, rest, if_neg (top2_ne f h)]

/-- One at `k`, zero elsewhere. -/
def ind (k e : Fin 16) : EReal := if k = e then 1 else 0

/-! ## All tokens -/

/-- The logits of the tokens. -/
def logit (x : Fin 8192 → Fin 1024 → EReal) (w : Fin 1024 → Fin 16 → EReal) (t : Fin 8192) (e : Fin 16) : EReal :=
  ∑ d, x t d * w d e

/-- The gates of the tokens. -/
def gate (x : Fin 8192 → Fin 1024 → EReal) (w : Fin 1024 → Fin 16 → EReal) (t : Fin 8192) : Fin 16 → EReal :=
  soft (logit x w t)

/-- Token `s` comes before token `t`: a larger best gate, or the same and an earlier place. -/
def before (p : Fin 8192 → EReal) (s t : Fin 8192) : Prop := p t < p s ∨ (p s = p t ∧ s < t)

instance (p : Fin 8192 → EReal) (s t : Fin 8192) : Decidable (before p s t) := Classical.propDecidable _

/-- How many tokens with expert `e` come before token `t`. -/
def cnt (p : Fin 8192 → EReal) (k : Fin 8192 → Fin 16) (t : Fin 8192) (e : Fin 16) : ℕ :=
  (Finset.univ.filter fun s => before p s t ∧ k s = e).card

/-- How many tokens have expert `e`. -/
def tot (k : Fin 8192 → Fin 16) (e : Fin 16) : ℕ := (Finset.univ.filter fun s => k s = e).card

/-- The place of a token in the buffer of its best expert. -/
def pos0 (g : Fin 8192 → Fin 16 → EReal) (t : Fin 8192) : ℕ := cnt (fun s => mx (g s)) (fun s => top (g s)) t (top (g t))

/-- The place of a token in the buffer of its second best expert: after all tokens whose best expert this is. -/
def pos1 (g : Fin 8192 → Fin 16 → EReal) (t : Fin 8192) : ℕ :=
  cnt (fun s => mx (g s)) (fun s => top2 (g s)) t (top2 (g t)) + tot (fun s => top (g s)) (top2 (g t))

theorem cnt_le (p : Fin 8192 → EReal) (k : Fin 8192 → Fin 16) (t : Fin 8192) (e : Fin 16) : cnt p k t e ≤ 8192 :=
  (Finset.card_filter_le _ _).trans (by simp)

theorem tot_le (k : Fin 8192 → Fin 16) (e : Fin 16) : tot k e ≤ 8192 :=
  (Finset.card_filter_le _ _).trans (by simp)

theorem pos0_le (g : Fin 8192 → Fin 16 → EReal) (t : Fin 8192) : pos0 g t ≤ 8192 := cnt_le _ _ _ _

theorem pos1_le (g : Fin 8192 → Fin 16 → EReal) (t : Fin 8192) : pos1 g t ≤ 16384 :=
  (Nat.add_le_add (cnt_le _ _ _ _) (tot_le _ _)).trans (by norm_num)

/-- Any two tokens are in one order or the other. -/
theorem before_total (p : Fin 8192 → EReal) {s t : Fin 8192} (h : s ≠ t) : before p s t ∨ before p t s := by
  rcases lt_trichotomy (p s) (p t) with hp | hp | hp
  · exact .inr (.inl hp)
  · rcases lt_or_gt_of_ne h with hs | hs
    · exact .inl (.inr ⟨hp, hs⟩)
    · exact .inr (.inr ⟨hp.symm, hs⟩)
  · exact .inl (.inl hp)

theorem before_irrefl (p : Fin 8192 → EReal) (t : Fin 8192) : ¬before p t t := by
  rintro (h | ⟨-, h⟩) <;> exact lt_irrefl _ h

theorem before_trans (p : Fin 8192 → EReal) {r s t : Fin 8192} (h1 : before p r s) (h2 : before p s t) : before p r t := by
  rcases h1 with h1 | ⟨h1, h1'⟩ <;> rcases h2 with h2 | ⟨h2, h2'⟩
  · exact .inl (h2.trans h1)
  · exact .inl (h2 ▸ h1)
  · exact .inl (h1 ▸ h2)
  · exact .inr ⟨h1.trans h2, h1'.trans h2'⟩

/-- Of two tokens with the same expert, the earlier has the smaller count. -/
theorem cnt_lt (p : Fin 8192 → EReal) (k : Fin 8192 → Fin 16) {s t : Fin 8192} {e : Fin 16} (hs : k s = e) (h : before p s t) :
    cnt p k s e < cnt p k t e := by
  refine Finset.card_lt_card ⟨fun r hr => ?_, fun hh => ?_⟩
  · obtain ⟨h1, h2⟩ := (Finset.mem_filter.mp hr).2
    exact Finset.mem_filter.mpr ⟨Finset.mem_univ _, before_trans p h1 h, h2⟩
  · have := (Finset.mem_filter.mp (hh (Finset.mem_filter.mpr ⟨Finset.mem_univ s, h, hs⟩))).2.1
    exact before_irrefl p s this

/-- So tokens with the same expert and the same count are the same. -/
theorem cnt_inj (p : Fin 8192 → EReal) (k : Fin 8192 → Fin 16) {s t : Fin 8192} (hk : k s = k t)
    (h : cnt p k s (k s) = cnt p k t (k t)) : s = t := by
  by_contra hne
  rw [hk] at h
  rcases before_total p hne with hb | hb
  · have := cnt_lt p k hk hb; omega
  · have := cnt_lt p k rfl hb; omega

/-- A count of a token with the expert lies below the number of all of them. -/
theorem cnt_lt_tot (p : Fin 8192 → EReal) (k : Fin 8192 → Fin 16) (t : Fin 8192) : cnt p k t (k t) < tot k (k t) := by
  refine Finset.card_lt_card ⟨fun r hr => ?_, fun hh => ?_⟩
  · exact Finset.mem_filter.mpr ⟨Finset.mem_univ _, (Finset.mem_filter.mp hr).2.2⟩
  · have := (Finset.mem_filter.mp (hh (Finset.mem_filter.mpr ⟨Finset.mem_univ t, rfl⟩))).2.1
    exact before_irrefl p t this

theorem pos0_inj (g : Fin 8192 → Fin 16 → EReal) {s t : Fin 8192} (hk : top (g s) = top (g t)) (h : pos0 g s = pos0 g t) :
    s = t := cnt_inj (fun s => mx (g s)) (fun s => top (g s)) hk h

theorem pos1_inj (g : Fin 8192 → Fin 16 → EReal) {s t : Fin 8192} (hk : top2 (g s) = top2 (g t)) (h : pos1 g s = pos1 g t) :
    s = t := by
  refine cnt_inj (fun s => mx (g s)) (fun s => top2 (g s)) hk ?_
  unfold pos1 at h; rw [hk] at h ⊢; omega

theorem pos0_lt_pos1 (g : Fin 8192 → Fin 16 → EReal) {s t : Fin 8192} (hk : top (g s) = top2 (g t)) : pos0 g s < pos1 g t := by
  have := cnt_lt_tot (fun s => mx (g s)) (fun s => top (g s)) s
  unfold pos0 pos1
  rw [← hk]; omega

/-- Row `c` of the buffer of expert `e`: the token placed there, or zero. -/
def buf (x : Fin 8192 → Fin 1024 → EReal) (g : Fin 8192 → Fin 16 → EReal) (e : Fin 16) (c : ℕ) (d : Fin 1024) : EReal :=
  (∑ t, if top (g t) = e ∧ pos0 g t = c then x t d else 0) + ∑ t, if top2 (g t) = e ∧ pos1 g t = c then x t d else 0

/-- The hidden layer's activation. -/
def gelu (h : EReal) : EReal :=
  (Ideal.ofBits .f32 0x3F000000#32 * h) * (Ideal.ofBits .f32 0x3F800000#32 + Ideal.erf (h * Ideal.ofBits .f32 0x3F3504F3#32))

/-- The feed-forward network of expert `e` on a row. -/
def ffn (w1 : Fin 16 → Fin 1024 → Fin 4096 → EReal) (b1 : Fin 16 → Fin 4096 → EReal) (w2 : Fin 16 → Fin 4096 → Fin 1024 → EReal)
    (b2 : Fin 16 → Fin 1024 → EReal) (e : Fin 16) (r : Fin 1024 → EReal) (d : Fin 1024) : EReal :=
  b2 e d + ∑ f, gelu ((∑ k, r k * w1 e k f) + b1 e f) * w2 e f d

/-- The result at token `t`: the two rows of its experts, weighted by the gates where the token had a place. -/
def res (x : Fin 8192 → Fin 1024 → EReal) (g : Fin 8192 → Fin 16 → EReal)
    (w1 : Fin 16 → Fin 1024 → Fin 4096 → EReal) (b1 : Fin 16 → Fin 4096 → EReal) (w2 : Fin 16 → Fin 4096 → Fin 1024 → EReal)
    (b2 : Fin 16 → Fin 1024 → EReal) (t : Fin 8192) (d : Fin 1024) : EReal :=
  ffn w1 b1 w2 b2 (top (g t)) (buf x g (top (g t)) (min (pos0 g t) 1279)) d * (if pos0 g t < 1280 then mx (g t) else 0)
    + ffn w1 b1 w2 b2 (top2 (g t)) (buf x g (top2 (g t)) (min (pos1 g t) 1279)) d * (if pos1 g t < 1280 then mx (rest (g t)) else 0)

/-- The balance loss. -/
def laux (g : Fin 8192 → Fin 16 → EReal) : EReal :=
  (∑ e, Ideal.div (∑ t, g t e) (Ideal.ofBits .f32 0x46000000#32)
      * Ideal.div (∑ t, ind (top (g t)) e) (Ideal.ofBits .f32 0x46000000#32))
    * Ideal.ofBits .f32 0x41800000#32 * Ideal.ofBits .f32 0x3C23D70A#32

end Cert.Spec
-- ==== Proof.Value.Sums.lean ====
/-
  Sums of zeros and ones as counts, tokens by block, and the words that count them.
-/
module

public import proofs.«01_k».proof.Proof.Spec
public import Idealize.ShloMosaic.Lib.WordArith
public import Idealize.ShloMosaic.Lib.Pointwise

@[expose] public section

noncomputable section

namespace Cert.Spec

open Idealize.ShloMosaic

/-- Token `j` of block `b`. -/
def tok (b : Fin 16) (j : Fin 512) : Fin 8192 := ⟨b.val * 512 + j.val, by omega⟩

/-- Every token is in one block. -/
theorem tok_div (t : Fin 8192) : tok ⟨t.val / 512, by omega⟩ ⟨t.val % 512, by omega⟩ = t := by
  apply Fin.ext; simp only [tok]; omega

/-- A sum over the tokens, block by block. -/
theorem sum_tok {M : Type} [AddCommMonoid M] (f : Fin 8192 → M) : ∑ b, ∑ j, f (tok b j) = ∑ t, f t := by
  rw [← Finset.sum_product' (f := fun b j => f (tok b j))]
  refine Finset.sum_bij (fun p _ => tok p.1 p.2) (fun _ _ => Finset.mem_univ _) ?_ ?_ (fun _ _ => rfl)
  · rintro ⟨a, b⟩ - ⟨c, d⟩ - h
    have h := Fin.mk.inj h
    simp only at h
    have h1 : a = c := Fin.ext (by omega)
    have h2 : b = d := Fin.ext (by omega)
    rw [h1, h2]
  · intro t _
    exact ⟨⟨⟨t.val / 512, by omega⟩, ⟨t.val % 512, by omega⟩⟩, Finset.mem_univ _, tok_div t⟩

/-- The sum of an indicator is the count. -/
theorem sum_ite_one {ι : Type} (s : Finset ι) (p : ι → Prop) [DecidablePred p] :
    (∑ i ∈ s, if p i then (1 : EReal) else 0) = ((s.filter p).card : EReal) := by
  classical
  induction s using Finset.induction_on with
  | empty => simp
  | insert a s ha ih =>
    rw [Finset.sum_insert ha, ih, Finset.filter_insert]
    split
    · rw [Finset.card_insert_of_notMem (by simp [ha]), Nat.cast_add, Nat.cast_one, add_comm]
    · rw [zero_add]

/-- A sum against a one-hot row is the value at its place. -/
theorem sum_ind (f : Fin 16 → EReal) (k : Fin 16) : ∑ e, f e * ind k e = f k := by
  rw [Finset.sum_eq_single k]
  · simp [ind]
  · intro b _ hb; simp [ind, Ne.symm hb]
  · simp

theorem sum_before (p : Fin 8192 → EReal) (k : Fin 8192 → Fin 16) (t : Fin 8192) (e : Fin 16) :
    (∑ s, (if before p s t then (1 : EReal) else 0) * ind (k s) e) = (cnt p k t e : EReal) := by
  unfold cnt
  rw [← sum_ite_one]
  refine Finset.sum_congr rfl fun s _ => ?_
  unfold ind
  by_cases h1 : before p s t <;> by_cases h2 : k s = e <;> simp [h1, h2]

theorem sum_all (k : Fin 8192 → Fin 16) (e : Fin 16) : (∑ s, ind (k s) e) = (tot k e : EReal) := by
  unfold tot
  rw [← sum_ite_one]
  rfl

/-- A count read as a word. -/
theorem fptosi_nat (n : ℕ) (h : n < 2 ^ 31) : (FloatOps.fptosi (F := Ideal) (φ := .f32) 32 (n : EReal)) = BitVec.ofNat 32 n := by
  show Ideal.fptosi 32 (n : EReal) = _
  have h1 : ((n : EReal)) = ((n : ℝ) : EReal) := by norm_cast
  rw [h1, Ideal.fptosi, Ideal.toIntClamped_coe, if_pos (Nat.cast_nonneg _), Int.floor_natCast]
  rw [max_eq_right, min_eq_right]
  · rfl
  · norm_num; omega
  · norm_num

/-- The row of the buffers a token goes to. -/
def slot (k : Fin 16) (p : ℕ) : ℕ := k.val * 1280 + min p 1279

/-- The row a token is written to: the last of all rows but the real ones when its place is beyond the capacity. -/
def sslot (k : Fin 16) (p : ℕ) : ℕ := if p < 1280 then slot k p else 20480

theorem slot_lt (k : Fin 16) (p : ℕ) : slot k p < 20480 := by unfold slot; omega
theorem sslot_le (k : Fin 16) (p : ℕ) : sslot k p ≤ 20480 := by
  unfold sslot; have := slot_lt k p; split <;> omega

theorem lt_cap (p : ℕ) (h : p < 2 ^ 31) : IntOp.cmpi .slt (BitVec.ofNat 32 p) 1280#32 = if p < 1280 then 1#1 else 0#1 := by
  have h1 : (BitVec.ofNat 32 p).toInt = p := by
    rw [BitVec.toInt_eq_toNat_of_lt] <;> rw [BitVec.toNat_ofNat, Nat.mod_eq_of_lt (by omega)]; omega
  have h2 : (1280#32).toInt = 1280 := by decide
  simp only [IntOp.cmpi, BitVec.slt, h1, h2]
  by_cases hp : p < 1280
  · rw [if_pos hp, decide_eq_true (by omega)]; rfl
  · rw [if_neg hp, decide_eq_false (by omega)]; rfl

theorem min_cap (p : ℕ) (h : p < 2 ^ 31) : IntOp.minsi (BitVec.ofNat 32 p) 1279#32 = BitVec.ofNat 32 (min p 1279) := by
  apply BitVec.eq_of_toNat_eq
  have h1 : (BitVec.ofNat 32 p).toNat = p := by rw [BitVec.toNat_ofNat, Nat.mod_eq_of_lt (by omega)]
  rw [WordArith.toNat_minsi_of_lt _ _ (by omega) (by decide), h1]
  exact ((BitVec.toNat_ofNat _ _).trans (Nat.mod_eq_of_lt (by omega))).symm

theorem slot_word (k : Fin 16) (p : ℕ) (h : p < 2 ^ 31) :
    IntOp.addi (IntOp.muli (BitVec.ofNat 32 k.val) 1280#32) (IntOp.minsi (BitVec.ofNat 32 p) 1279#32) = BitVec.ofNat 32 (slot k p) := by
  rw [min_cap p h]
  unfold slot IntOp.addi IntOp.muli
  rw [show 1280#32 = BitVec.ofNat 32 1280 from rfl, ← BitVec.ofNat_mul, ← BitVec.ofNat_add]

end Cert.Spec
-- ==== Proof.Value.Gate.lean ====
/-
  What the gating call leaves in its eight results, on plain functions of the tokens and the gate's matrix.
-/
module

public import proofs.«01_k».proof.Proof.KernelIdeal.Gate
public import proofs.«01_k».proof.Proof.Value.Sums
public import Idealize.ShloMosaic.Lib.Pointwise
public import Idealize.ShloMosaic.Lib.IdealHost
public import Idealize.ShloMosaic.Lib.WordArith
public import Idealize.ShloMosaic.Lib.SortNet.Extract
public import Idealize.ShloMosaic.Lib.Pipeline.ValueKit

@[expose] public section

set_option maxRecDepth 16384

noncomputable section

namespace Cert.KernelIdeal.GateValue

open Cert.KernelIdeal.Gen Cert.KernelIdeal.Host Cert.KernelIdeal.Gate
open Idealize.ShloMosaic Idealize.ShloMosaic.TcCoe
open Cert.Spec (tok)

/-- The largest 32-bit float pattern below all others is `-∞`. -/
theorem neg_inf : Ideal.ofBits .f32 0xFF800000#32 = ⊥ := by simp [Ideal.ofBits, Ideal.ieee]

/-- The smallest index where a row reaches its maximum, as a signed minimum of words, is the first such index. -/
theorem fold_top (f : Fin 16 → EReal) :
    Finset.fold IntOp.minsi (2147483647#32) (fun e : Fin 16 => if f e = Spec.mx f then BitVec.ofNat 32 e.val else 16#32)
      Finset.univ = BitVec.ofNat 32 (Spec.top f).val := by
  have hI (e : Fin 16) : (BitVec.ofNat 32 e.val).toInt = e.val := by
    revert e; decide
  apply BitVec.eq_of_toInt_eq
  rw [← Finset.fold_hom (op' := min) (m := BitVec.toInt) (fun x y => SortNet.toInt_minsi x y), hI]
  refine le_antisymm ((Finset.fold_min_le _).mpr (.inr ⟨Spec.top f, Finset.mem_univ _, ?_⟩)) ((Finset.le_fold_min _).mpr ⟨?_, ?_⟩)
  · rw [if_pos (Spec.top_eq f), hI]
  · have : (Spec.top f).val < 16 := (Spec.top f).isLt
    show _ ≤ (2147483647 : ℤ); omega
  · intro e _
    have : (Spec.top f).val < 16 := (Spec.top f).isLt
    by_cases h : f e = Spec.mx f
    · rw [if_pos h, hI]; exact_mod_cast Spec.top_le f h
    · rw [if_neg h]; show _ ≤ (16 : ℤ); omega

variable (x0 : Vec Ideal S512x1024 .f32) (x1 : Vec Ideal S1024x16 .f32) (j : Fin 512) (e : Fin 16)

/-- A row's gates. -/
def rowGate : Fin 16 → EReal := Spec.soft fun e => ∑ d, x0 (ix2 j d) * x1 (ix2 d e)

theorem pay8_eq : k0_pay8 x0 x1 (ix2 j e) = rowGate x0 x1 j e := by
  unfold k0_pay8 rowGate Spec.soft Spec.mx
  pointwise
  simp only [neg_inf]

theorem pay9_eq : k0_pay9 x0 x1 (ix2 j 0) = Spec.mx (rowGate x0 x1 j) := by
  unfold k0_pay9 Spec.mx
  pointwise
  simp only [neg_inf, pay8_eq]

theorem pay10_eq : k0_pay10 x0 x1 (ix2 j 0) = BitVec.ofNat 32 (Spec.top (rowGate x0 x1 j)).val := by
  rw [← fold_top]
  unfold k0_pay10
  pointwise
  simp only [pay8_eq, pay9_eq]

theorem cmpi_eq16 (a b : Fin 16) :
    IntOp.cmpi .eq (BitVec.ofNat 32 a.val) (BitVec.ofNat 32 b.val) = if a = b then 1#1 else 0#1 := by
  revert a b; decide

theorem pay11_eq : k0_pay11 x0 x1 (ix2 j e) = if e = Spec.top (rowGate x0 x1 j) then 1#1 else 0#1 := by
  unfold k0_pay11
  pointwise
  simp only [pay10_eq, cmpi_eq16]

theorem pay12_eq : k0_pay12 x0 x1 (ix2 j e) = Spec.rest (rowGate x0 x1 j) e := by
  unfold k0_pay12 Spec.rest
  pointwise
  simp only [pay11_eq, pay8_eq, neg_inf]
  by_cases h : e = Spec.top (rowGate x0 x1 j) <;> simp [h, Scalar.select]

theorem pay13_eq : k0_pay13 x0 x1 (ix2 j 0) = Spec.mx (Spec.rest (rowGate x0 x1 j)) := by
  unfold k0_pay13 Spec.mx
  pointwise
  simp only [neg_inf, pay12_eq]

theorem pay14_eq : k0_pay14 x0 x1 (ix2 j 0) = BitVec.ofNat 32 (Spec.top2 (rowGate x0 x1 j)).val := by
  unfold Spec.top2
  rw [← fold_top]
  unfold k0_pay14
  pointwise
  simp only [pay12_eq, pay13_eq]

theorem pay15_eq : k0_pay15 x0 x1 (ix2 j e) = if e = Spec.top2 (rowGate x0 x1 j) then 1#1 else 0#1 := by
  unfold k0_pay15
  pointwise
  simp only [pay14_eq, cmpi_eq16]

theorem sitofp_ind (p : Prop) [Decidable p] :
    (FloatOps.sitofp .f32 (BitVec.setWidth 32 (if p then 1#1 else 0#1)) : Ideal .f32) = if p then (1 : EReal) else 0 := by
  split
  · show (((BitVec.setWidth 32 (1#1)).toInt : ℝ) : EReal) = 1
    rw [show (BitVec.setWidth 32 (1#1)).toInt = 1 from by decide]; norm_num
  · show (((BitVec.setWidth 32 (0#1)).toInt : ℝ) : EReal) = 0
    rw [show (BitVec.setWidth 32 (0#1)).toInt = 0 from by decide]; norm_num

variable (V : (c : Dev nD) → (b : Ref sig .tc) → Buf (Elt Ideal) ((c : Thread nD τ).loc b)) (c : Dev nD)

/-- The tokens and the gate's matrix the call reads. -/
def X (t : Fin 8192) (d : Fin 1024) : EReal := (V c main_v0 : S8192x1024.Idx → EReal) (ix2 t d)
def W (d : Fin 1024) (e : Fin 16) : EReal := (V c main_arg1 : S1024x16.Idx → EReal) (ix2 d e)

theorem e0 : ∀ t : Fin cfg0.N, win0_0.index t = ![(grid0.coords t 0).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![(grid0.coords t 0).val, 0, 0] := (by decide +kernel : ∀ t : Fin grid0.N, _)
theorem e3 : ∀ t : Fin cfg0.N, win0_3.index t = ![(grid0.coords t 0).val, 0, 0] := (by decide +kernel : ∀ t : Fin grid0.N, _)
theorem e4 : ∀ t : Fin cfg0.N, win0_4.index t = ![(grid0.coords t 0).val, 0, 0] := (by decide +kernel : ∀ t : Fin grid0.N, _)
theorem e5 : ∀ t : Fin cfg0.N, win0_5.index t = ![(grid0.coords t 0).val, 0, 0] := (by decide +kernel : ∀ t : Fin grid0.N, _)
theorem e6 : ∀ t : Fin cfg0.N, win0_6.index t = ![(grid0.coords t 0).val, 0] := (by decide +kernel : ∀ t : Fin grid0.N, _)
theorem e7 : ∀ t : Fin cfg0.N, win0_7.index t = ![(grid0.coords t 0).val, 0] := (by decide +kernel : ∀ t : Fin grid0.N, _)
theorem e8 : ∀ t : Fin cfg0.N, win0_8.index t = ![(grid0.coords t 0).val, 0, 0] := (by decide +kernel : ∀ t : Fin grid0.N, _)
theorem e9 : ∀ t : Fin cfg0.N, win0_9.index t = ![(grid0.coords t 0).val, 0, 0] := (by decide +kernel : ∀ t : Fin grid0.N, _)

theorem blk0 (t : Fin cfg0.N) (d : Fin 1024) :
    (iblk V c 0 t : Vec Ideal S512x1024 .f32) (ix2 j d) = X V c (tok (grid0.coords t 0) j) d := by
  unfold X tok
  blk_simp [iblk]
  refine congrArg _ ?_
  blk_ext [e0]

theorem blk1 (t : Fin cfg0.N) (d : Fin 1024) : (iblk V c 1 t : Vec Ideal S1024x16 .f32) (ix2 d e) = W V c d e := by
  unfold W
  blk_simp [iblk]
  refine congrArg _ ?_
  blk_ext [e1]

theorem rowGate_blk (t : Fin cfg0.N) (j : Fin 512) :
    rowGate (iblk V c 0 t) (iblk V c 1 t) j = Spec.gate (X V c) (W V c) (tok (grid0.coords t 0) j) := by
  unfold rowGate Spec.gate Spec.logit
  simp only [blk0, blk1]

theorem ld0 (t : Fin cfg0.N) : View.ld (iblk V c 0 t : Vec Ideal S512x1024 .f32) r0_0 = iblk V c 0 t :=
  View.ld_unit_zero (S := S512x1024) (off := ![0, 0]) (by decide) _ _

theorem ld1 (t : Fin cfg0.N) : View.ld (iblk V c 1 t : Vec Ideal S1024x16 .f32) r0_1 = iblk V c 1 t :=
  View.ld_unit_zero (S := S1024x16) (off := ![0, 0]) (by decide) _ _

/-- The best gate of each token. -/
theorem arr2 : (dat V c).arrAt 2 cfg0.N = (fun i => Spec.mx (Spec.gate (X V c) (W V c) (tok (i 0) (i 2))) : S16x1x512.Idx → EReal) := by
  refine (dat V c).arrAt_eq_of_covers 2 _ (by decide +kernel) fun t hf y => ?_
  blk_simp
  rw [after0_2]
  unfold out0_2
  rw [View.canon_unit_zero (by decide), ld0, ld1]
  idx_vars y
  have hE : (win0_2.blk t).view.emb (ix3 y0 y1 y2) = ix3 (grid0.coords t 0) 0 y2 := by
    blk_ext [e2]
  unfold k0_pay16
  pointwise
  simp only [hE, pay9_eq, rowGate_blk, ix3, ix2]

/-- The second best gate of each token. -/
theorem arr3 : (dat V c).arrAt 3 cfg0.N = (fun i => Spec.mx (Spec.rest (Spec.gate (X V c) (W V c) (tok (i 0) (i 2)))) : S16x1x512.Idx → EReal) := by
  refine (dat V c).arrAt_eq_of_covers 3 _ (by decide +kernel) fun t hf y => ?_
  blk_simp
  rw [after0_3]
  unfold out0_3
  rw [View.canon_unit_zero (by decide), ld0, ld1]
  idx_vars y
  have hE : (win0_3.blk t).view.emb (ix3 y0 y1 y2) = ix3 (grid0.coords t 0) 0 y2 := by
    blk_ext [e3]
  unfold k0_pay1 k0_pay17
  pointwise
  simp only [hE, pay13_eq, rowGate_blk, ix3, ix2]

/-- The best expert of each token. -/
theorem arr4 : (dat V c).arrAt 4 cfg0.N = (fun i => BitVec.ofNat 32 (Spec.top (Spec.gate (X V c) (W V c) (tok (i 0) (i 2)))).val : S16x1x512.Idx → BitVec 32) := by
  refine (dat V c).arrAt_eq_of_covers 4 _ (by decide +kernel) fun t hf y => ?_
  blk_simp
  rw [after0_4]
  unfold out0_4
  rw [View.canon_unit_zero (by decide), ld0, ld1]
  idx_vars y
  have hE : (win0_4.blk t).view.emb (ix3 y0 y1 y2) = ix3 (grid0.coords t 0) 0 y2 := by
    blk_ext [e4]
  unfold k0_pay2
  pointwise
  simp only [hE, pay10_eq, rowGate_blk, ix3, ix2]

/-- The second best expert of each token. -/
theorem arr5 : (dat V c).arrAt 5 cfg0.N = (fun i => BitVec.ofNat 32 (Spec.top2 (Spec.gate (X V c) (W V c) (tok (i 0) (i 2)))).val : S16x1x512.Idx → BitVec 32) := by
  refine (dat V c).arrAt_eq_of_covers 5 _ (by decide +kernel) fun t hf y => ?_
  blk_simp
  rw [after0_5]
  unfold out0_5
  rw [View.canon_unit_zero (by decide), ld0, ld1]
  idx_vars y
  have hE : (win0_5.blk t).view.emb (ix3 y0 y1 y2) = ix3 (grid0.coords t 0) 0 y2 := by
    blk_ext [e5]
  unfold k0_pay3
  pointwise
  simp only [hE, pay14_eq, rowGate_blk, ix3, ix2]

/-- Which expert is the best of a token. -/
theorem arr6 : (dat V c).arrAt 6 cfg0.N = (fun i => Spec.ind (Spec.top (Spec.gate (X V c) (W V c) (i 0))) (i 1) : S8192x16.Idx → EReal) := by
  refine (dat V c).arrAt_eq_of_covers 6 _ (by decide +kernel) fun t hf y => ?_
  blk_simp
  rw [after0_6]
  unfold out0_6 k0_pay18
  rw [View.canon_unit_zero (by decide), ld0, ld1]
  idx_vars y
  have hE : (win0_6.blk t).view.emb (ix2 y0 y1) = ix2 (tok (grid0.coords t 0) y0) y1 := by
    unfold tok; blk_ext [e6]
  unfold k0_pay4
  pointwise
  simp only [hE, pay11_eq, rowGate_blk, ix3, ix2, sitofp_ind, Spec.ind, eq_comm]

/-- Which expert is the second best of a token. -/
theorem arr7 : (dat V c).arrAt 7 cfg0.N = (fun i => Spec.ind (Spec.top2 (Spec.gate (X V c) (W V c) (i 0))) (i 1) : S8192x16.Idx → EReal) := by
  refine (dat V c).arrAt_eq_of_covers 7 _ (by decide +kernel) fun t hf y => ?_
  blk_simp
  rw [after0_7]
  unfold out0_7
  rw [View.canon_unit_zero (by decide), ld0, ld1]
  idx_vars y
  have hE : (win0_7.blk t).view.emb (ix2 y0 y1) = ix2 (tok (grid0.coords t 0) y0) y1 := by
    unfold tok; blk_ext [e7]
  unfold k0_pay5
  pointwise
  simp only [hE, pay15_eq, rowGate_blk, ix3, ix2, sitofp_ind, Spec.ind, eq_comm]

/-- The sums of the gates over a block of tokens. -/
theorem arr8 : (dat V c).arrAt 8 cfg0.N = (fun i => ∑ j, Spec.gate (X V c) (W V c) (tok (i 0) j) (i 2) : S16x1x16.Idx → EReal) := by
  refine (dat V c).arrAt_eq_of_covers 8 _ (by decide +kernel) fun t hf y => ?_
  blk_simp
  rw [after0_8]
  unfold out0_8
  rw [View.canon_unit_zero (by decide), ld0, ld1]
  idx_vars y
  have hE : (win0_8.blk t).view.emb (ix3 y0 y1 y2) = ix3 (grid0.coords t 0) 0 y2 := by
    blk_ext [e8]
  unfold k0_pay6
  pointwise
  simp only [hE, pay8_eq, rowGate_blk, ix3, ix2]

/-- The number of tokens of a block whose best expert is this. -/
theorem arr9 : (dat V c).arrAt 9 cfg0.N = (fun i => ∑ j, Spec.ind (Spec.top (Spec.gate (X V c) (W V c) (tok (i 0) j))) (i 2) : S16x1x16.Idx → EReal) := by
  refine (dat V c).arrAt_eq_of_covers 9 _ (by decide +kernel) fun t hf y => ?_
  blk_simp
  rw [after0_9]
  unfold out0_9 k0_pay18
  rw [View.canon_unit_zero (by decide), ld0, ld1]
  idx_vars y
  have hE : (win0_9.blk t).view.emb (ix3 y0 y1 y2) = ix3 (grid0.coords t 0) 0 y2 := by
    blk_ext [e9]
  unfold k0_pay7
  pointwise
  simp only [hE, pay11_eq, rowGate_blk, ix3, ix2, sitofp_ind, Spec.ind, eq_comm]

end Cert.KernelIdeal.GateValue
-- ==== Proof.Value.RoutePay.lean ====
/-
  What the routing call's body computes at one token, on plain functions.
-/
module

public import proofs.«01_k».proof.Proof.KernelIdeal.Route
public import proofs.«01_k».proof.Proof.Value.Sums
public import Idealize.ShloMosaic.Lib.Pointwise
public import Idealize.ShloMosaic.Lib.IdealHost
public import Idealize.ShloMosaic.Lib.Pipeline.ValueKit

@[expose] public section

set_option maxRecDepth 16384

noncomputable section

namespace Cert.KernelIdeal.RouteValue

open Cert.KernelIdeal.Gen Cert.KernelIdeal.Host Cert.KernelIdeal.Route
open Idealize.ShloMosaic Idealize.ShloMosaic.TcCoe
open Cert.Spec (tok ind)

theorem trips16 : k1_t1_loop.trips = 16 := by decide

/-- A grid point's block and a trip's block. -/
def bi (i : grid1.Coords) : Fin 16 := i 0
def mi (m : Fin k1_t1_loop.trips) : Fin 16 := m.cast trips16

/-- The offsets of a grid point's tokens and of a trip's tokens. -/
theorem off1 (i : grid1.Coords) : k1_off1 i = ![0, (i 0).val * 512] := by
  have h : (i 0).val < 16 := (i 0).isLt
  unfold k1_off1
  generalize (i 0).val = n at h
  interval_cases n <;> rfl
theorem off4 (i : grid1.Coords) : k1_off4 i = ![(i 0).val * 512, 0] := by
  have h : (i 0).val < 16 := (i 0).isLt
  unfold k1_off4
  generalize (i 0).val = n at h
  interval_cases n <;> rfl
theorem off2 : ∀ k : Fin k1_t1_loop.trips, k1_off2 k = ![0, k.val * 512] := by decide +kernel
theorem off3 : ∀ k : Fin k1_t1_loop.trips, k1_off3 k = ![k.val * 512, 0] := by decide +kernel

variable {α : EltTy}

theorem ld_rT {e : EltTy} (x : Vec Ideal S1x8192 e) (i : grid1.Coords) (z : Fin 1) (j : Fin 512) :
    View.ld x (rT i) (ix2 z j) = x (ix2 0 (tok (bi i) j)) := by
  refine View.ld_unit_apply_of _ _ _ _ _ _ fun a => ?_
  rw [congrFun (off1 i) a]
  fin_cases a <;> simp [ix2, tok, bi, mi]
theorem ld_rO {e : EltTy} (x : Vec Ideal S8192x16 e) (i : grid1.Coords) (j : Fin 512) (k : Fin 16) :
    View.ld x (rO i) (ix2 j k) = x (ix2 (tok (bi i) j) k) := by
  refine View.ld_unit_apply_of _ _ _ _ _ _ fun a => ?_
  rw [congrFun (off4 i) a]
  fin_cases a <;> simp [ix2, tok, bi, mi]
theorem ld_rTk {e : EltTy} (x : Vec Ideal S1x8192 e) (m : Fin k1_t1_loop.trips) (z : Fin 1) (j : Fin 512) :
    View.ld x (rTk m) (ix2 z j) = x (ix2 0 (tok (mi m) j)) := by
  refine View.ld_unit_apply_of _ _ _ _ _ _ fun a => ?_
  rw [congrFun (off2 m) a]
  fin_cases a <;> simp [ix2, tok, bi, mi]
theorem ld_rOk {e : EltTy} (x : Vec Ideal S8192x16 e) (m : Fin k1_t1_loop.trips) (j : Fin 512) (k : Fin 16) :
    View.ld x (rOk m) (ix2 j k) = x (ix2 (tok (mi m) j) k) := by
  refine View.ld_unit_apply_of _ _ _ _ _ _ fun a => ?_
  rw [congrFun (off3 m) a]
  fin_cases a <;> simp [ix2, tok, bi, mi]
theorem ld_rAll {e : EltTy} (x : Vec Ideal S8192x16 e) : View.ld x rAll = x :=
  View.ld_unit_zero (S := S8192x16) (off := ![0, 0]) (by decide) _ _
theorem ld_rM {e : EltTy} (x : Vec Ideal S16x1x16 e) : View.ld x rM = x :=
  View.ld_unit_zero (S := S16x1x16) (off := ![0, 0, 0]) (by decide) _ _

variable (i : grid1.Coords) (x0 x1 : Vec Ideal S1x8192 .f32) (x2 x3 : Vec Ideal S1x8192 .i32) (x4 x5 : Vec Ideal S8192x16 .f32)
  (x6 x7 : Vec Ideal S16x1x16 .f32)
variable (p q : Fin 8192 → EReal) (K0 K1 : Fin 8192 → Fin 16)

theorem lt_word (a b : ℕ) (ha : a < 2 ^ 31) (hb : b < 2 ^ 31) :
    IntOp.cmpi .slt (BitVec.ofNat 32 a) (BitVec.ofNat 32 b) = if a < b then 1#1 else 0#1 := by
  have h (n : ℕ) (hn : n < 2 ^ 31) : (BitVec.ofNat 32 n).toInt = n := by
    rw [BitVec.toInt_eq_toNat_of_lt] <;> rw [BitVec.toNat_ofNat, Nat.mod_eq_of_lt (by omega)]; omega
  simp only [IntOp.cmpi, BitVec.slt, h a ha, h b hb]
  by_cases hp : a < b
  · rw [if_pos hp, decide_eq_true (by omega)]; rfl
  · rw [if_neg hp, decide_eq_false (by omega)]; rfl

theorem tok_word (b : Fin 16) (j : Fin 512) (w : BitVec 32) (hw : w = BitVec.ofNat 32 b.val) :
    IntOp.addi (BitVec.ofNat 32 j.val) (Scalar.muli w 512#32) = BitVec.ofNat 32 (tok b j).val := by
  subst hw
  show BitVec.ofNat 32 j.val + BitVec.ofNat 32 b.val * BitVec.ofNat 32 512 = _
  rw [← BitVec.ofNat_mul, ← BitVec.ofNat_add, add_comm]; rfl

theorem iv_word : ∀ m : Fin k1_t1_loop.trips, Scf.iv 0#32 1#32 m.val = BitVec.ofNat 32 (mi m).val := by decide +kernel

theorem sitofp_one : (FloatOps.sitofp (F := Ideal) .f32 (BitVec.setWidth 32 (1#1)) : Ideal .f32) = (1 : EReal) := by
  show (((BitVec.setWidth 32 (1#1)).toInt : ℝ) : EReal) = 1
  rw [show (BitVec.setWidth 32 (1#1)).toInt = 1 from by decide]; norm_num

theorem sitofp_zero : (FloatOps.sitofp (F := Ideal) .f32 (BitVec.setWidth 32 (0#1)) : Ideal .f32) = (0 : EReal) := by
  show (((BitVec.setWidth 32 (0#1)).toInt : ℝ) : EReal) = 0
  rw [show (BitVec.setWidth 32 (0#1)).toInt = 0 from by decide]; norm_num

theorem word_or (a b c : Prop) [Decidable a] [Decidable b] [Decidable c] [Decidable (a ∨ b ∧ c)] :
    (FloatOps.sitofp (F := Ideal) .f32 (BitVec.setWidth 32
      (IntOp.ori (BitVec.ofBool (decide a)) (IntOp.andi (BitVec.ofBool (decide b)) (if c then 1#1 else 0#1)))) : Ideal .f32)
      = if a ∨ b ∧ c then (1 : EReal) else 0 := by
  by_cases ha : a <;> by_cases hb : b <;> by_cases hc : c <;> simp only [ha, hb, hc, decide_true, decide_false, if_true, if_false,
    true_or, false_or, true_and, false_and, and_true, and_false] <;> first | exact sitofp_one | exact sitofp_zero

theorem pay6_eq (m : Fin k1_t1_loop.trips) (v2 v89 : Vec Ideal S1x512 .f32) (h2 : ∀ j, v2 (ix2 0 j) = p (tok (bi i) j))
    (h89 : ∀ j, v89 (ix2 0 j) = p (tok (mi m) j)) (j jj : Fin 512) :
    k1_pay6 i v2 m v89 (ix2 j jj) = if Spec.before p (tok (mi m) jj) (tok (bi i) j) then (1 : EReal) else 0 := by
  have h31 (b : Fin 16) (j : Fin 512) : (tok b j).val < 2 ^ 31 := lt_trans (tok b j).isLt (by norm_num)
  unfold k1_pay6
  pointwise
  rw [tok_word (mi m) jj _ (iv_word m), tok_word (bi i) j (BitVec.ofNat 32 (i 0).val) rfl, lt_word _ _ (h31 _ _) (h31 _ _), h2, h89]
  unfold Spec.before
  simp only [Fin.lt_def]
  exact word_or _ _ _

theorem pay7_eq (m : Fin k1_t1_loop.trips) (v2 v89 : Vec Ideal S1x512 .f32) (h2 : ∀ j, v2 (ix2 0 j) = p (tok (bi i) j))
    (h89 : ∀ j, v89 (ix2 0 j) = p (tok (mi m) j)) (a v : FVec Ideal S512x16 .f32) (hv : ∀ j e, v (ix2 j e) = x4 (ix2 (tok (mi m) j) e))
    (j : Fin 512) (e : Fin 16) :
    k1_pay7 i v2 m a v89 v (ix2 j e)
      = a (ix2 j e) + ∑ jj, (if Spec.before p (tok (mi m) jj) (tok (bi i) j) then (1 : EReal) else 0) * x4 (ix2 (tok (mi m) jj) e) := by
  unfold k1_pay7
  pointwise
  simp only [pay6_eq i p m v2 v89 h2 h89, hv]

theorem pay8_eq (m : Fin k1_t1_loop.trips) (v2 v89 : Vec Ideal S1x512 .f32) (h2 : ∀ j, v2 (ix2 0 j) = p (tok (bi i) j))
    (h89 : ∀ j, v89 (ix2 0 j) = p (tok (mi m) j)) (a v : FVec Ideal S512x16 .f32) (hv : ∀ j e, v (ix2 j e) = x4 (ix2 (tok (mi m) j) e))
    (j : Fin 512) (e : Fin 16) :
    k1_pay8 i v2 m a v89 v (ix2 j e)
      = a (ix2 j e) + ∑ jj, (if Spec.before p (tok (mi m) jj) (tok (bi i) j) then (1 : EReal) else 0) * x4 (ix2 (tok (mi m) jj) e) := by
  unfold k1_pay8
  pointwise
  simp only [pay6_eq i p m v2 v89 h2 h89, hv]

theorem acc_eq (h0 : ∀ t, x0 (ix2 0 t) = p t) (j : Fin 512) (e : Fin 16) (n : ℕ) (hn : n ≤ 16) :
    (acc i (View.ld x0 (rT i)) x0 x4 x5 n).1 (ix2 j e)
      = ∑ m ∈ Finset.univ.filter (fun m : Fin 16 => m.val < n), ∑ jj, (if Spec.before p (tok m jj) (tok (bi i) j) then (1 : EReal) else 0) * x4 (ix2 (tok m jj) e)
    ∧ (acc i (View.ld x0 (rT i)) x0 x4 x5 n).2 (ix2 j e)
      = ∑ m ∈ Finset.univ.filter (fun m : Fin 16 => m.val < n), ∑ jj, (if Spec.before p (tok m jj) (tok (bi i) j) then (1 : EReal) else 0) * x5 (ix2 (tok m jj) e) := by
  induction n with
  | zero =>
    unfold acc k1_pay4 k1_pay5
    pointwise
    simp
  | succ n ih =>
    obtain ⟨ih1, ih2⟩ := ih (by omega)
    have hs : Finset.univ.filter (fun m : Fin 16 => m.val < n + 1) = insert ⟨n, by omega⟩ (Finset.univ.filter fun m : Fin 16 => m.val < n) := by
      ext m; simp [Fin.ext_iff]; omega
    have := acc_succ (F := Ideal) i (View.ld x0 (rT i)) x0 x4 x5 ⟨n, by rw [trips16]; omega⟩
    simp only at this
    rw [this, hs, Finset.sum_insert (by simp), Finset.sum_insert (by simp)]
    simp only
    rw [pay7_eq i x4 p _ _ _ (fun j => by rw [ld_rT, h0]) (fun j => by rw [ld_rTk, h0]) _ _ (fun j e => by rw [ld_rOk]),
      pay8_eq i x5 p _ _ _ (fun j => by rw [ld_rT, h0]) (fun j => by rw [ld_rTk, h0]) _ _ (fun j e => by rw [ld_rOk]), ih1, ih2]
    exact ⟨add_comm _ _, add_comm _ _⟩

theorem cnt_eq (h0 : ∀ t, x0 (ix2 0 t) = p t) (h4 : ∀ t e, x4 (ix2 t e) = ind (K0 t) e) (h5 : ∀ t e, x5 (ix2 t e) = ind (K1 t) e)
    (j : Fin 512) (e : Fin 16) :
    (Route.cnt i x0 x4 x5).1 (ix2 j e) = (Spec.cnt p K0 (tok (bi i) j) e : EReal)
    ∧ (Route.cnt i x0 x4 x5).2 (ix2 j e) = (Spec.cnt p K1 (tok (bi i) j) e : EReal) := by
  have hf : Finset.univ.filter (fun m : Fin 16 => m.val < 16) = Finset.univ := Finset.filter_true_of_mem fun m _ => m.isLt
  unfold Route.cnt
  rw [trips16, (acc_eq i x0 x4 x5 p h0 j e 16 le_rfl).1, (acc_eq i x0 x4 x5 p h0 j e 16 le_rfl).2, hf]
  simp only [h4, h5]
  rw [Spec.sum_tok (fun s => (if Spec.before p s (tok (bi i) j) then (1 : EReal) else 0) * ind (K0 s) e),
    Spec.sum_tok (fun s => (if Spec.before p s (tok (bi i) j) then (1 : EReal) else 0) * ind (K1 s) e)]
  exact ⟨Spec.sum_before _ _ _ _, Spec.sum_before _ _ _ _⟩

theorem pos0_eq (h0 : ∀ t, x0 (ix2 0 t) = p t) (h4 : ∀ t e, x4 (ix2 t e) = ind (K0 t) e) (h5 : ∀ t e, x5 (ix2 t e) = ind (K1 t) e)
    (j : Fin 512) :
    Route.pos0 i x0 x1 x2 x3 x4 x5 x6 x7 (ix1 j) = BitVec.ofNat 32 (Spec.cnt p K0 (tok (bi i) j) (K0 (tok (bi i) j))) := by
  unfold Route.pos0 k1_pay9
  have hl : ∀ j e, View.ld x4 (rO i) (ix2 j e) = ind (K0 (tok (bi i) j)) e := fun j e => by rw [ld_rO, h4]
  generalize View.ld x4 (rO i) = v at hl
  pointwise
  simp only [(cnt_eq i x0 x4 x5 p K0 K1 h0 h4 h5 j _).1, hl, Spec.sum_ind]
  exact Spec.fptosi_nat _ (lt_of_le_of_lt (Spec.cnt_le _ _ _ _) (by norm_num))

theorem pos1_eq (h0 : ∀ t, x0 (ix2 0 t) = p t) (h4 : ∀ t e, x4 (ix2 t e) = ind (K0 t) e) (h5 : ∀ t e, x5 (ix2 t e) = ind (K1 t) e)
    (j : Fin 512) :
    Route.pos1 i x0 x1 x2 x3 x4 x5 x6 x7 (ix1 j)
      = BitVec.ofNat 32 (Spec.cnt p K1 (tok (bi i) j) (K1 (tok (bi i) j)) + Spec.tot K0 (K1 (tok (bi i) j))) := by
  unfold Route.pos1 k1_pay10
  rw [ld_rAll]
  have hl : ∀ j e, View.ld x5 (rO i) (ix2 j e) = ind (K1 (tok (bi i) j)) e := fun j e => by rw [ld_rO, h5]
  generalize View.ld x5 (rO i) = v at hl
  pointwise
  simp only [(cnt_eq i x0 x4 x5 p K0 K1 h0 h4 h5 j _).2, hl, h4, Spec.sum_ind, Spec.sum_all]
  rw [← Nat.cast_add]
  exact Spec.fptosi_nat _ (lt_of_le_of_lt (Nat.add_le_add (Spec.cnt_le _ _ _ _) (Spec.tot_le _ _)) (by norm_num))

end Cert.KernelIdeal.RouteValue
-- ==== Proof.Value.Route.lean ====
/-
  What the routing call leaves in its seven results, on plain functions.
-/
module

public import proofs.«01_k».proof.Proof.Value.RoutePay

@[expose] public section

set_option maxRecDepth 16384

noncomputable section

namespace Cert.KernelIdeal.RouteValue

open Cert.KernelIdeal.Gen Cert.KernelIdeal.Host Cert.KernelIdeal.Route
open Idealize.ShloMosaic Idealize.ShloMosaic.TcCoe
open Cert.Spec (tok ind)

variable (V : (c : Dev nD) → (b : Ref sig .tc) → Buf (Elt Ideal) ((c : Thread nD τ).loc b)) (c : Dev nD)

/-- What the call's eight operands hold: the two gates and experts of each token, one-hot tables of the experts, and the
    block sums for the balance loss. -/
structure Ent (p q : Fin 8192 → EReal) (K0 K1 : Fin 8192 → Fin 16) (me ce : Fin 16 → Fin 16 → EReal) : Prop where
  h0 : ∀ t, (V c main_v2 : S1x8192.Idx → EReal) (ix2 0 t) = p t
  h1 : ∀ t, (V c main_v3 : S1x8192.Idx → EReal) (ix2 0 t) = q t
  h2 : ∀ t, (V c main_v4 : S1x8192.Idx → BitVec 32) (ix2 0 t) = BitVec.ofNat 32 (K0 t).val
  h3 : ∀ t, (V c main_v5 : S1x8192.Idx → BitVec 32) (ix2 0 t) = BitVec.ofNat 32 (K1 t).val
  h4 : ∀ t e, (V c main_v1_4 : S8192x16.Idx → EReal) (ix2 t e) = ind (K0 t) e
  h5 : ∀ t e, (V c main_v1_5 : S8192x16.Idx → EReal) (ix2 t e) = ind (K1 t) e
  h6 : ∀ b e, (V c main_v1_6 : S16x1x16.Idx → EReal) (ix3 b 0 e) = me b e
  h7 : ∀ b e, (V c main_v1_7 : S16x1x16.Idx → EReal) (ix3 b 0 e) = ce b e

theorem e0 : ∀ t : Fin cfg1.N, win1_0.index t = ![0, 0] := (by decide +kernel : ∀ t : Fin grid1.N, _)
theorem e1 : ∀ t : Fin cfg1.N, win1_1.index t = ![0, 0] := (by decide +kernel : ∀ t : Fin grid1.N, _)
theorem e2 : ∀ t : Fin cfg1.N, win1_2.index t = ![0, 0] := (by decide +kernel : ∀ t : Fin grid1.N, _)
theorem e3 : ∀ t : Fin cfg1.N, win1_3.index t = ![0, 0] := (by decide +kernel : ∀ t : Fin grid1.N, _)
theorem e4 : ∀ t : Fin cfg1.N, win1_4.index t = ![0, 0] := (by decide +kernel : ∀ t : Fin grid1.N, _)
theorem e5 : ∀ t : Fin cfg1.N, win1_5.index t = ![0, 0] := (by decide +kernel : ∀ t : Fin grid1.N, _)
theorem e6 : ∀ t : Fin cfg1.N, win1_6.index t = ![0, 0, 0] := (by decide +kernel : ∀ t : Fin grid1.N, _)
theorem e7 : ∀ t : Fin cfg1.N, win1_7.index t = ![0, 0, 0] := (by decide +kernel : ∀ t : Fin grid1.N, _)
theorem e8 : ∀ t : Fin cfg1.N, win1_8.index t = ![(grid1.coords t 0).val, 0, 0] := (by decide +kernel : ∀ t : Fin grid1.N, _)
theorem e9 : ∀ t : Fin cfg1.N, win1_9.index t = ![(grid1.coords t 0).val, 0, 0] := (by decide +kernel : ∀ t : Fin grid1.N, _)
theorem e10 : ∀ t : Fin cfg1.N, win1_10.index t = ![(grid1.coords t 0).val, 0, 0] := (by decide +kernel : ∀ t : Fin grid1.N, _)
theorem e11 : ∀ t : Fin cfg1.N, win1_11.index t = ![(grid1.coords t 0).val, 0, 0] := (by decide +kernel : ∀ t : Fin grid1.N, _)
theorem e12 : ∀ t : Fin cfg1.N, win1_12.index t = ![(grid1.coords t 0).val, 0, 0] := (by decide +kernel : ∀ t : Fin grid1.N, _)
theorem e13 : ∀ t : Fin cfg1.N, win1_13.index t = ![(grid1.coords t 0).val, 0, 0] := (by decide +kernel : ∀ t : Fin grid1.N, _)

theorem blk0 (t : Fin cfg1.N) : (iblk V c 0 t : Vec Ideal S1x8192 .f32) = (V c main_v2 : S1x8192.Idx → EReal) := by
  funext y
  idx_vars y
  blk_simp [iblk]
  refine congrArg _ ?_
  blk_ext [e0]

theorem blk1 (t : Fin cfg1.N) : (iblk V c 1 t : Vec Ideal S1x8192 .f32) = (V c main_v3 : S1x8192.Idx → EReal) := by
  funext y
  idx_vars y
  blk_simp [iblk]
  refine congrArg _ ?_
  blk_ext [e1]

theorem blk2 (t : Fin cfg1.N) : (iblk V c 2 t : Vec Ideal S1x8192 .i32) = (V c main_v4 : S1x8192.Idx → BitVec 32) := by
  funext y
  idx_vars y
  blk_simp [iblk]
  refine congrArg _ ?_
  blk_ext [e2]

theorem blk3 (t : Fin cfg1.N) : (iblk V c 3 t : Vec Ideal S1x8192 .i32) = (V c main_v5 : S1x8192.Idx → BitVec 32) := by
  funext y
  idx_vars y
  blk_simp [iblk]
  refine congrArg _ ?_
  blk_ext [e3]

theorem blk4 (t : Fin cfg1.N) : (iblk V c 4 t : Vec Ideal S8192x16 .f32) = (V c main_v1_4 : S8192x16.Idx → EReal) := by
  funext y
  idx_vars y
  blk_simp [iblk]
  refine congrArg _ ?_
  blk_ext [e4]

theorem blk5 (t : Fin cfg1.N) : (iblk V c 5 t : Vec Ideal S8192x16 .f32) = (V c main_v1_5 : S8192x16.Idx → EReal) := by
  funext y
  idx_vars y
  blk_simp [iblk]
  refine congrArg _ ?_
  blk_ext [e5]

theorem blk6 (t : Fin cfg1.N) : (iblk V c 6 t : Vec Ideal S16x1x16 .f32) = (V c main_v1_6 : S16x1x16.Idx → EReal) := by
  funext y
  idx_vars y
  blk_simp [iblk]
  refine congrArg _ ?_
  blk_ext [e6]

theorem blk7 (t : Fin cfg1.N) : (iblk V c 7 t : Vec Ideal S16x1x16 .f32) = (V c main_v1_7 : S16x1x16.Idx → EReal) := by
  funext y
  idx_vars y
  blk_simp [iblk]
  refine congrArg _ ?_
  blk_ext [e7]

variable (p q : Fin 8192 → EReal) (K0 K1 : Fin 8192 → Fin 16) (me ce : Fin 16 → Fin 16 → EReal)

/-- A token's place among the first choices, and among the second choices. -/
def n0 (t : Fin 8192) : ℕ := Spec.cnt p K0 t (K0 t)
def n1 (t : Fin 8192) : ℕ := Spec.cnt p K1 t (K1 t) + Spec.tot K0 (K1 t)

theorem n0_lt (t : Fin 8192) : n0 p K0 t < 2 ^ 31 := lt_of_le_of_lt (Spec.cnt_le _ _ _ _) (by norm_num)
theorem n1_lt (t : Fin 8192) : n1 p K0 K1 t < 2 ^ 31 :=
  lt_of_le_of_lt (Nat.add_le_add (Spec.cnt_le _ _ _ _) (Spec.tot_le _ _)) (by norm_num)

section Points

variable {V c p q K0 K1 me ce}

theorem pos0_at (h : Ent V c p q K0 K1 me ce) (t : Fin cfg1.N) (j : Fin 512) :
    Route.pos0 (grid1.coords t) (iblk V c 0 t) (iblk V c 1 t) (iblk V c 2 t) (iblk V c 3 t) (iblk V c 4 t) (iblk V c 5 t) (iblk V c 6 t)
      (iblk V c 7 t) (ix1 j) = BitVec.ofNat 32 (n0 p K0 (tok (bi (grid1.coords t)) j)) :=
  pos0_eq _ _ _ _ _ _ _ _ _ p K0 K1 (fun t' => by rw [blk0]; exact h.h0 t') (fun t' e => by rw [blk4]; exact h.h4 t' e)
    (fun t' e => by rw [blk5]; exact h.h5 t' e) j

theorem pos1_at (h : Ent V c p q K0 K1 me ce) (t : Fin cfg1.N) (j : Fin 512) :
    Route.pos1 (grid1.coords t) (iblk V c 0 t) (iblk V c 1 t) (iblk V c 2 t) (iblk V c 3 t) (iblk V c 4 t) (iblk V c 5 t) (iblk V c 6 t)
      (iblk V c 7 t) (ix1 j) = BitVec.ofNat 32 (n1 p K0 K1 (tok (bi (grid1.coords t)) j)) :=
  pos1_eq _ _ _ _ _ _ _ _ _ p K0 K1 (fun t' => by rw [blk0]; exact h.h0 t') (fun t' e => by rw [blk4]; exact h.h4 t' e)
    (fun t' e => by rw [blk5]; exact h.h5 t' e) j

theorem ok0_at (h : Ent V c p q K0 K1 me ce) (t : Fin cfg1.N) (j : Fin 512) :
    Route.ok0 (grid1.coords t) (iblk V c 0 t) (iblk V c 1 t) (iblk V c 2 t) (iblk V c 3 t) (iblk V c 4 t) (iblk V c 5 t) (iblk V c 6 t)
      (iblk V c 7 t) (ix1 j) = if n0 p K0 (tok (bi (grid1.coords t)) j) < 1280 then 1#1 else 0#1 := by
  have hp := pos0_at h t j
  unfold Route.pos0 at hp
  unfold Route.ok0 k1_pay13
  generalize k1_pay9 (F := Ideal) _ _ = v at hp ⊢
  pointwise
  rw [hp, Spec.lt_cap _ (n0_lt _ _ _)]

theorem row2 (h : Ent V c p q K0 K1 me ce) (t : Fin cfg1.N) (j : Fin 512) :
    View.ld (iblk V c 2 t : Vec Ideal S1x8192 .i32) (rT (grid1.coords t)) (ix2 0 j) = BitVec.ofNat 32 (K0 (tok (bi (grid1.coords t)) j)).val := by
  rw [ld_rT, blk2]; exact h.h2 _
theorem row3 (h : Ent V c p q K0 K1 me ce) (t : Fin cfg1.N) (j : Fin 512) :
    View.ld (iblk V c 3 t : Vec Ideal S1x8192 .i32) (rT (grid1.coords t)) (ix2 0 j) = BitVec.ofNat 32 (K1 (tok (bi (grid1.coords t)) j)).val := by
  rw [ld_rT, blk3]; exact h.h3 _
theorem row0 (h : Ent V c p q K0 K1 me ce) (t : Fin cfg1.N) (j : Fin 512) :
    View.ld (iblk V c 0 t : Vec Ideal S1x8192 .f32) (rT (grid1.coords t)) (ix2 0 j) = p (tok (bi (grid1.coords t)) j) := by
  rw [ld_rT, blk0]; exact h.h0 _
theorem row1 (h : Ent V c p q K0 K1 me ce) (t : Fin cfg1.N) (j : Fin 512) :
    View.ld (iblk V c 1 t : Vec Ideal S1x8192 .f32) (rT (grid1.coords t)) (ix2 0 j) = q (tok (bi (grid1.coords t)) j) := by
  rw [ld_rT, blk1]; exact h.h1 _

theorem sslot_word (k : Fin 16) (n : ℕ) (hn : n < 2 ^ 31) :
    Scalar.select (if n < 1280 then 1#1 else 0#1) (BitVec.ofNat 32 (Spec.slot k n)) 20480#32 = BitVec.ofNat 32 (Spec.sslot k n) := by
  unfold Spec.sslot Scalar.select
  by_cases hc : n < 1280 <;> simp [hc]

theorem sel_if {α : Type} (P : Prop) [Decidable P] (a b : α) : Scalar.select (if P then 1#1 else 0#1) a b = if P then a else b := by
  unfold Scalar.select
  by_cases hP : P <;> simp [hP]

end Points

set_option maxHeartbeats 1000000 in
theorem arr8 (h : Ent V c p q K0 K1 me ce) : (dat V c).arrAt 8 cfg1.N = (fun i => BitVec.ofNat 32 (Spec.sslot (K0 (tok (i 0) (i 2))) (n0 p K0 (tok (i 0) (i 2)))) : S16x1x512.Idx → BitVec 32) := by
  refine (dat V c).arrAt_eq_of_covers 8 _ (by decide +kernel) fun t hf y => ?_
  blk_simp
  rw [after_8]
  unfold out8
  rw [View.canon_unit_zero (by decide)]
  idx_vars y
  have hE : (win1_8.blk t).view.emb (ix3 y0 y1 y2) = ix3 (bi (grid1.coords t)) 0 y2 := by
    unfold bi; blk_ext [e8]
  have hP := pos0_at h t y2
  generalize Route.pos0 (F := Ideal) _ _ _ _ _ _ _ _ _ = P at hP ⊢
  have hO := ok0_at h t y2
  generalize Route.ok0 (F := Ideal) _ _ _ _ _ _ _ _ _ = O at hO ⊢
  have hR := row2 h t y2
  generalize View.ld (iblk V c 2 t) (rT (grid1.coords t)) = R at hR ⊢
  unfold k1_pay17 k1_pay15 k1_pay11
  pointwise
  rw [hP, hO, hR, Spec.slot_word _ _ (n0_lt _ _ _), sslot_word _ _ (n0_lt _ _ _)]
  simp only [hE, ix3, n0, n1]

set_option maxHeartbeats 1000000 in
theorem arr9 (h : Ent V c p q K0 K1 me ce) : (dat V c).arrAt 9 cfg1.N = (fun i => BitVec.ofNat 32 (Spec.sslot (K1 (tok (i 0) (i 2))) (n1 p K0 K1 (tok (i 0) (i 2)))) : S16x1x512.Idx → BitVec 32) := by
  refine (dat V c).arrAt_eq_of_covers 9 _ (by decide +kernel) fun t hf y => ?_
  blk_simp
  rw [after_9]
  unfold out9
  rw [View.canon_unit_zero (by decide)]
  idx_vars y
  have hE : (win1_9.blk t).view.emb (ix3 y0 y1 y2) = ix3 (bi (grid1.coords t)) 0 y2 := by
    unfold bi; blk_ext [e9]
  have hP := pos1_at h t y2
  generalize Route.pos1 (F := Ideal) _ _ _ _ _ _ _ _ _ = P at hP ⊢
  have hR := row3 h t y2
  generalize View.ld (iblk V c 3 t) (rT (grid1.coords t)) = R at hR ⊢
  unfold k1_pay18 k1_pay16 k1_pay14 k1_pay12
  pointwise
  rw [hP, hR, Spec.slot_word _ _ (n1_lt _ _ _ _), Spec.lt_cap _ (n1_lt _ _ _ _), sslot_word _ _ (n1_lt _ _ _ _)]
  simp only [hE, ix3, n0, n1]

set_option maxHeartbeats 1000000 in
theorem arr10 (h : Ent V c p q K0 K1 me ce) : (dat V c).arrAt 10 cfg1.N = (fun i => BitVec.ofNat 32 (Spec.slot (K0 (tok (i 0) (i 2))) (n0 p K0 (tok (i 0) (i 2)))) : S16x1x512.Idx → BitVec 32) := by
  refine (dat V c).arrAt_eq_of_covers 10 _ (by decide +kernel) fun t hf y => ?_
  blk_simp
  rw [after_10]
  unfold out10
  rw [View.canon_unit_zero (by decide)]
  idx_vars y
  have hE : (win1_10.blk t).view.emb (ix3 y0 y1 y2) = ix3 (bi (grid1.coords t)) 0 y2 := by
    unfold bi; blk_ext [e10]
  have hP := pos0_at h t y2
  generalize Route.pos0 (F := Ideal) _ _ _ _ _ _ _ _ _ = P at hP ⊢
  have hR := row2 h t y2
  generalize View.ld (iblk V c 2 t) (rT (grid1.coords t)) = R at hR ⊢
  unfold k1_pay19 k1_pay15 k1_pay11
  pointwise
  rw [hP, hR, Spec.slot_word _ _ (n0_lt _ _ _)]
  simp only [hE, ix3, n0, n1]

set_option maxHeartbeats 1000000 in
theorem arr11 (h : Ent V c p q K0 K1 me ce) : (dat V c).arrAt 11 cfg1.N = (fun i => BitVec.ofNat 32 (Spec.slot (K1 (tok (i 0) (i 2))) (n1 p K0 K1 (tok (i 0) (i 2)))) : S16x1x512.Idx → BitVec 32) := by
  refine (dat V c).arrAt_eq_of_covers 11 _ (by decide +kernel) fun t hf y => ?_
  blk_simp
  rw [after_11]
  unfold out11
  rw [View.canon_unit_zero (by decide)]
  idx_vars y
  have hE : (win1_11.blk t).view.emb (ix3 y0 y1 y2) = ix3 (bi (grid1.coords t)) 0 y2 := by
    unfold bi; blk_ext [e11]
  have hP := pos1_at h t y2
  generalize Route.pos1 (F := Ideal) _ _ _ _ _ _ _ _ _ = P at hP ⊢
  have hR := row3 h t y2
  generalize View.ld (iblk V c 3 t) (rT (grid1.coords t)) = R at hR ⊢
  unfold k1_pay20 k1_pay16 k1_pay12
  pointwise
  rw [hP, hR, Spec.slot_word _ _ (n1_lt _ _ _ _)]
  simp only [hE, ix3, n0, n1]

end Cert.KernelIdeal.RouteValue
-- ==== Proof.Value.RouteWeights.lean ====
/-
  The weights of the tokens' two experts, the routing call's last results for each token.
-/
module

public import proofs.«01_k».proof.Proof.Value.Route

@[expose] public section

set_option maxRecDepth 16384

noncomputable section

namespace Cert.KernelIdeal.RouteValue

open Cert.KernelIdeal.Gen Cert.KernelIdeal.Host Cert.KernelIdeal.Route
open Idealize.ShloMosaic Idealize.ShloMosaic.TcCoe
open Cert.Spec (tok ind)

variable (V : (c : Dev nD) → (b : Ref sig .tc) → Buf (Elt Ideal) ((c : Thread nD τ).loc b)) (c : Dev nD)
variable (p q : Fin 8192 → EReal) (K0 K1 : Fin 8192 → Fin 16) (me ce : Fin 16 → Fin 16 → EReal)

set_option maxHeartbeats 1000000 in
theorem arr12 (h : Ent V c p q K0 K1 me ce) : (dat V c).arrAt 12 cfg1.N = (fun i => if n0 p K0 (tok (i 0) (i 2)) < 1280 then p (tok (i 0) (i 2)) else 0 : S16x1x512.Idx → EReal) := by
  refine (dat V c).arrAt_eq_of_covers 12 _ (by decide +kernel) fun t hf y => ?_
  blk_simp
  rw [after_12]
  unfold out12
  rw [View.canon_unit_zero (by decide)]
  idx_vars y
  have hE : (win1_12.blk t).view.emb (ix3 y0 y1 y2) = ix3 (bi (grid1.coords t)) 0 y2 := by
    unfold bi; blk_ext [e12]
  have hO := ok0_at h t y2
  generalize Route.ok0 (F := Ideal) _ _ _ _ _ _ _ _ _ = O at hO ⊢
  have hR := row0 h t y2
  generalize View.ld (iblk V c 0 t) (rT (grid1.coords t)) = R at hR ⊢
  unfold k1_pay1 k1_pay21
  pointwise
  rw [hO, hR, sel_if]
  simp only [hE, ix3, n0, n1]
  first | rfl | exact if_congr Iff.rfl rfl rfl

set_option maxHeartbeats 1000000 in
theorem arr13 (h : Ent V c p q K0 K1 me ce) : (dat V c).arrAt 13 cfg1.N = (fun i => if n1 p K0 K1 (tok (i 0) (i 2)) < 1280 then q (tok (i 0) (i 2)) else 0 : S16x1x512.Idx → EReal) := by
  refine (dat V c).arrAt_eq_of_covers 13 _ (by decide +kernel) fun t hf y => ?_
  blk_simp
  rw [after_13]
  unfold out13
  rw [View.canon_unit_zero (by decide)]
  idx_vars y
  have hE : (win1_13.blk t).view.emb (ix3 y0 y1 y2) = ix3 (bi (grid1.coords t)) 0 y2 := by
    unfold bi; blk_ext [e13]
  have hP := pos1_at h t y2
  generalize Route.pos1 (F := Ideal) _ _ _ _ _ _ _ _ _ = P at hP ⊢
  have hR := row1 h t y2
  generalize View.ld (iblk V c 1 t) (rT (grid1.coords t)) = R at hR ⊢
  unfold k1_pay2 k1_pay14
  pointwise
  rw [hP, hR, Spec.lt_cap _ (n1_lt _ _ _ _), sel_if]
  simp only [hE, ix3, n0, n1]
  first | rfl | exact if_congr Iff.rfl rfl rfl

end Cert.KernelIdeal.RouteValue
-- ==== Proof.Value.Laux.lean ====
/-
  The balance loss the routing call leaves, on plain functions.
-/
module

public import proofs.«01_k».proof.Proof.Value.RoutePay

@[expose] public section

set_option maxRecDepth 16384

noncomputable section

namespace Cert.KernelIdeal.LauxValue

open Cert.KernelIdeal.Gen Cert.KernelIdeal.Host Cert.KernelIdeal.Route Cert.KernelIdeal.RouteValue
open Idealize.ShloMosaic Idealize.ShloMosaic.TcCoe

/-- The loss of the block sums. -/
def loss (me ce : Fin 16 → Fin 16 → EReal) : EReal :=
  (∑ e, Ideal.div (∑ b, me b e) (Ideal.ofBits .f32 0x46000000#32) * Ideal.div (∑ b, ce b e) (Ideal.ofBits .f32 0x46000000#32))
    * Ideal.ofBits .f32 0x41800000#32 * Ideal.ofBits .f32 0x3C23D70A#32

theorem pay3_eq (x y : Vec Ideal S16x1x16 .f32) (me ce : Fin 16 → Fin 16 → EReal)
    (hx : ∀ b e, x (ix3 b 0 e) = me b e) (hy : ∀ b e, y (ix3 b 0 e) = ce b e) (i : Fin 8) (j : Fin 128) :
    k1_pay3 x y (ix2 i j) = loss me ce := by
  unfold k1_pay3 loss
  pointwise
  simp only [hx, hy]

variable (V : (c : Dev nD) → (b : Ref sig .tc) → Buf (Elt Ideal) ((c : Thread nD τ).loc b)) (c : Dev nD)

theorem e6 : ∀ t : Fin cfg1.N, win1_6.index t = ![0, 0, 0] := (by decide +kernel : ∀ t : Fin grid1.N, _)
theorem e7 : ∀ t : Fin cfg1.N, win1_7.index t = ![0, 0, 0] := (by decide +kernel : ∀ t : Fin grid1.N, _)

theorem blk6 (t : Fin cfg1.N) : (iblk V c 6 t : Vec Ideal S16x1x16 .f32) = (V c main_v1_6 : S16x1x16.Idx → EReal) := by
  funext y
  idx_vars y
  blk_simp [iblk]
  refine congrArg _ ?_
  blk_ext [e6]

theorem blk7 (t : Fin cfg1.N) : (iblk V c 7 t : Vec Ideal S16x1x16 .f32) = (V c main_v1_7 : S16x1x16.Idx → EReal) := by
  funext y
  idx_vars y
  blk_simp [iblk]
  refine congrArg _ ?_
  blk_ext [e7]

variable (me ce : Fin 16 → Fin 16 → EReal)

theorem pay3_fun (h6 : ∀ b e, (V c main_v1_6 : S16x1x16.Idx → EReal) (ix3 b 0 e) = me b e)
    (h7 : ∀ b e, (V c main_v1_7 : S16x1x16.Idx → EReal) (ix3 b 0 e) = ce b e) :
    k1_pay3 (iblk V c 6 t0 : Vec Ideal S16x1x16 .f32) (iblk V c 7 t0 : Vec Ideal S16x1x16 .f32) = fun _ => loss me ce := by
  rw [blk6, blk7]
  funext y
  idx_vars y
  exact pay3_eq _ _ me ce h6 h7 y0 y1

theorem arr14 (h6 : ∀ b e, (V c main_v1_6 : S16x1x16.Idx → EReal) (ix3 b 0 e) = me b e)
    (h7 : ∀ b e, (V c main_v1_7 : S16x1x16.Idx → EReal) (ix3 b 0 e) = ce b e) :
    (dat V c).arrAt 14 cfg1.N = (fun _ => loss me ce : S8x128.Idx → EReal) := by
  refine (dat V c).arrAt_eq_of_covers 14 _ (by decide +kernel) fun t hf y => ?_
  blk_simp
  rw [after_14]
  unfold out14
  rw [View.canon_unit_zero (by decide), ld_rM, ld_rM]
  rw [pay3_fun V c me ce h6 h7]

/-- The loss of the gates' and first choices' block sums is the balance loss. -/
theorem loss_eq (g : Fin 8192 → Fin 16 → EReal) :
    loss (fun b e => ∑ j, g (Spec.tok b j) e) (fun b e => ∑ j, Spec.ind (Spec.top (g (Spec.tok b j))) e) = Spec.laux g := by
  unfold loss Spec.laux
  refine congrArg (fun s => s * _ * _) (Finset.sum_congr rfl fun e _ => ?_)
  rw [Spec.sum_tok (fun t => g t e), Spec.sum_tok (fun t => Spec.ind (Spec.top (g t)) e)]

end Cert.KernelIdeal.LauxValue
-- ==== Proof.Value.Ffn.lean ====
/-
  What the feed-forward call leaves in its result, on plain functions: row `e * 1280 + r` holds expert `e`'s network on that
  row of the operand. The result's last block of rows is not written.
-/
module

public import proofs.«01_k».proof.Proof.KernelIdeal.Ffn
public import proofs.«01_k».proof.Proof.Value.Sums
public import Idealize.ShloMosaic.Lib.Pointwise
public import Idealize.ShloMosaic.Lib.IdealHost
public import Idealize.ShloMosaic.Lib.Pipeline.ValueKit

@[expose] public section

set_option maxRecDepth 16384

noncomputable section

namespace Cert.KernelIdeal.FfnValue

open Cert.KernelIdeal.Gen Cert.KernelIdeal.Host Cert.KernelIdeal.Ffn
open Idealize.ShloMosaic Idealize.ShloMosaic.TcCoe

/-- A grid point's expert and hidden block. -/
def eOf (t : Fin cfg2.N) : Fin 16 := ⟨t.val / 4, by have h : t.val < 64 := t.isLt; omega⟩
def hOf (t : Fin cfg2.N) : Fin 4 := ⟨t.val % 4, by omega⟩
/-- Hidden unit `f` of hidden block `h`. -/
def hid (h : Fin 4) (f : Fin 1024) : Fin 4096 := ⟨h.val * 1024 + f.val, by omega⟩
/-- Row `r` of expert `e`. -/
def row (e : Fin 16) (r : Fin 1280) : Fin 21760 := ⟨e.val * 1280 + r.val, by omega⟩

theorem sum_hid {M : Type} [AddCommMonoid M] (f : Fin 4096 → M) : ∑ h : Fin 4, ∑ j : Fin 1024, f (hid h j) = ∑ k, f k := by
  rw [← Fintype.sum_prod_type']
  refine Fintype.sum_bijective (fun q : Fin 4 × Fin 1024 => hid q.1 q.2) ⟨?_, ?_⟩ _ _ (fun _ => rfl)
  · rintro ⟨a, b⟩ ⟨a', b'⟩ h
    have := congrArg Fin.val h
    simp only [hid] at this
    ext <;> simp <;> omega
  · intro k
    refine ⟨(⟨k.val / 1024, by omega⟩, ⟨k.val % 1024, by omega⟩), Fin.ext ?_⟩
    simp only [hid]; omega

theorem off1 : ∀ t : Fin cfg2.N, k2_off1 (grid2.coords t) = ![t.val / 4, t.val % 4 * 1024] :=
  (by decide +kernel : ∀ t : Fin grid2.N, _)
theorem off2 : ∀ t : Fin cfg2.N, k2_off2 (grid2.coords t) = ![t.val / 4, 0] :=
  (by decide +kernel : ∀ t : Fin grid2.N, _)

theorem e0 : ∀ t : Fin cfg2.N, win2_0.index t = ![t.val / 4, 0] := (by decide +kernel : ∀ t : Fin grid2.N, _)
theorem e1 : ∀ t : Fin cfg2.N, win2_1.index t = ![t.val / 4, 0, t.val % 4] := (by decide +kernel : ∀ t : Fin grid2.N, _)
theorem e2 : ∀ t : Fin cfg2.N, win2_2.index t = ![0, 0] := (by decide +kernel : ∀ t : Fin grid2.N, _)
theorem e3 : ∀ t : Fin cfg2.N, win2_3.index t = ![t.val / 4, t.val % 4, 0] := (by decide +kernel : ∀ t : Fin grid2.N, _)
theorem e4 : ∀ t : Fin cfg2.N, win2_4.index t = ![0, 0] := (by decide +kernel : ∀ t : Fin grid2.N, _)
theorem e5 : ∀ t : Fin cfg2.N, win2_5.index t = ![t.val / 4, 0] := (by decide +kernel : ∀ t : Fin grid2.N, _)

theorem ld_rX (x : Vec Ideal S1280x1024 .f32) : View.ld x rX = x := View.ld_unit_zero (S := S1280x1024) (off := ![0, 0]) (by decide) _ _
theorem ld_rW (x : Vec Ideal S1x1024x1024 .f32) : View.ld x rW = x := View.ld_unit_zero (S := S1x1024x1024) (off := ![0, 0, 0]) (by decide) _ _
theorem ld_rB1 (x : Vec Ideal S16x4096 .f32) (t : Fin cfg2.N) (z : Fin 1) (f : Fin 1024) :
    View.ld x (rB1 (grid2.coords t)) (ix2 z f) = x (ix2 (eOf t) (hid (hOf t) f)) := by
  refine View.ld_unit_apply_of _ _ _ _ _ _ fun a => ?_
  rw [congrFun (off1 t) a]
  fin_cases a <;> simp [ix2, eOf, hOf, hid]
theorem ld_rB2 (x : Vec Ideal S16x1024 .f32) (t : Fin cfg2.N) (h : cond0 (grid2.coords t)) (z : Fin 1) (d : Fin 1024) :
    View.ld x (rB2 (grid2.coords t) h) (ix2 z d) = x (ix2 (eOf t) d) := by
  refine View.ld_unit_apply_of _ _ _ _ _ _ fun a => ?_
  rw [congrFun (off2 t) a]
  fin_cases a <;> simp [ix2, eOf]

/-- The partial product of one hidden block. -/
theorem pay1_eq (v0 : Vec Ideal S1280x1024 .f32) (v3 : Vec Ideal S1x1024x1024 .f32) (v9 : Vec Ideal S1x1024 .f32)
    (v22 : Vec Ideal S1x1024x1024 .f32) (r : Fin 1280) (d : Fin 1024) :
    k2_pay1 v0 v3 v9 v22 (ix2 r d)
      = ∑ f, Spec.gelu ((∑ k, v0 (ix2 r k) * v3 (ix3 0 k f)) + v9 (ix2 0 f)) * v22 (ix3 0 f d) := by
  unfold k2_pay1 Spec.gelu
  pointwise
  rfl

theorem pay2_eq (v0 : Vec Ideal S1280x1024 .f32) (v3 : Vec Ideal S1x1024x1024 .f32) (v9 : Vec Ideal S1x1024 .f32)
    (v22 : Vec Ideal S1x1024x1024 .f32) (v33 : Vec Ideal S1x1024 .f32) (r : Fin 1280) (d : Fin 1024) :
    k2_pay2 v0 v3 v9 v22 v33 (ix2 r d) = k2_pay1 v0 v3 v9 v22 (ix2 r d) + v33 (ix2 0 d) := by
  unfold k2_pay2
  generalize k2_pay1 v0 v3 v9 v22 = p
  pointwise

theorem pay3_eq (v0 : Vec Ideal S1280x1024 .f32) (v3 : Vec Ideal S1x1024x1024 .f32) (v9 : Vec Ideal S1x1024 .f32)
    (v22 : Vec Ideal S1x1024x1024 .f32) (v32 : Vec Ideal S1280x1024 .f32) (r : Fin 1280) (d : Fin 1024) :
    k2_pay3 v0 v3 v9 v22 v32 (ix2 r d) = v32 (ix2 r d) + k2_pay1 v0 v3 v9 v22 (ix2 r d) := by
  unfold k2_pay3
  generalize k2_pay1 v0 v3 v9 v22 = p
  pointwise

variable (V : (c : Dev nD) → (b : Ref sig .tc) → Buf (Elt Ideal) ((c : Thread nD τ).loc b)) (c : Dev nD)

/-- The rows the call reads, and the experts' weights. -/
def B (n : Fin 21760) (k : Fin 1024) : EReal := (V c main_v27 : S21760x1024.Idx → EReal) (ix2 n k)
def W1 (e : Fin 16) (k : Fin 1024) (f : Fin 4096) : EReal := (V c main_arg2 : S16x1024x4096.Idx → EReal) (ix3 e k f)
def B1 (e : Fin 16) (f : Fin 4096) : EReal := (V c main_arg3 : S16x4096.Idx → EReal) (ix2 e f)
def W2 (e : Fin 16) (f : Fin 4096) (d : Fin 1024) : EReal := (V c main_arg4 : S16x4096x1024.Idx → EReal) (ix3 e f d)
def B2 (e : Fin 16) (d : Fin 1024) : EReal := (V c main_arg5 : S16x1024.Idx → EReal) (ix2 e d)

theorem blk0 (t : Fin cfg2.N) (r : Fin 1280) (k : Fin 1024) :
    (iblk V c 0 t : Vec Ideal S1280x1024 .f32) (ix2 r k) = B V c (row (eOf t) r) k := by
  unfold B
  blk_simp [iblk]
  refine congrArg _ ?_
  unfold row eOf
  blk_ext [e0]
theorem blk1 (t : Fin cfg2.N) (z : Fin 1) (k : Fin 1024) (f : Fin 1024) :
    (iblk V c 1 t : Vec Ideal S1x1024x1024 .f32) (ix3 z k f) = W1 V c (eOf t) k (hid (hOf t) f) := by
  unfold W1
  blk_simp [iblk]
  refine congrArg _ ?_
  unfold hid hOf eOf
  blk_ext [e1]
theorem blk2 (t : Fin cfg2.N) (e : Fin 16) (f : Fin 4096) :
    (iblk V c 2 t : Vec Ideal S16x4096 .f32) (ix2 e f) = B1 V c e f := by
  unfold B1
  blk_simp [iblk]
  refine congrArg _ ?_
  blk_ext [e2]
theorem blk3 (t : Fin cfg2.N) (z : Fin 1) (f : Fin 1024) (d : Fin 1024) :
    (iblk V c 3 t : Vec Ideal S1x1024x1024 .f32) (ix3 z f d) = W2 V c (eOf t) (hid (hOf t) f) d := by
  unfold W2
  blk_simp [iblk]
  refine congrArg _ ?_
  unfold hid hOf eOf
  blk_ext [e3]
theorem blk4 (t : Fin cfg2.N) (e : Fin 16) (d : Fin 1024) :
    (iblk V c 4 t : Vec Ideal S16x1024 .f32) (ix2 e d) = B2 V c e d := by
  unfold B2
  blk_simp [iblk]
  refine congrArg _ ?_
  blk_ext [e4]

/-- One hidden block's share of expert `e`'s network. -/
def part (e : Fin 16) (h : Fin 4) (r : Fin 1280) (d : Fin 1024) : EReal :=
  ∑ f, Spec.gelu ((∑ k, B V c (row e r) k * W1 V c e k (hid h f)) + B1 V c e (hid h f)) * W2 V c e (hid h f) d

theorem pay1_at (t : Fin cfg2.N) (r : Fin 1280) (d : Fin 1024) :
    k2_pay1 (View.ld (iblk V c 0 t : Vec Ideal S1280x1024 .f32) rX) (View.ld (iblk V c 1 t : Vec Ideal S1x1024x1024 .f32) rW)
      (View.ld (iblk V c 2 t : Vec Ideal S16x4096 .f32) (rB1 (grid2.coords t)))
      (View.ld (iblk V c 3 t : Vec Ideal S1x1024x1024 .f32) rW) (ix2 r d) = part V c (eOf t) (hOf t) r d := by
  rw [pay1_eq]
  unfold part
  refine Finset.sum_congr rfl fun f _ => ?_
  rw [ld_rX, ld_rW, ld_rW, ld_rB1, blk3, blk2]
  simp only [blk0, blk1]

/-- What a point adds to the running sum. -/
def term (t : Fin cfg2.N) (i : Fin 1280 × Fin 1024) : EReal :=
  part V c (eOf t) (hOf t) i.1 i.2 + if t.val % 4 = 0 then B2 V c (eOf t) i.2 else 0

theorem outsAt_eq (t : Fin cfg2.N) (hr : t.val % 4 = 4 - 1) (r : Fin 1280) (d : Fin 1024) :
    outsAt V c t.val t.isLt (ix2 r d) = Spec.ffn (W1 V c) (B1 V c) (W2 V c) (B2 V c) (eOf t) (B V c (row (eOf t) r)) d := by
  have hz : (0 : EReal) + 0 = 0 := zero_add 0
  have h := Pipeline.eq_sum_fin_of_reset_step_apply_of_flush (N := cfg2.N)
    (f := fun n hn (i : Fin 1280 × Fin 1024) => outsAt V c n hn (ix2 i.1 i.2)) 4 (fun _ => (0 : EReal)) (term V c)
    (fun t h i => by
      rw [outsAt_A V c t h]
      unfold outA
      rw [View.canon_unit_zero (by decide), pay2_eq]
      unfold term
      rw [if_pos h, zero_add]
      exact congrArg₂ (· + ·) (pay1_at V c t i.1 i.2) ((ld_rB2 _ t _ 0 i.2).trans (blk4 V c t (eOf t) i.2)))
    (fun t h i => by
      rw [outsAt_B V c t h]
      unfold outB
      rw [View.canon_unit_zero (by decide), pay3_eq]
      unfold term
      rw [if_neg h, add_zero]
      exact congrArg₂ (· + ·) (congrFun (ld_rX _) _) (pay1_at V c t i.1 i.2))
    t hr (r, d)
  dsimp only at h
  rw [h, zero_add]
  have hb := t.isLt
  have hN : cfg2.N = 64 := rfl
  have he : ∀ s : Fin 4, eOf ⟨4 * (t.val / 4) + s.val, by omega⟩ = eOf t := fun s => by unfold eOf; ext; simp only; omega
  have hh : ∀ s : Fin 4, hOf ⟨4 * (t.val / 4) + s.val, by omega⟩ = s := fun s => by unfold hOf; ext; simp only; omega
  unfold term
  rw [Finset.sum_add_distrib]
  simp only [he, hh]
  have hs : ∀ s : Fin 4, ((4 * (t.val / 4) + s.val) % 4 = 0) = (s = 0) := fun s => by
    rw [eq_iff_iff, Fin.ext_iff]; simp only [Fin.val_zero]; omega
  simp only [hs, Finset.sum_ite_eq', Finset.mem_univ, if_true]
  unfold Spec.ffn
  rw [add_comm]
  congr 1
  unfold part
  rw [← sum_hid]

/-- Row `n`'s expert (the rows past the experts' are not written). -/
def ex (n : ℕ) : Fin 16 := ⟨n / 1280 % 16, Nat.mod_lt _ (by norm_num)⟩

/-- Row by row, the network of the row's expert. -/
def G (i : S21760x1024.Idx) : EReal :=
  Spec.ffn (W1 V c) (B1 V c) (W2 V c) (B2 V c) (ex (i 0).val) (B V c (i 0)) (i 1)

theorem ex_row (e : Fin 16) (r : Fin 1280) : ex (row e r).val = e := by
  apply Fin.ext; unfold row ex; simp only; omega

theorem G_row (e : Fin 16) (r : Fin 1280) (d : Fin 1024) :
    G V c (ix2 (row e r) d) = Spec.ffn (W1 V c) (B1 V c) (W2 V c) (B2 V c) e (B V c (row e r)) d :=
  congrArg (fun e' => Spec.ffn (W1 V c) (B1 V c) (W2 V c) (B2 V c) e' (B V c (row e r)) d) (ex_row e r)

theorem arr5 : (dat V c).arrAt 5 cfg2.N = (fun i => if (i 0).val / 1280 < 16 then G V c i
      else (V c main_v28 : S21760x1024.Idx → EReal) i : S21760x1024.Idx → EReal) := by
  refine (dat V c).arrAt_eq_of_coversWhere 5 (G V c) (fun β => β (0 : Fin _) < 16) (by decide +kernel)
    (fun t hf y => ?_) (fun j => Iff.rfl)
  have hr : t.val % 4 = 4 - 1 :=
    (by decide +kernel : ∀ t : Fin cfg2.N, win2_5.flush t = true → t.val % 4 = 4 - 1) t hf
  blk_simp
  rw [after_5]
  idx_vars y
  have hE : (win2_5.blk t).view.emb (ix2 y0 y1) = ix2 (row (eOf t) y0) y1 := by
    unfold row eOf
    blk_ext [e5]
  exact (outsAt_eq V c t hr y0 y1).trans ((congrArg (G V c) hE).trans (G_row V c (eOf t) y0 y1)).symm

/-- The result at a row of an expert. -/
theorem arr5_row (e : Fin 16) (r : Fin 1280) (d : Fin 1024) :
    ((dat V c).arrAt 5 cfg2.N : S21760x1024.Idx → EReal) (ix2 (row e r) d)
      = Spec.ffn (W1 V c) (B1 V c) (W2 V c) (B2 V c) e (B V c (row e r)) d := by
  rw [arr5, ← G_row]
  exact if_pos (by show (row e r).val / 1280 < 16; unfold row; simp only; omega)

end Cert.KernelIdeal.FfnValue
-- ==== Proof.Value.Rows.lean ====
/-
  The host's row scatter and row gather, read at an element.
-/
module

public import proofs.«01_k».proof.Proof.KernelIdeal.Launch
public import proofs.«01_k».proof.Proof.Value.Sums
public import Idealize.ShloMosaic.Lib.Routing.OpsSet

@[expose] public section

set_option maxRecDepth 16384

noncomputable section

namespace Cert.KernelIdeal.HostValue

open Cert.KernelIdeal.Gen Cert.KernelIdeal.Host
open Idealize.ShloMosaic Idealize.ShloMosaic.TcCoe

/-- Update `(t, d)` lands at `(n, d')` exactly when token `t`'s row word is `n` and the columns agree. -/
theorem lands (idx : IVec S8192x1 32) (t : Fin 8192) (d : Fin 1024) (n : Fin 21760) (d' : Fin 1024) :
    scatter_S21760x1024_S8192x1_S8192x1024_1_0_0_1.resultIdx? (ix2 t d) idx = some (ix2 n d')
      ↔ (idx (ix2 t 0)).toInt = n.val ∧ d = d' := by
  have h0 : scatter_S21760x1024_S8192x1_S8192x1024_1_0_0_1.start (ix2 t d) idx 0 = (idx (ix2 t 0)).toInt := by
    unfold ScatterDims.start
    rw [dif_pos (by decide)]
    congr 2
    funext a
    fin_cases a <;> rfl
  have h1 : scatter_S21760x1024_S8192x1_S8192x1024_1_0_0_1.start (ix2 t d) idx 1 = 0 := by
    unfold ScatterDims.start
    rw [dif_neg (by decide)]
  have w0 : scatter_S21760x1024_S8192x1_S8192x1024_1_0_0_1.window (ix2 t d) 0 = 0 := by
    unfold ScatterDims.window
    rw [dif_neg (by decide)]
  have w1 : scatter_S21760x1024_S8192x1_S8192x1024_1_0_0_1.window (ix2 t d) 1 = d.val := by
    unfold ScatterDims.window
    rw [dif_pos (by decide)]
    rfl
  refine (Routing.resultIdx?_ix2 (R := 21760) (C := 1024) _ _ _ n d').trans ?_
  rw [h0, h1, w0, w1, Fin.ext_iff]
  omega

/-- Setting rows: the row a token lands on, when no other token lands there. -/
theorem set_hit (x : S21760x1024.Idx → EReal) (idx : IVec S8192x1 32) (u : S8192x1024.Idx → EReal) (n : Fin 21760) (d : Fin 1024)
    (t : Fin 8192) (ht : (idx (ix2 t 0)).toInt = n.val) (hu : ∀ s, (idx (ix2 s 0)).toInt = n.val → s = t) :
    Host.scatter scatter_S21760x1024_S8192x1_S8192x1024_1_0_0_1 (fun _ b => b) x idx u (ix2 n d) = u (ix2 t d) := by
  refine Routing.scatter_set_hit _ x idx u _ _ (fun k hk => ?_) (ix2 t d) ((lands idx t d n d).2 ⟨ht, rfl⟩)
  idx_vars k
  obtain ⟨h, e⟩ := (lands idx k0 k1 n d).1 hk
  rw [hu k0 h, e]

/-- A row no token lands on keeps its contents. -/
theorem set_miss (x : S21760x1024.Idx → EReal) (idx : IVec S8192x1 32) (u : S8192x1024.Idx → EReal) (n : Fin 21760) (d : Fin 1024)
    (hu : ∀ s : Fin 8192, (idx (ix2 s 0)).toInt ≠ n.val) :
    Host.scatter scatter_S21760x1024_S8192x1_S8192x1024_1_0_0_1 (fun _ b => b) x idx u (ix2 n d) = x (ix2 n d) := by
  refine Routing.scatter_set_miss _ x idx u _ (fun k hk => ?_)
  idx_vars k
  exact hu k0 ((lands idx k0 k1 n d).1 hk).1

/-- Reading rows. -/
theorem gather_at (x : S21760x1024.Idx → EReal) (idx : IVec S8192x1 32) (t : Fin 8192) (d : Fin 1024) (n : Fin 21760)
    (h : idx (ix2 t 0) = BitVec.ofNat 32 n.val) :
    Host.gather gather_S21760x1024_S8192x1_S8192x1024_1_0_n_n_0_1_11024 x idx (ix2 t d) = x (ix2 n d) :=
  Routing.gather_row _ rfl rfl rfl rfl rfl x idx t d n h (by norm_num)

end Cert.KernelIdeal.HostValue
-- ==== Proof.Value.Stretch.lean ====
/-
  What the host operations between the calls compute, as terms of the buffers they read, and those terms at an element.
-/
module

public import proofs.«01_k».proof.Proof.Value.Rows
public import Idealize.ShloMosaic.Lib.StableHlo
public import Idealize.ShloMosaic.Lib.Pointwise
public import Idealize.ShloMosaic.Lib.IdealHost
public import Idealize.ShloMosaic.Lib.Pipeline.ValueKit

@[expose] public section

set_option maxRecDepth 16384

noncomputable section

namespace Cert.KernelIdeal.HostValue

open Cert.KernelIdeal.Gen Cert.KernelIdeal.Host
open Idealize.ShloMosaic Idealize.ShloMosaic.TcCoe Idealize.ShloMosaic.StableHlo

variable (U : Valuation τ sig (Elt Ideal))

/-- Row words as the host passes them on: a word below zero counts from the end. -/
def wrapCol (v : IVec S8192 32) : IVec S8192x1 32 :=
  broadcastInDim S8192x1 ![0] bcast_S8192_S8192x1_0 (select (cmpi .slt v (broadcastInDim S8192 ![] bcast_S_S8192 (constantI S_ 32 0#32)))
    (addi v (broadcastInDim S8192 ![] bcast_S_S8192 (constantI S_ 32 21760#32))) v)

theorem wrapCol_at (v : IVec S8192 32) (t : Fin 8192) (n : ℕ) (hn : n < 2 ^ 31) (h : v (ix1 t) = BitVec.ofNat 32 n) :
    wrapCol v (ix2 t 0) = BitVec.ofNat 32 n := by
  unfold wrapCol
  pointwise
  rw [h]
  refine Routing.wrap_of_lt _ _ ?_
  rw [BitVec.toNat_ofNat]; omega

/-- The tokens' rows set into zeros, first choices and then second choices. -/
def bufT (a b : IVec S8192 32) (x : S8192x1024.Idx → EReal) : S21760x1024.Idx → EReal :=
  Host.scatter scatter_S21760x1024_S8192x1_S8192x1024_1_0_0_1 (fun _ b => b)
    (Host.scatter scatter_S21760x1024_S8192x1_S8192x1024_1_0_0_1 (fun _ b => b)
      (broadcastInDim S21760x1024 ![] bcast_S_S21760x1024 (constant S_ .f32 0x00000000#32 : FVec Ideal S_ .f32)) (wrapCol a) x) (wrapCol b) x

/-- The rows read back, weighted and added. -/
def outT (y : S21760x1024.Idx → EReal) (a b : IVec S8192 32) (p q : S8192.Idx → EReal) : S8192x1024.Idx → EReal :=
  addf (F := Ideal) (φ := .f32)
    (mulf (F := Ideal) (φ := .f32) (Host.gather gather_S21760x1024_S8192x1_S8192x1024_1_0_n_n_0_1_11024 y (wrapCol a))
      (broadcastInDim S8192x1024 ![0, 1] bcast_S8192x1_S8192x1024_0_1 (broadcastInDim S8192x1 ![0] bcast_S8192_S8192x1_0 p)))
    (mulf (F := Ideal) (φ := .f32) (Host.gather gather_S21760x1024_S8192x1_S8192x1024_1_0_n_n_0_1_11024 y (wrapCol b))
      (broadcastInDim S8192x1024 ![0, 1] bcast_S8192x1_S8192x1024_0_1 (broadcastInDim S8192x1 ![0] bcast_S8192_S8192x1_0 q)))

theorem out_at (y : S21760x1024.Idx → EReal) (a b : IVec S8192 32) (p q : S8192.Idx → EReal) (t : Fin 8192) (d : Fin 1024)
    (n n' : Fin 21760) (ha : a (ix1 t) = BitVec.ofNat 32 n.val) (hb : b (ix1 t) = BitVec.ofNat 32 n'.val) :
    outT y a b p q (ix2 t d) = y (ix2 n d) * p (ix1 t) + y (ix2 n' d) * q (ix1 t) := by
  have h1 := gather_at y (wrapCol a) t d n (wrapCol_at a t n.val (by omega) ha)
  have h2 := gather_at y (wrapCol b) t d n' (wrapCol_at b t n'.val (by omega) hb)
  unfold outT
  generalize Host.gather gather_S21760x1024_S8192x1_S8192x1024_1_0_n_n_0_1_11024 y (wrapCol a) = ga at h1 ⊢
  generalize Host.gather gather_S21760x1024_S8192x1_S8192x1024_1_0_n_n_0_1_11024 y (wrapCol b) = gb at h2 ⊢
  pointwise
  rw [h1, h2]

/-! ## The stretches -/

theorem s0_v0 : after hostOps0 U (Proc.devRef .tc main_v0)
    = shapeCast S8192x1024 (U (Proc.devRef .tc main_arg0)) shapeCasts_S4x2048x1024_S8192x1024 := by
  after_results; rfl

theorem s1_v2 : after hostOps1 U (Proc.devRef .tc main_v2)
    = shapeCast S1x8192 (U (Proc.devRef .tc main_v1_0)) shapeCasts_S16x1x512_S1x8192 := by
  after_results; rfl
theorem s1_v3 : after hostOps1 U (Proc.devRef .tc main_v3)
    = shapeCast S1x8192 (U (Proc.devRef .tc main_v1_1)) shapeCasts_S16x1x512_S1x8192 := by
  after_results; rfl
theorem s1_v4 : after hostOps1 U (Proc.devRef .tc main_v4)
    = shapeCast S1x8192 (U (Proc.devRef .tc main_v1_2)) shapeCasts_S16x1x512_S1x8192 := by
  after_results; rfl
theorem s1_v5 : after hostOps1 U (Proc.devRef .tc main_v5)
    = shapeCast S1x8192 (U (Proc.devRef .tc main_v1_3)) shapeCasts_S16x1x512_S1x8192 := by
  after_results; rfl

theorem s2_v9 : after hostOps2 U (Proc.devRef .tc main_v9)
    = shapeCast S8192 (U (Proc.devRef .tc main_v6_2)) shapeCasts_S16x1x512_S8192 := by
  after_results; rfl
theorem s2_v10 : after hostOps2 U (Proc.devRef .tc main_v10)
    = shapeCast S8192 (U (Proc.devRef .tc main_v6_3)) shapeCasts_S16x1x512_S8192 := by
  after_results; rfl
theorem s2_v11 : after hostOps2 U (Proc.devRef .tc main_v11)
    = shapeCast S8192 (U (Proc.devRef .tc main_v6_4)) shapeCasts_S16x1x512_S8192 := by
  after_results; rfl
theorem s2_v12 : after hostOps2 U (Proc.devRef .tc main_v12)
    = shapeCast S8192 (U (Proc.devRef .tc main_v6_5)) shapeCasts_S16x1x512_S8192 := by
  after_results; rfl
theorem s2_v27 : after hostOps2 U (Proc.devRef .tc main_v27)
    = bufT (shapeCast S8192 (U (Proc.devRef .tc main_v6_0)) shapeCasts_S16x1x512_S8192)
        (shapeCast S8192 (U (Proc.devRef .tc main_v6_1)) shapeCasts_S16x1x512_S8192) (U (Proc.devRef .tc main_v0)) := by
  after_results; rfl

theorem s3_v50 : after hostOps3 U (Proc.devRef .tc main_v50)
    = shapeCast S4x2048x1024 (outT (U (Proc.devRef .tc main_v28)) (U (Proc.devRef .tc main_v9)) (U (Proc.devRef .tc main_v10))
        (U (Proc.devRef .tc main_v11)) (U (Proc.devRef .tc main_v12))) shapeCasts_S8192x1024_S4x2048x1024 := by
  after_results; rfl
theorem s3_v52 : after hostOps3 U (Proc.devRef .tc main_v52)
    = shapeCast S_ (extractStridedSlice S1x1 ![0, 0] (U (Proc.devRef .tc main_v6_6)) slices_S8x128_S1x1_0_0) shapeCasts_S1x1_S_ := by
  after_results; rfl

end Cert.KernelIdeal.HostValue
-- ==== Proof.Value.BufRows.lean ====
/-
  The host's two scatters put the experts' buffers together: row `r` of expert `e` is that of the mathematics.
-/
module

public import proofs.«01_k».proof.Proof.Value.Stretch

@[expose] public section

set_option maxRecDepth 16384

noncomputable section

namespace Cert.KernelIdeal.HostValue

open Cert.KernelIdeal.Gen Cert.KernelIdeal.Host
open Idealize.ShloMosaic Idealize.ShloMosaic.TcCoe
open Cert.Spec (top top2 pos0 pos1 sslot slot)

/-- A token is written to row `r` of expert `e` exactly when that is its expert and its place. -/
theorem sslot_eq (k e : Fin 16) (p : ℕ) (r : Fin 1280) : sslot k p = e.val * 1280 + r.val ↔ k = e ∧ p = r.val := by
  unfold sslot slot
  constructor
  · intro h
    split at h
    · rw [Nat.min_eq_left (by omega)] at h
      exact ⟨Fin.ext (by omega), by omega⟩
    · omega
  · rintro ⟨rfl, rfl⟩
    rw [if_pos r.isLt, Nat.min_eq_left (by omega)]

theorem wrapCol_int (v : IVec S8192 32) (t : Fin 8192) (n : ℕ) (hn : n < 2 ^ 31) (h : v (ix1 t) = BitVec.ofNat 32 n) :
    (wrapCol v (ix2 t 0)).toInt = n := by
  rw [wrapCol_at v t n hn h]
  have h2 : (BitVec.ofNat 32 n).toNat = n := by rw [BitVec.toNat_ofNat, Nat.mod_eq_of_lt (by omega)]
  rw [BitVec.toInt_eq_toNat_of_lt (by omega), h2]

/-- Row `r` of expert `e`. -/
abbrev rowOf (e : Fin 16) (r : Fin 1280) : Fin 21760 := ⟨e.val * 1280 + r.val, by omega⟩

/-- One scatter of the tokens' rows, each with its expert and place. -/
theorem one (k : Fin 8192 → Fin 16) (p : Fin 8192 → ℕ) (hi : ∀ s t, k s = k t → p s = p t → s = t) (a : IVec S8192 32)
    (ha : ∀ t, a (ix1 t) = BitVec.ofNat 32 (sslot (k t) (p t))) (y : S21760x1024.Idx → EReal) (x : S8192x1024.Idx → EReal)
    (e : Fin 16) (r : Fin 1280) (d : Fin 1024) :
    Host.scatter scatter_S21760x1024_S8192x1_S8192x1024_1_0_0_1 (fun _ b => b) y (wrapCol a) x (ix2 (rowOf e r) d)
      = if ∃ t, k t = e ∧ p t = r.val then ∑ t, (if k t = e ∧ p t = r.val then x (ix2 t d) else 0) else y (ix2 (rowOf e r) d) := by
  have hw : ∀ t, (wrapCol a (ix2 t 0)).toInt = ((rowOf e r).val : ℤ) ↔ k t = e ∧ p t = r.val := fun t => by
    rw [wrapCol_int a t _ (by have := Spec.sslot_le (k t) (p t); omega) (ha t)]
    exact Nat.cast_inj.trans (sslot_eq _ _ _ _)
  by_cases h : ∃ t, k t = e ∧ p t = r.val
  · rw [if_pos h]
    obtain ⟨t, ht⟩ := h
    have hu : ∀ s, k s = e ∧ p s = r.val → s = t := fun s hs => hi s t (hs.1.trans ht.1.symm) (hs.2.trans ht.2.symm)
    rw [set_hit y (wrapCol a) x (rowOf e r) d t ((hw t).2 ht) (fun s hs => hu s ((hw s).1 hs)), Finset.sum_eq_single t]
    · rw [if_pos ht]
    · intro s _ hne
      rw [if_neg fun hs => hne (hu s hs)]
    · intro hn; exact absurd (Finset.mem_univ _) hn
  · rw [if_neg h]
    exact set_miss y (wrapCol a) x (rowOf e r) d (fun s hs => h ⟨s, (hw s).1 hs⟩)

theorem buf_at (g : Fin 8192 → Fin 16 → EReal) (a b : IVec S8192 32) (x : S8192x1024.Idx → EReal)
    (ha : ∀ t, a (ix1 t) = BitVec.ofNat 32 (sslot (top (g t)) (pos0 g t)))
    (hb : ∀ t, b (ix1 t) = BitVec.ofNat 32 (sslot (top2 (g t)) (pos1 g t))) (e : Fin 16) (r : Fin 1280) (d : Fin 1024) :
    bufT a b x (ix2 (rowOf e r) d) = Spec.buf (fun t d => x (ix2 t d)) g e r.val d := by
  unfold bufT Spec.buf
  rw [one (fun t => top2 (g t)) (pos1 g) (fun s t h h' => Spec.pos1_inj g h h') b hb,
    one (fun t => top (g t)) (pos0 g) (fun s t h h' => Spec.pos0_inj g h h') a ha]
  by_cases h2 : ∃ t, top2 (g t) = e ∧ pos1 g t = r.val
  · rw [if_pos h2]
    obtain ⟨t, ht, ht'⟩ := h2
    rw [Finset.sum_eq_zero (s := Finset.univ) (f := fun s => if top (g s) = e ∧ pos0 g s = r.val then x (ix2 s d) else 0), zero_add]
    rintro s -
    rw [if_neg]
    rintro ⟨h, h'⟩
    have := Spec.pos0_lt_pos1 g (h.trans ht.symm)
    omega
  · rw [if_neg h2, Finset.sum_eq_zero (s := Finset.univ) (f := fun s => if top2 (g s) = e ∧ pos1 g s = r.val then x (ix2 s d) else 0), add_zero]
    · by_cases h1 : ∃ t, top (g t) = e ∧ pos0 g t = r.val
      · rw [if_pos h1]
      · rw [if_neg h1, Finset.sum_eq_zero (s := Finset.univ) (f := fun s => if top (g s) = e ∧ pos0 g s = r.val then x (ix2 s d) else 0)]
        · pointwise
        · rintro s -
          rw [if_neg fun hs => h1 ⟨s, hs⟩]
    · rintro s -
      rw [if_neg fun hs => h2 ⟨s, hs⟩]

end Cert.KernelIdeal.HostValue
-- ==== Proof.Value.Inputs.lean ====
/-
  The arrays of the arguments and of the two results, in terms of the mathematics on plain functions.
-/
module

public import proofs.«01_k».proof.Proof.Value.Sums
public import Idealize.ShloMosaic.Lib.Pointwise

@[expose] public section

noncomputable section

namespace Cert.Spec

open Idealize.ShloMosaic

/-- Token `b` of batch `a`. -/
def at2 (a : Fin 4) (b : Fin 2048) : Fin 8192 := ⟨a.val * 2048 + b.val, by omega⟩

/-- The batch of a token, -/
def hi (t : Fin 8192) : Fin 4 := ⟨t.val / 2048, by omega⟩
/-- and its place in the batch. -/
def lo (t : Fin 8192) : Fin 2048 := ⟨t.val % 2048, by omega⟩

theorem at2_hi_lo (t : Fin 8192) : at2 (hi t) (lo t) = t := by apply Fin.ext; simp only [at2, hi, lo]; omega
theorem hi_at2 (a : Fin 4) (b : Fin 2048) : hi (at2 a b) = a := by apply Fin.ext; simp only [at2, hi]; omega
theorem lo_at2 (a : Fin 4) (b : Fin 2048) : lo (at2 a b) = b := by apply Fin.ext; simp only [at2, lo]; omega

/-- The tokens' rows. -/
def xs (A : (⟨3, ![4, 2048, 1024]⟩ : Shape).Idx → EReal) (t : Fin 8192) (d : Fin 1024) : EReal := A (ix3 (hi t) (lo t) d)
/-- The gating weights. -/
def ws (A : (⟨2, ![1024, 16]⟩ : Shape).Idx → EReal) (d : Fin 1024) (e : Fin 16) : EReal := A (ix2 d e)
/-- The experts' first weights, -/
def w1s (A : (⟨3, ![16, 1024, 4096]⟩ : Shape).Idx → EReal) (e : Fin 16) (k : Fin 1024) (f : Fin 4096) : EReal := A (ix3 e k f)
/-- first offsets, -/
def b1s (A : (⟨2, ![16, 4096]⟩ : Shape).Idx → EReal) (e : Fin 16) (f : Fin 4096) : EReal := A (ix2 e f)
/-- second weights -/
def w2s (A : (⟨3, ![16, 4096, 1024]⟩ : Shape).Idx → EReal) (e : Fin 16) (f : Fin 4096) (d : Fin 1024) : EReal := A (ix3 e f d)
/-- and second offsets. -/
def b2s (A : (⟨2, ![16, 1024]⟩ : Shape).Idx → EReal) (e : Fin 16) (d : Fin 1024) : EReal := A (ix2 e d)

/-- The gates. -/
def gs (A0 : (⟨3, ![4, 2048, 1024]⟩ : Shape).Idx → EReal) (A1 : (⟨2, ![1024, 16]⟩ : Shape).Idx → EReal) : Fin 8192 → Fin 16 → EReal :=
  gate (xs A0) (ws A1)

/-- The first result. -/
def out0 (A0 : (⟨3, ![4, 2048, 1024]⟩ : Shape).Idx → EReal) (A1 : (⟨2, ![1024, 16]⟩ : Shape).Idx → EReal)
    (A2 : (⟨3, ![16, 1024, 4096]⟩ : Shape).Idx → EReal) (A3 : (⟨2, ![16, 4096]⟩ : Shape).Idx → EReal)
    (A4 : (⟨3, ![16, 4096, 1024]⟩ : Shape).Idx → EReal) (A5 : (⟨2, ![16, 1024]⟩ : Shape).Idx → EReal) :
    (⟨3, ![4, 2048, 1024]⟩ : Shape).Idx → EReal :=
  fun i => res (xs A0) (gs A0 A1) (w1s A2) (b1s A3) (w2s A4) (b2s A5) (at2 (i 0) (i 1)) (i 2)

/-- The second result. -/
def out1 (A0 : (⟨3, ![4, 2048, 1024]⟩ : Shape).Idx → EReal) (A1 : (⟨2, ![1024, 16]⟩ : Shape).Idx → EReal) :
    (⟨0, ![]⟩ : Shape).Idx → EReal := fun _ => laux (gs A0 A1)

end Cert.Spec
-- ==== Proof.Value.Layout.lean ====
/-
  The reshapes of both programs at an element.
-/
module

public import proofs.«01_k».proof.Proof.Value.Inputs
public import Idealize.ShloMosaic.Lib.Pipeline.Value

@[expose] public section

noncomputable section

namespace Cert.Layout

open Idealize.ShloMosaic
open Cert.Spec (tok at2 hi lo)

variable {α : Type}

/-- Tokens out of blocks, as a row. -/
theorem blocks_row (x : (⟨3, ![16, 1, 512]⟩ : Shape).Idx → α) (h : (⟨3, ![16, 1, 512]⟩ : Shape).ShapeCasts ⟨2, ![1, 8192]⟩) (t : Fin 8192) :
    shapeCast ⟨2, ![1, 8192]⟩ x h (ix2 0 t) = x (ix3 ⟨t.val / 512, by omega⟩ 0 ⟨t.val % 512, by omega⟩) := by
  refine shapeCast_apply x h _ _ ?_
  rw [Shape.rowMajor_val_three, Shape.rowMajor_val_two]
  show (t.val / 512 * 1 + 0) * 512 + t.val % 512 = 0 * 8192 + t.val
  omega

/-- Tokens out of blocks, as a vector. -/
theorem blocks_vec (x : (⟨3, ![16, 1, 512]⟩ : Shape).Idx → α) (h : (⟨3, ![16, 1, 512]⟩ : Shape).ShapeCasts ⟨1, ![8192]⟩) (t : Fin 8192) :
    shapeCast ⟨1, ![8192]⟩ x h (ix1 t) = x (ix3 ⟨t.val / 512, by omega⟩ 0 ⟨t.val % 512, by omega⟩) := by
  refine shapeCast_apply x h _ _ ?_
  rw [Shape.rowMajor_val_three, Shape.rowMajor_val_one]
  show (t.val / 512 * 1 + 0) * 512 + t.val % 512 = t.val
  omega

/-- Tokens out of batches. -/
theorem batch_rows (x : (⟨3, ![4, 2048, 1024]⟩ : Shape).Idx → α) (h : (⟨3, ![4, 2048, 1024]⟩ : Shape).ShapeCasts ⟨2, ![8192, 1024]⟩)
    (t : Fin 8192) (d : Fin 1024) : shapeCast ⟨2, ![8192, 1024]⟩ x h (ix2 t d) = x (ix3 (hi t) (lo t) d) := by
  refine shapeCast_apply x h _ _ ?_
  rw [Shape.rowMajor_val_three, Shape.rowMajor_val_two]
  show (t.val / 2048 * 2048 + t.val % 2048) * 1024 + d.val = t.val * 1024 + d.val
  omega

/-- Tokens back into batches. -/
theorem rows_batch (x : (⟨2, ![8192, 1024]⟩ : Shape).Idx → α) (h : (⟨2, ![8192, 1024]⟩ : Shape).ShapeCasts ⟨3, ![4, 2048, 1024]⟩)
    (a : Fin 4) (b : Fin 2048) (d : Fin 1024) : shapeCast ⟨3, ![4, 2048, 1024]⟩ x h (ix3 a b d) = x (ix2 (at2 a b) d) := by
  refine shapeCast_apply x h _ _ ?_
  rw [Shape.rowMajor_val_three, Shape.rowMajor_val_two]
  show (a.val * 2048 + b.val) * 1024 + d.val = (a.val * 2048 + b.val) * 1024 + d.val
  rfl

/-- A column as a vector. -/
theorem col_vec (x : (⟨2, ![8192, 1]⟩ : Shape).Idx → α) (h : (⟨2, ![8192, 1]⟩ : Shape).ShapeCasts ⟨1, ![8192]⟩) (t : Fin 8192) :
    shapeCast ⟨1, ![8192]⟩ x h (ix1 t) = x (ix2 t 0) := by
  refine shapeCast_apply x h _ _ ?_
  rw [Shape.rowMajor_val_two, Shape.rowMajor_val_one]
  show t.val * 1 + 0 = t.val
  omega

end Cert.Layout
-- ==== Proof.Value.Kernel.lean ====
/-
  The kernel's two results, through the three calls and the host operations between them, are those of the mathematics.
-/
module

public import proofs.«01_k».proof.Proof.KernelIdeal.Run
public import proofs.«01_k».proof.Proof.Value.Gate
public import proofs.«01_k».proof.Proof.Value.RouteWeights
public import proofs.«01_k».proof.Proof.Value.Laux
public import proofs.«01_k».proof.Proof.Value.Ffn
public import proofs.«01_k».proof.Proof.Value.BufRows
public import proofs.«01_k».proof.Proof.Value.Layout

@[expose] public section

set_option maxRecDepth 16384

noncomputable section

namespace Cert.KernelIdeal.KernelValue

open Cert.KernelIdeal.Gen Cert.KernelIdeal.Host Cert.KernelIdeal.Run Cert.KernelIdeal.HostValue
open Idealize.ShloMosaic Idealize.ShloMosaic.TcCoe
open Cert.Spec (tok top top2 pos0 pos1 slot sslot)

variable (m : (ℓ : Loc nD τ sig) → Buf (Elt Ideal) ℓ) (c : Dev nD)

/-- The arguments at launch. -/
abbrev A0 : S4x2048x1024.Idx → EReal := m ((c : Thread nD τ).loc main_arg0)
abbrev A1 : S1024x16.Idx → EReal := m ((c : Thread nD τ).loc main_arg1)
abbrev A2 : S16x1024x4096.Idx → EReal := m ((c : Thread nD τ).loc main_arg2)
abbrev A3 : S16x4096.Idx → EReal := m ((c : Thread nD τ).loc main_arg3)
abbrev A4 : S16x4096x1024.Idx → EReal := m ((c : Thread nD τ).loc main_arg4)
abbrev A5 : S16x1024.Idx → EReal := m ((c : Thread nD τ).loc main_arg5)

/-- The gates. -/
abbrev g : Fin 8192 → Fin 16 → EReal := Spec.gs (A0 m c) (A1 m c)

/-! ## The gating call -/

theorem X_eq : GateValue.X (tcOf (U1 m)) c = Spec.xs (A0 m c) := by
  funext t d
  unfold GateValue.X Spec.xs
  show (StableHlo.after hostOps0 (U0 m c) (Proc.devRef .tc main_v0) : S8192x1024.Idx → EReal) (ix2 t d) = _
  rw [s0_v0]
  exact Layout.batch_rows _ _ t d

theorem W_eq : GateValue.W (tcOf (U1 m)) c = Spec.ws (A1 m c) := by
  funext d e
  unfold GateValue.W Spec.ws
  exact congrFun (U1_of m c main_arg1 (by decide)) (ix2 d e)

theorem gate_eq : Spec.gate (GateValue.X (tcOf (U1 m)) c) (GateValue.W (tcOf (U1 m)) c) = g m c := by
  rw [X_eq, W_eq]; rfl

theorem v1_0 : (U2 m c (Proc.devRef .tc main_v1_0) : S16x1x512.Idx → EReal) = fun i => Spec.mx (g m c (tok (i 0) (i 2))) := by
  rw [← gate_eq]; exact (U2_arr m c 2).trans (GateValue.arr2 (tcOf (U1 m)) c)
theorem v1_1 : (U2 m c (Proc.devRef .tc main_v1_1) : S16x1x512.Idx → EReal) = fun i => Spec.mx (Spec.rest (g m c (tok (i 0) (i 2)))) := by
  rw [← gate_eq]; exact (U2_arr m c 3).trans (GateValue.arr3 (tcOf (U1 m)) c)
theorem v1_2 : (U2 m c (Proc.devRef .tc main_v1_2) : S16x1x512.Idx → BitVec 32) = fun i => BitVec.ofNat 32 (top (g m c (tok (i 0) (i 2)))).val := by
  rw [← gate_eq]; exact (U2_arr m c 4).trans (GateValue.arr4 (tcOf (U1 m)) c)
theorem v1_3 : (U2 m c (Proc.devRef .tc main_v1_3) : S16x1x512.Idx → BitVec 32) = fun i => BitVec.ofNat 32 (top2 (g m c (tok (i 0) (i 2)))).val := by
  rw [← gate_eq]; exact (U2_arr m c 5).trans (GateValue.arr5 (tcOf (U1 m)) c)
theorem v1_4 : (U2 m c (Proc.devRef .tc main_v1_4) : S8192x16.Idx → EReal) = fun i => Spec.ind (top (g m c (i 0))) (i 1) := by
  rw [← gate_eq]; exact (U2_arr m c 6).trans (GateValue.arr6 (tcOf (U1 m)) c)
theorem v1_5 : (U2 m c (Proc.devRef .tc main_v1_5) : S8192x16.Idx → EReal) = fun i => Spec.ind (top2 (g m c (i 0))) (i 1) := by
  rw [← gate_eq]; exact (U2_arr m c 7).trans (GateValue.arr7 (tcOf (U1 m)) c)
theorem v1_6 : (U2 m c (Proc.devRef .tc main_v1_6) : S16x1x16.Idx → EReal) = fun i => ∑ j, g m c (tok (i 0) j) (i 2) := by
  rw [← gate_eq]; exact (U2_arr m c 8).trans (GateValue.arr8 (tcOf (U1 m)) c)
theorem v1_7 : (U2 m c (Proc.devRef .tc main_v1_7) : S16x1x16.Idx → EReal) = fun i => ∑ j, Spec.ind (top (g m c (tok (i 0) j))) (i 2) := by
  rw [← gate_eq]; exact (U2_arr m c 9).trans (GateValue.arr9 (tcOf (U1 m)) c)

/-! ## The routing call -/

/-- What the routing call finds. -/
theorem ent : RouteValue.Ent (tcOf (U3 m)) c (fun t => Spec.mx (g m c t)) (fun t => Spec.mx (Spec.rest (g m c t)))
    (fun t => top (g m c t)) (fun t => top2 (g m c t))
    (fun b e => ∑ j, g m c (tok b j) e) (fun b e => ∑ j, Spec.ind (top (g m c (tok b j))) e) where
  h0 t := by
    show (StableHlo.after hostOps1 (U2 m c) (Proc.devRef .tc main_v2) : S1x8192.Idx → EReal) (ix2 0 t) = _
    rw [s1_v2]
    refine (Layout.blocks_row _ _ t).trans ?_
    refine (congrFun (v1_0 m c) _).trans ?_
    exact congrArg (fun t => Spec.mx (g m c t)) (Spec.tok_div t)
  h1 t := by
    show (StableHlo.after hostOps1 (U2 m c) (Proc.devRef .tc main_v3) : S1x8192.Idx → EReal) (ix2 0 t) = _
    rw [s1_v3]
    refine (Layout.blocks_row _ _ t).trans ?_
    refine (congrFun (v1_1 m c) _).trans ?_
    exact congrArg (fun t => Spec.mx (Spec.rest (g m c t))) (Spec.tok_div t)
  h2 t := by
    show (StableHlo.after hostOps1 (U2 m c) (Proc.devRef .tc main_v4) : S1x8192.Idx → BitVec 32) (ix2 0 t) = _
    rw [s1_v4]
    refine (Layout.blocks_row _ _ t).trans ?_
    refine (congrFun (v1_2 m c) _).trans ?_
    exact congrArg (fun t => BitVec.ofNat 32 (top (g m c t)).val) (Spec.tok_div t)
  h3 t := by
    show (StableHlo.after hostOps1 (U2 m c) (Proc.devRef .tc main_v5) : S1x8192.Idx → BitVec 32) (ix2 0 t) = _
    rw [s1_v5]
    refine (Layout.blocks_row _ _ t).trans ?_
    refine (congrFun (v1_3 m c) _).trans ?_
    exact congrArg (fun t => BitVec.ofNat 32 (top2 (g m c t)).val) (Spec.tok_div t)
  h4 t e := (congrFun (U3_of m c main_v1_4 (by decide)) _).trans (congrFun (v1_4 m c) (ix2 t e))
  h5 t e := (congrFun (U3_of m c main_v1_5 (by decide)) _).trans (congrFun (v1_5 m c) (ix2 t e))
  h6 b e := (congrFun (U3_of m c main_v1_6 (by decide)) _).trans (congrFun (v1_6 m c) (ix3 b 0 e))
  h7 b e := (congrFun (U3_of m c main_v1_7 (by decide)) _).trans (congrFun (v1_7 m c) (ix3 b 0 e))

theorem v6_0 (t : Fin 8192) : shapeCast S8192 (U4 m c (Proc.devRef .tc main_v6_0)) shapeCasts_S16x1x512_S8192 (ix1 t)
    = BitVec.ofNat 32 (sslot (top (g m c t)) (pos0 (g m c) t)) := by
  refine (Layout.blocks_vec _ _ t).trans ?_
  refine (congrFun ((U4_arr m c 8).trans (RouteValue.arr8 (tcOf (U3 m)) c _ _ _ _ _ _ (ent m c))) _).trans ?_
  exact congrArg (fun t => BitVec.ofNat 32 (sslot (top (g m c t)) (pos0 (g m c) t))) (Spec.tok_div t)
theorem v6_1 (t : Fin 8192) : shapeCast S8192 (U4 m c (Proc.devRef .tc main_v6_1)) shapeCasts_S16x1x512_S8192 (ix1 t)
    = BitVec.ofNat 32 (sslot (top2 (g m c t)) (pos1 (g m c) t)) := by
  refine (Layout.blocks_vec _ _ t).trans ?_
  refine (congrFun ((U4_arr m c 9).trans (RouteValue.arr9 (tcOf (U3 m)) c _ _ _ _ _ _ (ent m c))) _).trans ?_
  exact congrArg (fun t => BitVec.ofNat 32 (sslot (top2 (g m c t)) (pos1 (g m c) t))) (Spec.tok_div t)
theorem v6_2 (t : Fin 8192) : shapeCast S8192 (U4 m c (Proc.devRef .tc main_v6_2)) shapeCasts_S16x1x512_S8192 (ix1 t)
    = BitVec.ofNat 32 (slot (top (g m c t)) (pos0 (g m c) t)) := by
  refine (Layout.blocks_vec _ _ t).trans ?_
  refine (congrFun ((U4_arr m c 10).trans (RouteValue.arr10 (tcOf (U3 m)) c _ _ _ _ _ _ (ent m c))) _).trans ?_
  exact congrArg (fun t => BitVec.ofNat 32 (slot (top (g m c t)) (pos0 (g m c) t))) (Spec.tok_div t)
theorem v6_3 (t : Fin 8192) : shapeCast S8192 (U4 m c (Proc.devRef .tc main_v6_3)) shapeCasts_S16x1x512_S8192 (ix1 t)
    = BitVec.ofNat 32 (slot (top2 (g m c t)) (pos1 (g m c) t)) := by
  refine (Layout.blocks_vec _ _ t).trans ?_
  refine (congrFun ((U4_arr m c 11).trans (RouteValue.arr11 (tcOf (U3 m)) c _ _ _ _ _ _ (ent m c))) _).trans ?_
  exact congrArg (fun t => BitVec.ofNat 32 (slot (top2 (g m c t)) (pos1 (g m c) t))) (Spec.tok_div t)
theorem v6_4 (t : Fin 8192) : shapeCast S8192 (U4 m c (Proc.devRef .tc main_v6_4)) shapeCasts_S16x1x512_S8192 (ix1 t)
    = if pos0 (g m c) t < 1280 then Spec.mx (g m c t) else (0 : EReal) := by
  refine (Layout.blocks_vec _ _ t).trans ?_
  refine (congrFun ((U4_arr m c 12).trans (RouteValue.arr12 (tcOf (U3 m)) c _ _ _ _ _ _ (ent m c))) _).trans ?_
  exact congrArg (fun t => if pos0 (g m c) t < 1280 then Spec.mx (g m c t) else (0 : EReal)) (Spec.tok_div t)
theorem v6_5 (t : Fin 8192) : shapeCast S8192 (U4 m c (Proc.devRef .tc main_v6_5)) shapeCasts_S16x1x512_S8192 (ix1 t)
    = if pos1 (g m c) t < 1280 then Spec.mx (Spec.rest (g m c t)) else (0 : EReal) := by
  refine (Layout.blocks_vec _ _ t).trans ?_
  refine (congrFun ((U4_arr m c 13).trans (RouteValue.arr13 (tcOf (U3 m)) c _ _ _ _ _ _ (ent m c))) _).trans ?_
  exact congrArg (fun t => if pos1 (g m c) t < 1280 then Spec.mx (Spec.rest (g m c t)) else (0 : EReal)) (Spec.tok_div t)

/-! ## The feed-forward call -/

theorem v0_at (t : Fin 8192) (d : Fin 1024) : (U4 m c (Proc.devRef .tc main_v0) : S8192x1024.Idx → EReal) (ix2 t d) = Spec.xs (A0 m c) t d := by
  rw [← X_eq]
  unfold GateValue.X
  exact congrFun ((U4_of m c main_v0 (by decide)).trans ((U3_of m c main_v0 (by decide)).trans (U2_of m c main_v0 (by decide)))) (ix2 t d)

theorem B_eq (e : Fin 16) (r : Fin 1280) : FfnValue.B (tcOf (U5 m)) c (rowOf e r) = Spec.buf (Spec.xs (A0 m c)) (g m c) e r.val := by
  funext d
  unfold FfnValue.B
  show (StableHlo.after hostOps2 (U4 m c) (Proc.devRef .tc main_v27) : S21760x1024.Idx → EReal) (ix2 (rowOf e r) d) = _
  rw [s2_v27]
  refine (buf_at (g m c) _ _ _ (v6_0 m c) (v6_1 m c) e r d).trans ?_
  have hx : (fun t d => (U4 m c (Proc.devRef .tc main_v0) : S8192x1024.Idx → EReal) (ix2 t d)) = Spec.xs (A0 m c) :=
    funext fun t => funext fun d => v0_at m c t d
  exact congrArg (fun x => Spec.buf x (g m c) e r.val d) hx

theorem arg_eq (b : Ref sig .tc) (h0 : b ∉ hostOps0_W) (h1 : b ∉ hostOps1_W) (h2 : b ∉ hostOps2_W)
    (k0 : ∀ w, Pipeline.arrRef spec0 w = b → (cfg0.win w).isOut = false) (k1 : ∀ w, Pipeline.arrRef spec1 w = b → (cfg1.win w).isOut = false) :
    U5 m c (Proc.devRef .tc b) = m ((c : Thread nD τ).loc b) :=
  (U5_of m c b h2).trans <| (U4_of m c b k1).trans <| (U3_of m c b h1).trans <| (U2_of m c b k0).trans <| (U1_of m c b h0).trans rfl

theorem W1_eq : FfnValue.W1 (tcOf (U5 m)) c = Spec.w1s (A2 m c) := by
  funext e k f
  exact congrFun (arg_eq m c main_arg2 (by decide) (by decide) (by decide) (by decide) (by decide)) (ix3 e k f)
theorem B1_eq : FfnValue.B1 (tcOf (U5 m)) c = Spec.b1s (A3 m c) := by
  funext e f
  exact congrFun (arg_eq m c main_arg3 (by decide) (by decide) (by decide) (by decide) (by decide)) (ix2 e f)
theorem W2_eq : FfnValue.W2 (tcOf (U5 m)) c = Spec.w2s (A4 m c) := by
  funext e f d
  exact congrFun (arg_eq m c main_arg4 (by decide) (by decide) (by decide) (by decide) (by decide)) (ix3 e f d)
theorem B2_eq : FfnValue.B2 (tcOf (U5 m)) c = Spec.b2s (A5 m c) := by
  funext e d
  exact congrFun (arg_eq m c main_arg5 (by decide) (by decide) (by decide) (by decide) (by decide)) (ix2 e d)

/-- Row `r` of expert `e` after the call. -/
theorem v28 (e : Fin 16) (r : Fin 1280) (d : Fin 1024) : (U6 m c (Proc.devRef .tc main_v28) : S21760x1024.Idx → EReal) (ix2 (rowOf e r) d)
    = Spec.ffn (Spec.w1s (A2 m c)) (Spec.b1s (A3 m c)) (Spec.w2s (A4 m c)) (Spec.b2s (A5 m c)) e (Spec.buf (Spec.xs (A0 m c)) (g m c) e r.val) d := by
  rw [← W1_eq, ← B1_eq, ← W2_eq, ← B2_eq, ← B_eq]
  refine (congrFun (U6_arr m c 5) _).trans ?_
  exact FfnValue.arr5_row (tcOf (U5 m)) c e r d

/-! ## The results -/

/-- The place of a token within the capacity. -/
abbrev cap (p : ℕ) : Fin 1280 := ⟨min p 1279, by omega⟩

theorem keep56 (b : Ref sig .tc) (h : ∀ w, Pipeline.arrRef spec2 w = b → (cfg2.win w).isOut = false) :
    U6 m c (Proc.devRef .tc b) = StableHlo.after hostOps2 (U4 m c) (Proc.devRef .tc b) := U6_of m c b h

theorem out0 : U7 m c (Proc.devRef .tc main_v50) = Spec.out0 (A0 m c) (A1 m c) (A2 m c) (A3 m c) (A4 m c) (A5 m c) := by
  funext i
  idx_vars i
  show (StableHlo.after hostOps3 (U6 m c) (Proc.devRef .tc main_v50) : S4x2048x1024.Idx → EReal) (ix3 i0 i1 i2) = _
  rw [s3_v50]
  refine (Layout.rows_batch _ _ i0 i1 i2).trans ?_
  rw [keep56 m c main_v9 (by decide), keep56 m c main_v10 (by decide), keep56 m c main_v11 (by decide), keep56 m c main_v12 (by decide),
    s2_v9, s2_v10, s2_v11, s2_v12]
  refine (out_at _ _ _ _ _ (Spec.at2 i0 i1) i2 (rowOf (top (g m c (Spec.at2 i0 i1))) (cap (pos0 (g m c) (Spec.at2 i0 i1))))
    (rowOf (top2 (g m c (Spec.at2 i0 i1))) (cap (pos1 (g m c) (Spec.at2 i0 i1)))) (v6_2 m c _) (v6_3 m c _)).trans ?_
  rw [v6_4, v6_5, v28, v28]
  rfl

theorem out1 : U7 m c (Proc.devRef .tc main_v52) = Spec.out1 (A0 m c) (A1 m c) := by
  funext i
  show (StableHlo.after hostOps3 (U6 m c) (Proc.devRef .tc main_v52) : S_.Idx → EReal) i = _
  rw [s3_v52]
  have h : (U6 m c (Proc.devRef .tc main_v6_6) : S8x128.Idx → EReal) = fun _ => Spec.laux (g m c) := by
    refine (U6_of m c main_v6_6 (by decide)).trans ((U5_of m c main_v6_6 (by decide)).trans ((U4_arr m c 14).trans ?_))
    rw [← LauxValue.loss_eq]
    exact LauxValue.arr14 (tcOf (U3 m)) c _ _ (ent m c).h6 (ent m c).h7
  exact congrFun h _

end Cert.KernelIdeal.KernelValue
-- ==== Proof.Value.RefGate.lean ====
/-
  The reference's gates are those of the mathematics.
-/
module

public import proofs.«01_k».proof.Proof.Gen.ReferenceIdeal.Run
public import proofs.«01_k».proof.Proof.Value.Layout
public import Idealize.ShloMosaic.Lib.Pointwise
public import Idealize.ShloMosaic.Lib.IdealHost
public import Idealize.ShloMosaic.Lib.Pipeline.ValueKit

@[expose] public section

set_option maxRecDepth 16384

noncomputable section

namespace Cert.ReferenceIdeal.RefValue

open Cert.ReferenceIdeal Cert.ReferenceIdeal.Gen Cert.ReferenceIdeal.Value
open Idealize.ShloMosaic Idealize.ShloMosaic.TcCoe

variable (V : Valuation τ sig (Elt Ideal))

/-- The arguments. -/
abbrev A0 : S4x2048x1024.Idx → EReal := V (Proc.devRef .tc main_arg0)
abbrev A1 : S1024x16.Idx → EReal := V (Proc.devRef .tc main_arg1)
abbrev A2 : S16x1024x4096.Idx → EReal := V (Proc.devRef .tc main_arg2)
abbrev A3 : S16x4096.Idx → EReal := V (Proc.devRef .tc main_arg3)
abbrev A4 : S16x4096x1024.Idx → EReal := V (Proc.devRef .tc main_arg4)
abbrev A5 : S16x1024.Idx → EReal := V (Proc.devRef .tc main_arg5)

/-- The gates. -/
abbrev g : Fin 8192 → Fin 16 → EReal := Spec.gs (A0 V) (A1 V)

theorem neg_inf : Ideal.ofBits .f32 0xFF800000#32 = ⊥ := by simp [Ideal.ofBits, Ideal.ieee]

theorem v0_at (t : Fin 8192) (d : Fin 1024) : (res_main_v0 V : S8192x1024.Idx → EReal) (ix2 t d) = Spec.xs (A0 V) t d :=
  Layout.batch_rows _ _ t d

theorem v1_at (t : Fin 8192) (e : Fin 16) :
    (res_main_v1 V : S8192x16.Idx → EReal) (ix2 t e) = Spec.logit (Spec.xs (A0 V)) (Spec.ws (A1 V)) t e := by
  unfold res_main_v1 Spec.logit Spec.ws
  simp only [← v0_at]
  generalize (res_main_v0 V : S8192x1024.Idx → EReal) = x
  pointwise

theorem fold_row (x : S8192x16.Idx → EReal) (b : EReal) (t : Fin 8192) :
    Finset.fold max b x (Finset.univ.filter fun i => reducesTo_S8192x16_S8192_d1.drop i = ix1 t)
      = Finset.fold max b (fun e => x (ix2 t e)) Finset.univ :=
  Shape.ReducesTo.fold_fiber_r2_a1 (n0 := 8192) (n1 := 16) reducesTo_S8192x16_S8192_d1 (ix1 t) max b x

theorem v8_at (t : Fin 8192) (e : Fin 16) :
    (res_main_v8 V : S8192x16.Idx → EReal) (ix2 t e)
      = Ideal.exp (Spec.logit (Spec.xs (A0 V)) (Spec.ws (A1 V)) t e - Spec.mx (Spec.logit (Spec.xs (A0 V)) (Spec.ws (A1 V)) t)) := by
  unfold res_main_v8 Spec.mx
  have h := v1_at V
  generalize (res_main_v1 V : S8192x16.Idx → EReal) = x at *
  pointwise
  simp only [neg_inf, max_bot_left]
  rw [h]
  refine congrArg (fun z => Ideal.exp (_ - z)) ((fold_row x ⊥ t).trans ?_)
  simp only [h]

theorem v12_at (t : Fin 8192) (e : Fin 16) : (res_main_v12 V : S8192x16.Idx → EReal) (ix2 t e) = g V t e := by
  unfold res_main_v12 g Spec.gs Spec.gate Spec.soft
  have h := v8_at V
  generalize (res_main_v8 V : S8192x16.Idx → EReal) = x at *
  pointwise
  simp only [h]

end Cert.ReferenceIdeal.RefValue
-- ==== Proof.Value.Order.lean ====
/-
  The stable sorts of the reference: the tokens in the order of their best gates, and the two best of sixteen numbers.
-/
module

public import proofs.«01_k».proof.Proof.Spec
public import Idealize.ShloMosaic.Lib.SortPrefix
public import Idealize.ShloMosaic.Lib.SortFacts

@[expose] public section

set_option maxRecDepth 16384

noncomputable section

namespace Cert.Spec

open Idealize.ShloMosaic

/-- A stable sort compares an element only with later ones: two comparisons that agree there sort alike. -/
theorem stableSort_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Ties may be broken by the place. -/
theorem sortedFrom_ties {n : ℕ} (f : Fin n → EReal) :
    sortedFrom (fun a b => decide (f b < f a)) = sortedFrom (fun a b : Fin n => decide (f b < f a ∨ (f a = f b ∧ a < b))) := by
  have h : sortPositions n (fun a b => decide (f b < f a)) = sortPositions n (fun a b : Fin n => decide (f b < f a ∨ (f a = f b ∧ a < b))) := by
    refine stableSort_later _ _ _ ((List.pairwise_lt_finRange n).imp fun {a b} hab => ?_)
    rw [decide_eq_decide]
    constructor
    · exact .inl
    · rintro (h | ⟨-, h⟩)
      · exact h
      · exact absurd h (by omega)
  funext k
  unfold sortedFrom
  rw [List.get_of_eq h]
  rfl

theorem total_ties {n : ℕ} (f : Fin n → EReal) :
    StrictTotalBefore (fun a b : Fin n => decide (f b < f a ∨ (f a = f b ∧ a < b))) where
  irrefl a := by simp
  trans a b c h1 h2 := by
    simp only [decide_eq_true_eq] at h1 h2 ⊢
    rcases h1 with h1 | ⟨h1, h1'⟩ <;> rcases h2 with h2 | ⟨h2, h2'⟩
    · exact .inl (h2.trans h1)
    · exact .inl (h2 ▸ h1)
    · exact .inl (h1 ▸ h2)
    · exact .inr ⟨h1.trans h2, h1'.trans h2'⟩
  total a b hne := by
    simp only [decide_eq_true_eq]
    rcases lt_trichotomy (f a) (f b) with h | h | h
    · exact .inr (.inl h)
    · rcases lt_or_gt_of_ne hne with h' | h'
      · exact .inl (.inr ⟨h, h'⟩)
      · exact .inr (.inr ⟨h.symm, h'⟩)
    · exact .inl (.inl h)

/-! ## The two best of sixteen -/

/-- The two best positions, in order. -/
def best2 (f : Fin 16 → EReal) : Fin 2 → Fin 16 := ![top f, top2 f]

theorem le_of_ne_top (f : Fin 16 → EReal) {e : Fin 16} (h : e ≠ top f) : f e ≤ mx (rest f) := by
  have := le_mx (rest f) e
  rwa [rest, if_neg h] at this

theorem sorted_best2 (f : Fin 16 → EReal) (h : ∀ e, ⊥ < f e) (i : Fin 2) :
    sortedFrom (fun a b => decide (f b < f a)) (i.castLE (by norm_num)) = best2 f i := by
  rw [sortedFrom_ties]
  have hne := top2_ne f h
  have hmx := mx_rest f h
  have key0 : ∀ p : Fin 16, ¬(f (top f) < f p ∨ (f p = f (top f) ∧ p < top f)) := by
    intro p hp
    rw [top_eq f] at hp
    rcases hp with hp | ⟨hp, hp'⟩
    · exact absurd (le_mx f p) (not_le.mpr hp)
    · exact absurd (top_le f hp) (not_le.mpr hp')
  refine (total_ties f).sortedFrom_eq_of_prefix (by norm_num) (best2 f) ?_ ?_ ?_ i
  · intro i j hij
    fin_cases i <;> fin_cases j <;> first | rfl | exact absurd hij hne | exact absurd hij.symm hne
  · intro i j hij
    fin_cases i <;> fin_cases j <;> first | exact absurd hij (by decide) | skip
    simp only [decide_eq_false_iff_not]
    exact key0 _
  · intro i p hp
    simp only [decide_eq_false_iff_not]
    fin_cases i
    · exact key0 p
    · have h0 : p ≠ top f := (hp 0).symm
      have hr : rest f p = f p := by rw [rest, if_neg h0]
      show ¬(f (top2 f) < f p ∨ (f p = f (top2 f) ∧ p < top2 f))
      rintro (hp' | ⟨hp', hp''⟩)
      · rw [← hmx] at hp'
        exact absurd (le_of_ne_top f h0) (not_le.mpr hp')
      · rw [← hmx, ← hr] at hp'
        exact absurd (top_le (rest f) hp') (not_le.mpr hp'')

/-! ## The tokens in order -/

/-- The token at place `i` in the order of the best gates. -/
def order (p : Fin 8192 → EReal) : Fin 8192 → Fin 8192 := sortedFrom (fun a b => decide (p b < p a))

theorem order_bij (p : Fin 8192 → EReal) : Function.Bijective (order p) := ⟨sortedFrom_injective _, sortedFrom_surjective _⟩

/-- The place of a token in that order. -/
def place (p : Fin 8192 → EReal) : Fin 8192 → Fin 8192 := Function.surjInv (order_bij p).2

theorem order_place (p : Fin 8192 → EReal) (t : Fin 8192) : order p (place p t) = t :=
  Function.surjInv_eq (order_bij p).2 t

theorem before_order (p : Fin 8192 → EReal) {i j : Fin 8192} (h : i < j) : before p (order p i) (order p j) := by
  have hB := total_ties p
  have h1 := sortedFrom_noInversion _ _ (fun a b h => hB.asymm a b h) (fun _ _ h => h) hB.negTrans i j h
  unfold order
  rw [sortedFrom_ties]
  have hne : sortedFrom (fun a b : Fin 8192 => decide (p b < p a ∨ (p a = p b ∧ a < b))) i
      ≠ sortedFrom (fun a b : Fin 8192 => decide (p b < p a ∨ (p a = p b ∧ a < b))) j := fun hh =>
    absurd (sortedFrom_injective _ hh) (ne_of_lt h)
  rcases hB.total _ _ hne with h2 | h2
  · simp only [decide_eq_true_eq] at h2
    exact h2
  · rw [h2] at h1; exact absurd h1 (by decide)

theorem before_order_iff (p : Fin 8192 → EReal) (i j : Fin 8192) : before p (order p i) (order p j) ↔ i < j := by
  refine ⟨fun h => ?_, before_order p⟩
  by_contra hn
  rcases eq_or_lt_of_le (not_lt.mp hn) with e | hl
  · rw [e] at h; exact before_irrefl p _ h
  · exact before_irrefl p _ (before_trans p h (before_order p hl))

/-- The count of earlier tokens with an expert, in that order. -/
theorem cnt_order (p : Fin 8192 → EReal) (k : Fin 8192 → Fin 16) (i : Fin 8192) (e : Fin 16) :
    cnt p k (order p i) e = (Finset.univ.filter fun j => j < i ∧ k (order p j) = e).card := by
  unfold cnt
  symm
  refine Finset.card_bij (fun j _ => order p j) (fun j hj => ?_) (fun j _ j' _ h => (order_bij p).1 h) (fun s hs => ?_)
  · obtain ⟨h1, h2⟩ := (Finset.mem_filter.mp hj).2
    exact Finset.mem_filter.mpr ⟨Finset.mem_univ _, before_order p h1, h2⟩
  · obtain ⟨h1, h2⟩ := (Finset.mem_filter.mp hs).2
    obtain ⟨j, rfl⟩ := (order_bij p).2 s
    exact ⟨j, Finset.mem_filter.mpr ⟨Finset.mem_univ _, (before_order_iff p j i).mp h1, h2⟩, rfl⟩

end Cert.Spec
-- ==== Proof.Value.RefTop.lean ====
/-
  The two best of each row, and the order of the tokens by their best gates, as the reference's sorts give them.
-/
module

public import proofs.«01_k».proof.Proof.Value.RefGate
public import proofs.«01_k».proof.Proof.Value.Order
public import Idealize.ShloMosaic.Lib.Routing.Ops
public import Idealize.ShloMosaic.Lib.Routing.OpsOne
public import Idealize.ShloMosaic.Lib.Routing.OpsSet
public import Idealize.ShloMosaic.Lib.Routing.OpsPair

@[expose] public section

set_option maxRecDepth 16384

noncomputable section

namespace Cert.ReferenceIdeal.RefValue

open Cert.ReferenceIdeal Cert.ReferenceIdeal.Gen Cert.ReferenceIdeal.Value
open Idealize.ShloMosaic Idealize.ShloMosaic.TcCoe
open Cert.Spec (top top2 best2 mx rest order place)

theorem along_ix2 (t : Fin 8192) (e k : Fin 16) : Shape.Idx.along (s := S8192x16) (ix2 t e) 1 k = ix2 t k := by
  unfold Shape.Idx.along
  funext a
  fin_cases a
  · exact Function.update_of_ne (by decide) _ _
  · exact Function.update_self ..

theorem gt_eq (a b : EReal) : ((FloatOps.cmpfTotal (F := Ideal) (φ := .f32) .gt a b) == 1#1) = decide (b < a) := by
  show (BitVec.ofBool (decide (b < a)) == 1#1) = _
  cases decide (b < a) <;> rfl

theorem lt_eq (a b : EReal) : ((FloatOps.cmpfTotal (F := Ideal) (φ := .f32) .lt a b) == 1#1) = decide (a < b) := by
  show (BitVec.ofBool (decide (a < b)) == 1#1) = _
  cases decide (a < b) <;> rfl

/-- The place in row `t` of its two best numbers, from the sort of the row. -/
theorem sort_row (x : S8192x16.Idx → EReal) (y : IVec S8192x16 32) (t : Fin 8192) (γ : Fin 16 → EReal) (hx : ∀ e, x (ix2 t e) = γ e)
    (hγ : ∀ e, ⊥ < γ e) (i : Fin 2) (j : Fin 16) (hj : j = i.castLE (by norm_num)) :
    (Host.sort2 S8192x16 1 (fun l r : EReal × BitVec 32 => FloatOps.cmpfTotal (F := Ideal) (φ := .f32) .gt l.1 r.1) x y).1 (ix2 t j)
      = γ (best2 γ i)
    ∧ (Host.sort2 S8192x16 1 (fun l r : EReal × BitVec 32 => FloatOps.cmpfTotal (F := Ideal) (φ := .f32) .gt l.1 r.1) x y).2 (ix2 t j)
      = y (ix2 t (best2 γ i)) := by
  have h := Spec.sorted_best2 γ hγ i
  rw [← hj] at h
  have hs : sortedFrom (fun k k' : Fin 16 => (FloatOps.cmpfTotal (F := Ideal) (φ := .f32) .gt
      (x (Shape.Idx.along (s := S8192x16) (ix2 t j) 1 k)) (x (Shape.Idx.along (s := S8192x16) (ix2 t j) 1 k'))) == 1#1)
      = sortedFrom (fun a b => decide (γ b < γ a)) := by
    refine sortedFrom_congr _ _ fun k k' _ => ?_
    rw [along_ix2, along_ix2, hx, hx]
    exact gt_eq _ _
  have hp := (congrFun hs j).trans h
  unfold Host.sort2
  rw [dif_pos (by decide)]
  constructor
  · exact (congrArg x ((congrArg (Shape.Idx.along (s := S8192x16) (ix2 t j) 1) hp).trans (along_ix2 t _ _))).trans (hx _)
  · exact congrArg y ((congrArg (Shape.Idx.along (s := S8192x16) (ix2 t j) 1) hp).trans (along_ix2 t _ _))

/-- The number of each place in its row. -/
abbrev lane : IVec S8192x16 32 := fun i => if hd : 1 < S8192x16.rank then iotaInDim S8192x16 32 ⟨1, hd⟩ i else 0#32

theorem lane_at (t : Fin 8192) (e : Fin 16) : lane (ix2 t e) = BitVec.ofNat 32 e.val := dif_pos (show 1 < S8192x16.rank from Nat.one_lt_two)

theorem slice_pair {α : Type} (z : S8192x16.Idx → α) (t : Fin 8192) (i : Fin 2) :
    extractStridedSlice S8192x2 (fun _ => 0) z sliceFits_S8192x16_S8192x2 (ix2 t i) = z (ix2 t (i.castLE (by norm_num))) := by
  unfold extractStridedSlice
  refine congrArg z (funext fun a => ?_)
  match a with
  | ⟨0, _⟩ => exact Fin.ext (Nat.zero_add _)
  | ⟨1, _⟩ => exact Fin.ext (Nat.zero_add _)

/-- The two best of row `t` and their places. -/
theorem topK_row (x : FVec Ideal S8192x16 .f32) (t : Fin 8192) (γ : Fin 16 → EReal) (hx : ∀ e, x (ix2 t e) = γ e)
    (hγ : ∀ e, ⊥ < γ e) (i : Fin 2) :
    (Host.topK S8192x2 1 (FloatOps.cmpfTotal (F := Ideal) (φ := .f32) .gt) x sliceFits_S8192x16_S8192x2).1 (ix2 t i) = γ (best2 γ i)
    ∧ (Host.topK S8192x2 1 (FloatOps.cmpfTotal (F := Ideal) (φ := .f32) .gt) x sliceFits_S8192x16_S8192x2).2 (ix2 t i)
      = BitVec.ofNat 32 (best2 γ i).val := by
  have h := sort_row x lane t γ hx hγ i _ rfl
  have h1 := (slice_pair (Host.sort2 S8192x16 1 (fun l r : EReal × BitVec 32 => FloatOps.cmpfTotal (F := Ideal) (φ := .f32) .gt l.1 r.1) x lane).1 t i).trans h.1
  have h2 := (slice_pair (Host.sort2 S8192x16 1 (fun l r : EReal × BitVec 32 => FloatOps.cmpfTotal (F := Ideal) (φ := .f32) .gt l.1 r.1) x lane).2 t i).trans h.2
  exact ⟨h1, h2.trans (lane_at _ _)⟩

variable (V : Valuation τ sig (Elt Ideal))

theorem val_at (hg : ∀ t e, ⊥ < g V t e) (t : Fin 8192) (i : Fin 2) :
    (res_main_values V : S8192x2.Idx → EReal) (ix2 t i) = g V t (best2 (g V t) i) :=
  (topK_row (res_main_v12 V) t (g V t) (v12_at V t) (hg t) i).1

theorem ind_at (hg : ∀ t e, ⊥ < g V t e) (t : Fin 8192) (i : Fin 2) :
    (res_main_indices V : S8192x2.Idx → BitVec 32) (ix2 t i) = BitVec.ofNat 32 (best2 (g V t) i).val :=
  (topK_row (res_main_v12 V) t (g V t) (v12_at V t) (hg t) i).2

theorem p_at (hg : ∀ t e, ⊥ < g V t e) (t : Fin 8192) : (res_main_values V : S8192x2.Idx → EReal) (ix2 t 0) = mx (g V t) :=
  (val_at V hg t 0).trans (Spec.top_eq _)
theorem q_at (hg : ∀ t e, ⊥ < g V t e) (t : Fin 8192) : (res_main_values V : S8192x2.Idx → EReal) (ix2 t 1) = mx (rest (g V t)) :=
  (val_at V hg t 1).trans (Spec.mx_rest _ (hg t)).symm

theorem slice_col1 {α : Type} (x : S8192x2.Idx → α) (h : S8192x2.Slices ![0, 1] S8192x1) (t : Fin 8192) :
    extractStridedSlice S8192x1 ![0, 1] x h (ix2 t 0) = x (ix2 t 1) := by
  unfold extractStridedSlice
  refine congrArg x ?_
  funext a
  fin_cases a
  · exact Fin.ext (Nat.zero_add _)
  · rfl

theorem v42_at (hg : ∀ t e, ⊥ < g V t e) (t : Fin 8192) :
    (res_main_v42 V : S8192.Idx → BitVec 32) (ix1 t) = BitVec.ofNat 32 (top (g V t)).val := by
  unfold res_main_v42
  refine (Layout.col_vec _ _ t).trans ((Routing.slice_col0 _ _ t (by norm_num)).trans (ind_at V hg t 0))

theorem v97_at (hg : ∀ t e, ⊥ < g V t e) (t : Fin 8192) :
    (res_main_v97 V : S8192.Idx → BitVec 32) (ix1 t) = BitVec.ofNat 32 (top2 (g V t)).val := by
  unfold res_main_v97
  exact (Layout.col_vec _ _ t).trans ((slice_col1 _ _ t).trans (ind_at V hg t 1))

theorem v27_at (hg : ∀ t e, ⊥ < g V t e) (t : Fin 8192) :
    (res_main_v27 V : S8192.Idx → EReal) (ix1 t) = -mx (g V t) := by
  have h : (shapeCast S8192 (extractStridedSlice S8192x1 ![0, 0] (res_main_values V) slices_S8192x2_S8192x1_0_0) shapeCasts_S8192x1_S8192 : S8192.Idx → EReal) (ix1 t)
      = mx (g V t) := (Layout.col_vec _ _ t).trans ((Routing.slice_col0 _ _ t (by norm_num)).trans (p_at V hg t))
  exact congrArg (fun z : EReal => -z) h

/-! ## The order of the tokens -/

/-- The sort's comparison, on numbers: signed zeros and what is not a number are no matter there. -/
theorem cmp_at (a b : EReal) (i j : BitVec 32) : (comparator_f32_i32_d0 (F := Ideal) (a, i) (b, j) == 1#1) = decide (a < b) := by
  have hz : ∀ z : EReal, (Scalar.select (FloatOps.cmpf (F := Ideal) (φ := .f32) .oeq z (FloatOps.ofBits (F := Ideal) .f32 0x00000000#32)) (FloatOps.ofBits (F := Ideal) .f32 0x00000000#32) z : EReal) = z := by
    intro z
    have h0 : (FloatOps.ofBits (F := Ideal) .f32 0x00000000#32 : EReal) = 0 := by
      show Ideal.ofBits .f32 0x00000000#32 = 0
      simp [Ideal.ofBits, Ideal.ieee]
    rw [h0]
    show Scalar.select (BitVec.ofBool (decide (z = (0 : EReal)))) 0 z = z
    by_cases h : z = 0
    · rw [decide_eq_true h, h]; rfl
    · rw [decide_eq_false h]; rfl
  have hn : ∀ z w v : EReal, (Scalar.select (FloatOps.cmpf (F := Ideal) (φ := .f32) .une z z) w v : EReal) = v := by
    intro z w v
    show Scalar.select (BitVec.ofBool (decide (z ≠ z))) w v = v
    rw [decide_eq_false (by simp)]; rfl
  unfold comparator_f32_i32_d0
  simp only [hz, hn]
  exact lt_eq _ _

theorem along_ix1 {n : ℕ} (i k : Fin n) : Shape.Idx.along (s := ⟨1, ![n]⟩) (ix1 i) 0 k = ix1 k := by
  unfold Shape.Idx.along
  funext a
  match a with
  | ⟨0, _⟩ => exact Function.update_self ..

/-- Sorting the negated numbers, with the places alongside, puts the places in order. -/
theorem sort_order {n : ℕ} (x : (⟨1, ![n]⟩ : Shape).Idx → EReal) (p : Fin n → EReal) (hx : ∀ t, x (ix1 t) = -p t) (i : Fin n) :
    (Host.sort2 ⟨1, ![n]⟩ 0 (comparator_f32_i32_d0 (F := Ideal)) x (iotaInDim ⟨1, ![n]⟩ 32 0)).2 (ix1 i)
      = BitVec.ofNat 32 (sortedFrom (fun a b : Fin n => decide (p b < p a)) i).val := by
  have hs : sortedFrom (fun k k' : Fin n => comparator_f32_i32_d0 (F := Ideal)
        (x (Shape.Idx.along (s := ⟨1, ![n]⟩) (ix1 i) 0 k), iotaInDim ⟨1, ![n]⟩ 32 0 (Shape.Idx.along (s := ⟨1, ![n]⟩) (ix1 i) 0 k))
        (x (Shape.Idx.along (s := ⟨1, ![n]⟩) (ix1 i) 0 k'), iotaInDim ⟨1, ![n]⟩ 32 0 (Shape.Idx.along (s := ⟨1, ![n]⟩) (ix1 i) 0 k')) == 1#1)
      = sortedFrom (fun a b : Fin n => decide (p b < p a)) := by
    refine sortedFrom_congr _ _ fun k k' _ => ?_
    rw [cmp_at, along_ix1, along_ix1, hx, hx, decide_eq_decide]
    exact EReal.neg_lt_neg_iff
  have hd : 0 < (⟨1, ![n]⟩ : Shape).rank := Nat.one_pos
  unfold Host.sort2
  rw [dif_pos hd]
  exact congrArg (iotaInDim ⟨1, ![n]⟩ 32 0) ((congrArg (Shape.Idx.along (s := ⟨1, ![n]⟩) (ix1 i) 0) (congrFun hs i)).trans (along_ix1 i _))

theorem v28_at (hg : ∀ t e, ⊥ < g V t e) (i : Fin 8192) :
    (res_main_v28 V : S8192.Idx → BitVec 32) (ix1 i) = BitVec.ofNat 32 (order (fun t => mx (g V t)) i).val :=
  sort_order (res_main_v27 V) (fun t => mx (g V t)) (v27_at V hg) i

end Cert.ReferenceIdeal.RefValue
-- ==== Proof.Value.RefRank.lean ====
/-
  The reference's places: in the order of the tokens, the running count of each expert, read back at the token.
-/
module

public import proofs.«01_k».proof.Proof.Value.RefTop
public import Mathlib.Algebra.BigOperators.Ring.Finset

@[expose] public section

set_option maxRecDepth 16384

noncomputable section

namespace Cert.ReferenceIdeal.RefValue

open Cert.ReferenceIdeal Cert.ReferenceIdeal.Gen Cert.ReferenceIdeal.Value
open Idealize.ShloMosaic Idealize.ShloMosaic.TcCoe
open Cert.Spec (top top2 mx rest order place cnt tot pos0 pos1)

/-! ## Words that count from the end below zero -/

def wrapC (n : BitVec 32) (v : IVec S8192 32) : IVec S8192x1 32 :=
  broadcastInDim S8192x1 ![0] bcast_S8192_S8192x1_0 (select (cmpi .slt v (broadcastInDim S8192 ![] bcast_S_S8192 (constantI S_ 32 0#32)))
    (addi v (broadcastInDim S8192 ![] bcast_S_S8192 (constantI S_ 32 n))) v)

theorem wrapC_at (n : BitVec 32) (v : IVec S8192 32) (t : Fin 8192) (k : ℕ) (hk : k < 2 ^ 31) (h : v (ix1 t) = BitVec.ofNat 32 k) :
    wrapC n v (ix2 t 0) = BitVec.ofNat 32 k := by
  unfold wrapC
  pointwise
  rw [h]
  refine Routing.wrap_of_lt _ _ ?_
  rw [BitVec.toNat_ofNat]; omega

/-! ## The inverse of the order -/

def invT (v : IVec S8192 32) : IVec S8192 32 :=
  Host.scatter scatter_S8192_S8192x1_S8192_n_0_0_1 (fun _ b => b) (broadcastInDim S8192 ![] bcast_S_S8192 (constantI S_ 32 0#32))
    (wrapC 8192#32 v) (iotaInDim S8192 32 0)

theorem inv_at (v : IVec S8192 32) (p : Fin 8192 → EReal) (hv : ∀ i, v (ix1 i) = BitVec.ofNat 32 (order p i).val) (t : Fin 8192) :
    invT v (ix1 t) = BitVec.ofNat 32 (place p t).val := by
  have hg : ∀ i : Fin 8192, (if h : i.val < 8192 then (order p ⟨i.val, h⟩).val else 0) = (order p i).val := fun i => dif_pos i.isLt
  refine (Routing.scatter_set (N := 8192) scatter_S8192_S8192x1_S8192_n_0_0_1 rfl rfl rfl _ (wrapC 8192#32 v) (iotaInDim S8192 32 0)
    (fun i => if h : i < 8192 then (order p ⟨i, h⟩).val else 0) (fun i => ?_) (fun i => ?_) t (BitVec.ofNat 32 (place p t).val) (fun i hi => ?_)).1
    ⟨place p t, ?_⟩
  · rw [hg]
    exact wrapC_at _ v i _ (by have := (order p i).isLt; omega) (hv i)
  · have := (order p i).isLt
    simp only [hg]; omega
  · rw [hg] at hi
    have : i = place p t := (Spec.order_bij p).1 ((Fin.ext hi).trans (Spec.order_place p t).symm)
    rw [← this]; rfl
  · rw [hg, Spec.order_place]

/-! ## One-hot rows -/

def maskT (v : IVec S8192 32) : IVec S8192x16 32 :=
  extui 32 (cmpi .eq (broadcastInDim S8192x16 ![0, 1] bcast_S8192x1_S8192x16_0_1 (broadcastInDim S8192x1 ![0] bcast_S8192_S8192x1_0 v))
    (broadcastInDim S8192x16 ![0, 1] bcast_S1x16_S8192x16_0_1 (iotaInDim S1x16 32 1))) natLt_1_32

theorem eq_word (a b : Fin 16) : BitVec.setWidth 32 (IntOp.cmpi .eq (BitVec.ofNat 32 a.val) (BitVec.ofNat 32 b.val)) = if a = b then 1#32 else 0#32 := by
  revert a b; decide

theorem mask_at (v : IVec S8192 32) (t : Fin 8192) (k : Fin 16) (h : v (ix1 t) = BitVec.ofNat 32 k.val) (e : Fin 16) :
    maskT v (ix2 t e) = if k = e then 1#32 else 0#32 := by
  rw [← eq_word, ← h]
  unfold maskT
  pointwise

/-- The rows in the order of the tokens. -/
def sortT (m : IVec S8192x16 32) (v : IVec S8192 32) : IVec S8192x16 32 :=
  Host.gather gather_S8192x16_S8192x1_S8192x16_1_0_n_n_0_1_116 m (wrapC 8192#32 v)

theorem sort_at (m : IVec S8192x16 32) (v : IVec S8192 32) (i j : Fin 8192) (h : v (ix1 i) = BitVec.ofNat 32 j.val) (e : Fin 16) :
    sortT m v (ix2 i e) = m (ix2 j e) :=
  Routing.gather_row (nb := 8192) (B := 16) (n := 8192) _ rfl rfl rfl rfl rfl m (wrapC 8192#32 v) i e j
    (wrapC_at _ v i j.val (by omega) h) (by norm_num)

/-! ## Running counts -/

theorem sum_words {ι : Type} (s : Finset ι) (p : ι → Prop) [DecidablePred p] :
    (∑ i ∈ s, if p i then 1#32 else 0#32) = BitVec.ofNat 32 (s.filter p).card := by
  classical
  induction s using Finset.induction_on with
  | empty => rfl
  | insert a s ha ih =>
    rw [Finset.sum_insert ha, ih, Finset.filter_insert]
    split
    · rw [Finset.card_insert_of_notMem (by simp [ha]), add_comm, ← BitVec.ofNat_add]
    · exact BitVec.zero_add _

theorem fold_addi {ι : Type} (s : Finset ι) (f : ι → BitVec 32) : Finset.fold IntOp.addi 0#32 f s = ∑ i ∈ s, f i := by
  classical
  induction s using Finset.induction_on with
  | empty => rfl
  | insert a s ha ih => rw [Finset.fold_insert ha, Finset.sum_insert ha, ih]; rfl

def rankT (m : IVec S8192x16 32) : IVec S8192 32 :=
  Host.reduce IntOp.addi (muli (subi (Host.reduceWindow IntOp.addi ![8192, 1] ![1, 1] ![8191, 0] ![0, 0] m (broadcastInDim S_ ![] bcast_S_S_ (constantI S_ 32 0#32))
    reduceWindows_S8192x16_S8192x16_w8192s1p8191_0_w1s1p0_0 h_S_) m) m) (constantI S_ 32 0#32) reducesTo_S8192x16_S8192_d1 h_S_

theorem run_at (m : IVec S8192x16 32) (κ : Fin 8192 → Fin 16) (h : ∀ i e, m (ix2 i e) = if κ i = e then 1#32 else 0#32)
    (i : Fin 8192) (e : Fin 16) :
    Host.reduceWindow IntOp.addi ![8192, 1] ![1, 1] ![8191, 0] ![0, 0] m (broadcastInDim S_ ![] bcast_S_S_ (constantI S_ 32 0#32))
      reduceWindows_S8192x16_S8192x16_w8192s1p8191_0_w1s1p0_0 h_S_ (ix2 i e)
      = BitVec.ofNat 32 (Finset.univ.filter fun j => j ≤ i ∧ κ j = e).card := by
  refine (Routing.cumsum_rows_sum (A := 8192) (Am1 := 8191) (N := 16) rfl m _ (by rfl) _ _ i e).trans ?_
  rw [← sum_words]
  refine Finset.sum_congr rfl fun j _ => ?_
  have hj : m (ValueIdx.ix2 j e) = if κ j = e then 1#32 else 0#32 := h j e
  rw [hj]
  by_cases h1 : j ≤ i <;> by_cases h2 : κ j = e <;> simp [h1, h2]

theorem card_le (κ : Fin 8192 → Fin 16) (i : Fin 8192) :
    (Finset.univ.filter fun j => j ≤ i ∧ κ j = κ i).card = (Finset.univ.filter fun j => j < i ∧ κ j = κ i).card + 1 := by
  have h : (Finset.univ.filter fun j => j ≤ i ∧ κ j = κ i) = insert i (Finset.univ.filter fun j => j < i ∧ κ j = κ i) := by
    ext j
    simp only [Finset.mem_filter, Finset.mem_univ, true_and, Finset.mem_insert]
    constructor
    · rintro ⟨h1, h2⟩
      rcases eq_or_lt_of_le h1 with h3 | h3
      · exact .inl h3
      · exact .inr ⟨h3, h2⟩
    · rintro (rfl | ⟨h1, h2⟩)
      · exact ⟨le_rfl, rfl⟩
      · exact ⟨h1.le, h2⟩
  rw [h, Finset.card_insert_of_notMem (by simp)]

theorem rank_at (m : IVec S8192x16 32) (κ : Fin 8192 → Fin 16) (h : ∀ i e, m (ix2 i e) = if κ i = e then 1#32 else 0#32) (i : Fin 8192) :
    rankT m (ix1 i) = BitVec.ofNat 32 (Finset.univ.filter fun j => j < i ∧ κ j = κ i).card := by
  have hr := run_at m κ h i
  unfold rankT
  generalize Host.reduceWindow IntOp.addi ![8192, 1] ![1, 1] ![8191, 0] ![0, 0] m (broadcastInDim S_ ![] bcast_S_S_ (constantI S_ 32 0#32))
      reduceWindows_S8192x16_S8192x16_w8192s1p8191_0_w1s1p0_0 h_S_ = c at hr ⊢
  pointwise
  rw [fold_addi, Finset.sum_eq_single (κ i)]
  · rw [hr, h, if_pos rfl, card_le]
    show (BitVec.ofNat 32 (_ + 1) - 1#32) * 1#32 = _
    rw [BitVec.ofNat_add, BitVec.mul_one]
    exact BitVec.add_sub_cancel _ _
  · intro e _ hne
    rw [h, if_neg (Ne.symm hne)]
    exact BitVec.mul_zero
  · intro hn; exact absurd (Finset.mem_univ _) hn

/-! ## The places -/

def posT (r v : IVec S8192 32) (o : IVec S16 32) (k : IVec S8192 32) : IVec S8192 32 :=
  addi (Host.gather gather_S8192_S8192x1_S8192_n_0_n_n_0_1_1 r (wrapC 8192#32 v))
    (Host.gather gather_S16_S8192x1_S8192_n_0_n_n_0_1_1 o (wrapC 16#32 k))

theorem pos_at (r v : IVec S8192 32) (o : IVec S16 32) (k : IVec S8192 32) (t i : Fin 8192) (e : Fin 16) (a b : ℕ)
    (hv : v (ix1 t) = BitVec.ofNat 32 i.val) (hk : k (ix1 t) = BitVec.ofNat 32 e.val) (hr : r (ix1 i) = BitVec.ofNat 32 a)
    (ho : o (ix1 e) = BitVec.ofNat 32 b) : posT r v o k (ix1 t) = BitVec.ofNat 32 (a + b) := by
  have h1 := Routing.gather_take1 (N := 8192) (n := 8192) gather_S8192_S8192x1_S8192_n_0_n_n_0_1_1 rfl rfl rfl rfl r (wrapC 8192#32 v) t i
    (wrapC_at _ v t i.val (by omega) hv) (by norm_num)
  have h2 := Routing.gather_take1 (N := 16) (n := 8192) gather_S16_S8192x1_S8192_n_0_n_n_0_1_1 rfl rfl rfl rfl o (wrapC 16#32 k) t e
    (wrapC_at _ k t e.val (by omega) hk) (by norm_num)
  rw [BitVec.ofNat_add, ← hr, ← ho]
  exact congrArg₂ (fun x y : BitVec 32 => x + y) h1 h2

def totT (o : IVec S16 32) (m : IVec S8192x16 32) : IVec S16 32 :=
  addi o (Host.reduce IntOp.addi m (constantI S_ 32 0#32) reducesTo_S8192x16_S16_d0 h_S_)

theorem tot_at (m : IVec S8192x16 32) (κ : Fin 8192 → Fin 16) (h : ∀ i e, m (ix2 i e) = if κ i = e then 1#32 else 0#32) (o : IVec S16 32)
    (e : Fin 16) (ho : o (ix1 e) = 0#32) : totT o m (ix1 e) = BitVec.ofNat 32 (tot κ e) := by
  unfold totT tot
  pointwise
  rw [fold_addi, ho, ← sum_words]
  refine (BitVec.zero_add _).trans (Finset.sum_congr rfl fun i _ => h i e)

/-- The counts of one choice of experts, at the tokens. -/
theorem count_at (v w kv : IVec S8192 32) (o : IVec S16 32) (p : Fin 8192 → EReal) (k : Fin 8192 → Fin 16)
    (hv : ∀ i, v (ix1 i) = BitVec.ofNat 32 (order p i).val) (hw : ∀ t, w (ix1 t) = BitVec.ofNat 32 (place p t).val)
    (hk : ∀ t, kv (ix1 t) = BitVec.ofNat 32 (k t).val) (t : Fin 8192) (b : ℕ) (ho : o (ix1 (k t)) = BitVec.ofNat 32 b) :
    posT (rankT (sortT (maskT kv) v)) w o kv (ix1 t) = BitVec.ofNat 32 (cnt p k t (k t) + b) := by
  refine pos_at _ w o kv t (place p t) (k t) _ b (hw t) (hk t) ?_ ho
  refine (rank_at _ (fun i => k (order p i)) (fun i e => ?_) (place p t)).trans ?_
  · rw [sort_at _ v i _ (hv i)]
    exact mask_at kv _ _ (hk _) e
  · rw [Spec.order_place]
    have := Spec.cnt_order p k (place p t) (k t)
    rw [Spec.order_place] at this
    rw [this]

/-! ## The reference's own -/

variable (V : Valuation τ sig (Elt Ideal)) (hg : ∀ t e, ⊥ < g V t e)
include hg

theorem v37_at (t : Fin 8192) : (res_main_v37 V : S8192.Idx → BitVec 32) (ix1 t) = BitVec.ofNat 32 (place (fun t => mx (g V t)) t).val :=
  inv_at (res_main_v28 V) (fun t => mx (g V t)) (v28_at V hg) t

theorem v69_at (t : Fin 8192) : (res_main_v69 V : S8192.Idx → BitVec 32) (ix1 t) = BitVec.ofNat 32 (pos0 (g V) t) :=
  count_at (res_main_v28 V) (res_main_v37 V) (res_main_v42 V) (res_main_v40 V) (fun t => mx (g V t)) (fun t => top (g V t))
    (v28_at V hg) (v37_at V hg) (v42_at V hg) t 0 (by rfl)

theorem v71_at (e : Fin 16) : (res_main_v71 V : S16.Idx → BitVec 32) (ix1 e) = BitVec.ofNat 32 (tot (fun t => top (g V t)) e) :=
  tot_at (res_main_v43 V) (fun t => top (g V t)) (fun i e => mask_at (res_main_v42 V) i _ (v42_at V hg i) e) (res_main_v40 V) e (by rfl)

theorem v124_at (t : Fin 8192) : (res_main_v124 V : S8192.Idx → BitVec 32) (ix1 t) = BitVec.ofNat 32 (pos1 (g V) t) :=
  count_at (res_main_v28 V) (res_main_v37 V) (res_main_v97 V) (res_main_v71 V) (fun t => mx (g V t)) (fun t => top2 (g V t))
    (v28_at V hg) (v37_at V hg) (v97_at V hg) t _ (v71_at V hg _)

end Cert.ReferenceIdeal.RefValue
-- ==== Proof.Value.RefBuf.lean ====
/-
  The reference's two scatters put the experts' buffers together, and its gathers read rows of the experts' results.
-/
module

public import proofs.«01_k».proof.Proof.Value.RefRank

@[expose] public section

set_option maxRecDepth 16384

noncomputable section

namespace Cert.ReferenceIdeal.RefValue

open Cert.ReferenceIdeal Cert.ReferenceIdeal.Gen Cert.ReferenceIdeal.Value
open Idealize.ShloMosaic Idealize.ShloMosaic.TcCoe
open Cert.Spec (top top2 mx rest pos0 pos1)

/-! ## Pairs of index words -/

def pairT (a b : IVec S8192 32) : IVec S8192x2 32 :=
  concatenate S8192x2 1 [⟨S8192x1, wrapC 16#32 a⟩, ⟨S8192x1, wrapC 1280#32 b⟩] concatenates_S8192x1_S8192x1_S8192x2_d1

theorem pair_fst (a b : IVec S8192 32) (t : Fin 8192) : pairT a b (ix2 t 0) = wrapC 16#32 a (ix2 t 0) := by
  refine concatenate_pair_apply_left (1 : Fin S8192x2.rank) (wrapC 16#32 a) (wrapC 1280#32 b) _ (ix2 t 0) rfl (ix2 t 0) fun x => ?_
  fin_cases x <;> rfl

theorem pair_snd (a b : IVec S8192 32) (t : Fin 8192) : pairT a b (ix2 t 1) = wrapC 1280#32 b (ix2 t 0) := by
  refine concatenate_pair_apply_right (1 : Fin S8192x2.rank) (wrapC 16#32 a) (wrapC 1280#32 b) _ (ix2 t 1) rfl rfl (ix2 t 0) (fun x hx => ?_) rfl
  fin_cases x
  · rfl
  · exact absurd rfl hx

theorem word_int (n : ℕ) (h : n < 2 ^ 31) : (BitVec.ofNat 32 n).toInt = n := by
  have h2 : (BitVec.ofNat 32 n).toNat = n := by rw [BitVec.toNat_ofNat, Nat.mod_eq_of_lt (by omega)]
  rw [BitVec.toInt_eq_toNat_of_lt (by omega), h2]

/-! ## The scatter -/

/-- Update `(t, d)` lands at `(e, r, d')` exactly when the token's words are `e` and `r` and the columns agree. -/
theorem lands (idx : IVec S8192x2 32) (t : Fin 8192) (d : Fin 1024) (e : Fin 16) (r : Fin 1280) (d' : Fin 1024) :
    scatter_S16x1280x1024_S8192x2_S8192x1024_1_01_01_1.resultIdx? (ix2 t d) idx = some (ix3 e r d')
      ↔ (idx (ix2 t 0)).toInt = e.val ∧ (idx (ix2 t 1)).toInt = r.val ∧ d = d' := by
  have h0 : scatter_S16x1280x1024_S8192x2_S8192x1024_1_01_01_1.start (ix2 t d) idx 0 = (idx (ix2 t 0)).toInt := by
    unfold ScatterDims.start
    rw [dif_pos (by decide)]
    congr 2
    funext a
    fin_cases a <;> rfl
  have h1 : scatter_S16x1280x1024_S8192x2_S8192x1024_1_01_01_1.start (ix2 t d) idx 1 = (idx (ix2 t 1)).toInt := by
    unfold ScatterDims.start
    rw [dif_pos (by decide)]
    congr 2
    funext a
    fin_cases a <;> rfl
  have h2 : scatter_S16x1280x1024_S8192x2_S8192x1024_1_01_01_1.start (ix2 t d) idx 2 = 0 := by
    unfold ScatterDims.start
    rw [dif_neg (by decide)]
  have w0 : scatter_S16x1280x1024_S8192x2_S8192x1024_1_01_01_1.window (ix2 t d) 0 = 0 := by
    unfold ScatterDims.window
    rw [dif_neg (by decide)]
  have w1 : scatter_S16x1280x1024_S8192x2_S8192x1024_1_01_01_1.window (ix2 t d) 1 = 0 := by
    unfold ScatterDims.window
    rw [dif_neg (by decide)]
  have w2 : scatter_S16x1280x1024_S8192x2_S8192x1024_1_01_01_1.window (ix2 t d) 2 = d.val := by
    unfold ScatterDims.window
    rw [dif_pos (by decide)]
    rfl
  refine (Routing.resultIdx?_eq_some _ _ _ _).trans ?_
  constructor
  · intro h
    have a0 := h 0
    have a1 := h 1
    have a2 := h 2
    rw [h0, w0] at a0
    rw [h1, w1] at a1
    rw [h2, w2] at a2
    refine ⟨?_, ?_, Fin.ext ?_⟩
    · simpa using a0
    · simpa using a1
    · simpa using a2
  · rintro ⟨a0, a1, rfl⟩ a
    match a with
    | ⟨0, _⟩ => rw [show (⟨0, _⟩ : Fin 3) = 0 from rfl, h0, w0, a0]; exact add_zero _
    | ⟨1, _⟩ => rw [show (⟨1, _⟩ : Fin 3) = 1 from rfl, h1, w1, a1]; exact add_zero _
    | ⟨2, _⟩ => rw [show (⟨2, _⟩ : Fin 3) = 2 from rfl, h2, w2]; exact zero_add _

/-- Adding rows: what lands on row `r` of expert `e`. -/
theorem add_rows (y : S16x1280x1024.Idx → EReal) (idx : IVec S8192x2 32) (u : S8192x1024.Idx → EReal) (k : Fin 8192 → Fin 16)
    (c : Fin 8192 → ℕ) (hk : ∀ t, (idx (ix2 t 0)).toInt = (k t).val) (hc : ∀ t, (idx (ix2 t 1)).toInt = c t)
    (e : Fin 16) (r : Fin 1280) (d : Fin 1024) :
    Ideal.hostScatterAdd scatter_S16x1280x1024_S8192x2_S8192x1024_1_01_01_1 y idx u (ix3 e r d)
      = y (ix3 e r d) + ∑ t, if k t = e ∧ c t = r.val then u (ix2 t d) else 0 := by
  have hl : ∀ t d', scatter_S16x1280x1024_S8192x2_S8192x1024_1_01_01_1.resultIdx? (ix2 t d') idx = some (ix3 e r d)
      ↔ (k t = e ∧ c t = r.val) ∧ d' = d := fun t d' => by
    rw [lands, hk, hc, Nat.cast_inj, Nat.cast_inj, Fin.val_inj, and_assoc]
  unfold Ideal.hostScatterAdd
  refine congrArg (y (ix3 e r d) + ·) ?_
  rw [← Finset.sum_filter]
  symm
  refine Finset.sum_bij (fun t _ => ix2 t d) (fun t ht => ?_) (fun t _ s _ h => congrFun h 0) (fun j hj => ?_) (fun t _ => rfl)
  · exact Finset.mem_filter.mpr ⟨Finset.mem_univ _, (hl t d).2 ⟨(Finset.mem_filter.mp ht).2, rfl⟩⟩
  · idx_vars j
    obtain ⟨h1, h2⟩ := (hl j0 j1).1 (Finset.mem_filter.mp hj).2
    exact ⟨j0, Finset.mem_filter.mpr ⟨Finset.mem_univ _, h1⟩, by rw [h2]⟩

/-- A token beyond the capacity adds zero to the last row. -/
theorem row_add (k e : Fin 16) (p : ℕ) (r : Fin 1280) (x : EReal) :
    (if k = e ∧ min p 1279 = r.val then x * (if p < 1280 then (1 : EReal) else 0) else 0) = if k = e ∧ p = r.val then x else 0 := by
  by_cases hp : p < 1280
  · rw [Nat.min_eq_left (by omega), if_pos hp, mul_one]
  · rw [if_neg hp, mul_zero, ite_self, if_neg]
    rintro ⟨-, h⟩
    omega

/-! ## The gather -/

/-- Reading rows of experts. -/
theorem take_row (x : S16x1280x1024.Idx → EReal) (idx : IVec S8192x2 32) (t : Fin 8192) (d : Fin 1024) (e : Fin 16) (r : Fin 1280)
    (h0 : (idx (ix2 t 0)).toInt = e.val) (h1 : (idx (ix2 t 1)).toInt = r.val) :
    Host.gather gather_S16x1280x1024_S8192x2_S8192x1024_1_01_n_n_01_1_111024 x idx (ix2 t d) = x (ix3 e r d) := by
  unfold Host.gather
  refine congrArg x (funext fun a => Fin.ext ?_)
  show gather_S16x1280x1024_S8192x2_S8192x1024_1_01_n_n_01_1_111024.start (ix2 t d) idx a
    + gather_S16x1280x1024_S8192x2_S8192x1024_1_01_n_n_01_1_111024.batchCoord (ix2 t d) a
    + gather_S16x1280x1024_S8192x2_S8192x1024_1_01_n_n_01_1_111024.offCoord (ix2 t d) a = _
  rw [GatherDims.batchCoord_eq_zero _ _ _ List.not_mem_nil, Nat.add_zero]
  have he := e.isLt
  have hr := r.isLt
  match a with
  | ⟨0, _⟩ =>
    have hs : gather_S16x1280x1024_S8192x2_S8192x1024_1_01_n_n_01_1_111024.start (ix2 t d) idx 0 = min (idx (ix2 t 0)).toInt.toNat 15 := by
      unfold GatherDims.start
      rw [dif_pos (by decide)]
      congr 3
      congr 1
      funext a
      fin_cases a <;> rfl
    have ho : gather_S16x1280x1024_S8192x2_S8192x1024_1_01_n_n_01_1_111024.offCoord (ix2 t d) 0 = 0 := by
      unfold GatherDims.offCoord
      rw [dif_neg (by decide)]
    rw [show (⟨0, _⟩ : Fin 3) = 0 from rfl, hs, ho, h0]
    show min ((e.val : ℤ)).toNat 15 + 0 = e.val
    omega
  | ⟨1, _⟩ =>
    have hs : gather_S16x1280x1024_S8192x2_S8192x1024_1_01_n_n_01_1_111024.start (ix2 t d) idx 1 = min (idx (ix2 t 1)).toInt.toNat 1279 := by
      unfold GatherDims.start
      rw [dif_pos (by decide)]
      congr 3
      congr 1
      funext a
      fin_cases a <;> rfl
    have ho : gather_S16x1280x1024_S8192x2_S8192x1024_1_01_n_n_01_1_111024.offCoord (ix2 t d) 1 = 0 := by
      unfold GatherDims.offCoord
      rw [dif_neg (by decide)]
    rw [show (⟨1, _⟩ : Fin 3) = 1 from rfl, hs, ho, h1]
    show min ((r.val : ℤ)).toNat 1279 + 0 = r.val
    omega
  | ⟨2, _⟩ =>
    have hs : gather_S16x1280x1024_S8192x2_S8192x1024_1_01_n_n_01_1_111024.start (ix2 t d) idx 2 = 0 := by
      unfold GatherDims.start
      rw [dif_neg (by decide)]
    have ho : gather_S16x1280x1024_S8192x2_S8192x1024_1_01_n_n_01_1_111024.offCoord (ix2 t d) 2 = d.val := by
      unfold GatherDims.offCoord
      rw [dif_pos (by decide)]
      rfl
    rw [show (⟨2, _⟩ : Fin 3) = 2 from rfl, hs, ho]
    exact zero_add _

/-! ## The reference's own -/

theorem valid_word (p : ℕ) (h : p < 2 ^ 31) :
    (FloatOps.uitofp .f32 (IntOp.cmpi .slt (BitVec.ofNat 32 p) 1280#32) : Ideal .f32) = if p < 1280 then (1 : EReal) else 0 := by
  rw [Spec.lt_cap p h]
  split
  · show (((1#1 : BitVec 1).toNat : ℝ) : EReal) = 1
    rw [show (1#1 : BitVec 1).toNat = 1 from rfl]; norm_num
  · show (((0#1 : BitVec 1).toNat : ℝ) : EReal) = 0
    rw [show (0#1 : BitVec 1).toNat = 0 from rfl]; norm_num

variable (V : Valuation τ sig (Elt Ideal)) (hg : ∀ t e, ⊥ < g V t e)
include hg

theorem v74_at (t : Fin 8192) : (res_main_v74 V : S8192.Idx → EReal) (ix1 t) = if pos0 (g V) t < 1280 then (1 : EReal) else 0 := by
  rw [← valid_word _ (by have := Spec.pos0_le (g V) t; omega), ← v69_at V hg t]
  rfl
theorem v129_at (t : Fin 8192) : (res_main_v129 V : S8192.Idx → EReal) (ix1 t) = if pos1 (g V) t < 1280 then (1 : EReal) else 0 := by
  rw [← valid_word _ (by have := Spec.pos1_le (g V) t; omega), ← v124_at V hg t]
  rfl
theorem v76_at (t : Fin 8192) : (res_main_v76 V : S8192.Idx → BitVec 32) (ix1 t) = BitVec.ofNat 32 (min (pos0 (g V) t) 1279) := by
  rw [← Spec.min_cap _ (by have := Spec.pos0_le (g V) t; omega), ← v69_at V hg t]
  rfl
theorem v131_at (t : Fin 8192) : (res_main_v131 V : S8192.Idx → BitVec 32) (ix1 t) = BitVec.ofNat 32 (min (pos1 (g V) t) 1279) := by
  rw [← Spec.min_cap _ (by have := Spec.pos1_le (g V) t; omega), ← v124_at V hg t]
  rfl

/-- The words of the first choice of a token, … -/
theorem i0_fst (t : Fin 8192) : (pairT (res_main_v42 V) (res_main_v76 V) (ix2 t 0)).toInt = (top (g V t)).val := by
  rw [pair_fst, wrapC_at _ _ t _ (by have := (top (g V t)).isLt; omega) (v42_at V hg t), word_int _ (by have := (top (g V t)).isLt; omega)]
theorem i0_snd (t : Fin 8192) : (pairT (res_main_v42 V) (res_main_v76 V) (ix2 t 1)).toInt = (min (pos0 (g V) t) 1279 : ℕ) := by
  rw [pair_snd, wrapC_at _ _ t _ (by omega) (v76_at V hg t), word_int _ (by omega)]
/-- … and those of the second. -/
theorem i1_fst (t : Fin 8192) : (pairT (res_main_v97 V) (res_main_v131 V) (ix2 t 0)).toInt = (top2 (g V t)).val := by
  rw [pair_fst, wrapC_at _ _ t _ (by have := (top2 (g V t)).isLt; omega) (v97_at V hg t), word_int _ (by have := (top2 (g V t)).isLt; omega)]
theorem i1_snd (t : Fin 8192) : (pairT (res_main_v97 V) (res_main_v131 V) (ix2 t 1)).toInt = (min (pos1 (g V) t) 1279 : ℕ) := by
  rw [pair_snd, wrapC_at _ _ t _ (by omega) (v131_at V hg t), word_int _ (by omega)]

omit hg in
/-- A token's row times its weight. -/
theorem weigh (x : S8192x1024.Idx → EReal) (w : S8192.Idx → EReal) (t : Fin 8192) (d : Fin 1024) :
    (mulf (F := Ideal) (φ := .f32) x (broadcastInDim S8192x1024 ![0, 1] bcast_S8192x1_S8192x1024_0_1 (broadcastInDim S8192x1 ![0] bcast_S8192_S8192x1_0 w))) (ix2 t d)
      = x (ix2 t d) * w (ix1 t) := by
  pointwise

/-- The experts' buffers. -/
def bufR : S16x1280x1024.Idx → EReal :=
  Host.scatterAdd (F := Ideal) (φ := .f32) scatter_S16x1280x1024_S8192x2_S8192x1024_1_01_01_1
    (Host.scatterAdd (F := Ideal) (φ := .f32) scatter_S16x1280x1024_S8192x2_S8192x1024_1_01_01_1
      (broadcastInDim S16x1280x1024 ![] bcast_S_S16x1280x1024 (constant S_ .f32 0x00000000#32)) (pairT (res_main_v42 V) (res_main_v76 V))
      (mulf (res_main_v0 V) (broadcastInDim S8192x1024 ![0, 1] bcast_S8192x1_S8192x1024_0_1 (broadcastInDim S8192x1 ![0] bcast_S8192_S8192x1_0 (res_main_v74 V)))))
    (pairT (res_main_v97 V) (res_main_v131 V))
    (mulf (res_main_v0 V) (broadcastInDim S8192x1024 ![0, 1] bcast_S8192x1_S8192x1024_0_1 (broadcastInDim S8192x1 ![0] bcast_S8192_S8192x1_0 (res_main_v129 V))))

theorem bufR_at (e : Fin 16) (r : Fin 1280) (d : Fin 1024) : bufR V (ix3 e r d) = Spec.buf (Spec.xs (A0 V)) (g V) e r.val d := by
  unfold bufR Spec.buf
  refine (add_rows _ _ _ (fun t => top2 (g V t)) (fun t => min (pos1 (g V) t) 1279) (i1_fst V hg) (i1_snd V hg) e r d).trans ?_
  refine congrArg₂ (· + ·) ?_ (Finset.sum_congr rfl fun t _ => ?_)
  · refine (add_rows _ _ _ (fun t => top (g V t)) (fun t => min (pos0 (g V) t) 1279) (i0_fst V hg) (i0_snd V hg) e r d).trans ?_
    have hz : (broadcastInDim S16x1280x1024 ![] bcast_S_S16x1280x1024 (constant S_ .f32 0x00000000#32 : FVec Ideal S_ .f32)) (ix3 e r d) = (0 : EReal) := by
      pointwise
    refine (congrArg (· + _) hz).trans ((zero_add _).trans (Finset.sum_congr rfl fun t _ => ?_))
    rw [weigh (res_main_v0 V) (res_main_v74 V) t d, v0_at, v74_at V hg]
    exact row_add _ _ _ _ _
  · rw [weigh (res_main_v0 V) (res_main_v129 V) t d, v0_at, v129_at V hg]
    exact row_add _ _ _ _ _

end Cert.ReferenceIdeal.RefValue
-- ==== Proof.Value.RefFfn.lean ====
/-
  The reference's experts: each row of the buffers through the feed-forward network.
-/
module

public import proofs.«01_k».proof.Proof.Value.RefBuf

@[expose] public section

set_option maxRecDepth 16384

noncomputable section

namespace Cert.ReferenceIdeal.RefValue

open Cert.ReferenceIdeal Cert.ReferenceIdeal.Gen Cert.ReferenceIdeal.Value
open Idealize.ShloMosaic Idealize.ShloMosaic.TcCoe

theorem one_word : Ideal.ofBits .f32 0x3F800000#32 = 1 := by
  simp [Ideal.ofBits, Ideal.ieee, -EReal.coe_mul]
  norm_num

/-- The activation by the complement of the error function. -/
theorem gelu_erfc (h : EReal) :
    (Ideal.ofBits .f32 0x3F000000#32 * h) * Ideal.erfc (-h * Ideal.ofBits .f32 0x3F3504F3#32) = Spec.gelu h := by
  unfold Spec.gelu Ideal.erfc
  rw [EReal.neg_mul, Ideal.erf_neg, sub_eq_add_neg, neg_neg, one_word]

/-- The hidden layer before its activation. -/
def hidR (b : S16x1280x1024.Idx → EReal) (w : S16x1024x4096.Idx → EReal) (c : S16x4096.Idx → EReal) : S16x1280x4096.Idx → EReal :=
  addf (F := Ideal) (φ := .f32) (Host.dotGeneral (F := Ideal) (φ₁ := .f32) (φ₂ := .f32) dot_S16x1280x1024_S16x1024x4096_S16x1280x4096_2_1_1_2_0_0 none b w)
    (broadcastInDim S16x1280x4096 ![0, 1, 2] bcast_S16x1x4096_S16x1280x4096_0_1_2 (broadcastInDim S16x1x4096 ![0, 2] bcast_S16x4096_S16x1x4096_0_2 c))

theorem hidR_at (b : S16x1280x1024.Idx → EReal) (w : S16x1024x4096.Idx → EReal) (c : S16x4096.Idx → EReal) (e : Fin 16) (r : Fin 1280)
    (f : Fin 4096) : hidR b w c (ix3 e r f) = (∑ k, b (ix3 e r k) * w (ix3 e k f)) + c (ix2 e f) := by
  unfold hidR
  pointwise

/-- The experts' results. -/
def outE (h : S16x1280x4096.Idx → EReal) (w : S16x4096x1024.Idx → EReal) (c : S16x1024.Idx → EReal) : S16x1280x1024.Idx → EReal :=
  addf (F := Ideal) (φ := .f32) (Host.dotGeneral (F := Ideal) (φ₁ := .f32) (φ₂ := .f32) dot_S16x1280x4096_S16x4096x1024_S16x1280x1024_2_1_1_2_0_0 none
      (mulf (F := Ideal) (φ := .f32) (mulf (F := Ideal) (φ := .f32) (broadcastInDim S16x1280x4096 ![] bcast_S_S16x1280x4096 (constant S_ .f32 0x3F000000#32)) h)
        (Host.erfc (F := Ideal) (φ := .f32) (mulf (F := Ideal) (φ := .f32) (Host.negf (F := Ideal) (φ := .f32) h)
          (broadcastInDim S16x1280x4096 ![] bcast_S_S16x1280x4096 (constant S_ .f32 0x3F3504F3#32))))) w)
    (broadcastInDim S16x1280x1024 ![0, 1, 2] bcast_S16x1x1024_S16x1280x1024_0_1_2 (broadcastInDim S16x1x1024 ![0, 2] bcast_S16x1024_S16x1x1024_0_2 c))

theorem outE_at (h : S16x1280x4096.Idx → EReal) (w : S16x4096x1024.Idx → EReal) (c : S16x1024.Idx → EReal) (e : Fin 16) (r : Fin 1280)
    (d : Fin 1024) : outE h w c (ix3 e r d) = c (ix2 e d) + ∑ f, Spec.gelu (h (ix3 e r f)) * w (ix3 e f d) := by
  simp only [← gelu_erfc]
  rw [add_comm]
  unfold outE
  pointwise

variable (V : Valuation τ sig (Elt Ideal)) (hg : ∀ t e, ⊥ < g V t e)
include hg

theorem v154_at (e : Fin 16) (r : Fin 1280) (f : Fin 4096) : (res_main_v154 V : S16x1280x4096.Idx → EReal) (ix3 e r f)
    = (∑ k, Spec.buf (Spec.xs (A0 V)) (g V) e r.val k * Spec.w1s (A2 V) e k f) + Spec.b1s (A3 V) e f := by
  refine (hidR_at (bufR V) (A2 V) (A3 V) e r f).trans ?_
  simp only [bufR_at V hg]
  rfl

theorem v165_at (e : Fin 16) (r : Fin 1280) (d : Fin 1024) : (res_main_v165 V : S16x1280x1024.Idx → EReal) (ix3 e r d)
    = Spec.ffn (Spec.w1s (A2 V)) (Spec.b1s (A3 V)) (Spec.w2s (A4 V)) (Spec.b2s (A5 V)) e (Spec.buf (Spec.xs (A0 V)) (g V) e r.val) d := by
  refine (outE_at (res_main_v154 V) (A4 V) (A5 V) e r d).trans ?_
  unfold Spec.ffn
  refine congrArg₂ (· + ·) rfl (Finset.sum_congr rfl fun f _ => ?_)
  rw [v154_at V hg]
  rfl

end Cert.ReferenceIdeal.RefValue
-- ==== Proof.Value.RefOut.lean ====
/-
  The reference's two results are those of the mathematics.
-/
module

public import proofs.«01_k».proof.Proof.Value.RefFfn

@[expose] public section

set_option maxRecDepth 16384

noncomputable section

namespace Cert.ReferenceIdeal.RefValue

open Cert.ReferenceIdeal Cert.ReferenceIdeal.Gen Cert.ReferenceIdeal.Value
open Idealize.ShloMosaic Idealize.ShloMosaic.TcCoe
open Cert.Spec (top top2 mx rest pos0 pos1)

/-! ## The first result -/

/-- The tokens' rows, from the experts' rows, the index words and the weights of both choices. -/
def rowsR (y : S16x1280x1024.Idx → EReal) (a0 b0 a1 b1 : IVec S8192 32) (w0 w1 : S8192.Idx → EReal) : S8192x1024.Idx → EReal :=
  addf (F := Ideal) (φ := .f32)
    (addf (F := Ideal) (φ := .f32) (broadcastInDim S8192x1024 ![] bcast_S_S8192x1024 (constant S_ .f32 0x00000000#32))
      (mulf (F := Ideal) (φ := .f32) (Host.gather gather_S16x1280x1024_S8192x2_S8192x1024_1_01_n_n_01_1_111024 y (pairT a0 b0))
        (broadcastInDim S8192x1024 ![0, 1] bcast_S8192x1_S8192x1024_0_1 (broadcastInDim S8192x1 ![0] bcast_S8192_S8192x1_0 w0))))
    (mulf (F := Ideal) (φ := .f32) (Host.gather gather_S16x1280x1024_S8192x2_S8192x1024_1_01_n_n_01_1_111024 y (pairT a1 b1))
      (broadcastInDim S8192x1024 ![0, 1] bcast_S8192x1_S8192x1024_0_1 (broadcastInDim S8192x1 ![0] bcast_S8192_S8192x1_0 w1)))

theorem zero_at (t : Fin 8192) (d : Fin 1024) :
    (broadcastInDim S8192x1024 ![] bcast_S_S8192x1024 (constant S_ .f32 0x00000000#32 : FVec Ideal S_ .f32)) (ix2 t d) = (0 : EReal) := by
  pointwise

theorem rowsR_at (y : S16x1280x1024.Idx → EReal) (a0 b0 a1 b1 : IVec S8192 32) (w0 w1 : S8192.Idx → EReal) (t : Fin 8192) (d : Fin 1024)
    (e0 e1 : Fin 16) (r0 r1 : Fin 1280) (h0 : (pairT a0 b0 (ix2 t 0)).toInt = e0.val) (h0' : (pairT a0 b0 (ix2 t 1)).toInt = r0.val)
    (h1 : (pairT a1 b1 (ix2 t 0)).toInt = e1.val) (h1' : (pairT a1 b1 (ix2 t 1)).toInt = r1.val) :
    rowsR y a0 b0 a1 b1 w0 w1 (ix2 t d) = y (ix3 e0 r0 d) * w0 (ix1 t) + y (ix3 e1 r1 d) * w1 (ix1 t) := by
  unfold rowsR
  refine congrArg₂ (· + ·) ((congrArg₂ (· + ·) (zero_at t d) ((weigh _ w0 t d).trans ?_)).trans (zero_add _)) ((weigh _ w1 t d).trans ?_)
  · rw [take_row y (pairT a0 b0) t d e0 r0 h0 h0']
  · rw [take_row y (pairT a1 b1) t d e1 r1 h1 h1']

/-- A kept token's weight. -/
theorem keep_mul (p : ℕ) (x : EReal) : (if p < 1280 then (1 : EReal) else 0) * x = if p < 1280 then x else 0 := by
  split
  · exact one_mul x
  · exact zero_mul x

variable (V : Valuation τ sig (Elt Ideal))

/-- The weights of the first choices, -/
def wt0 : S8192.Idx → EReal :=
  mulf (F := Ideal) (φ := .f32) (res_main_v74 V) (shapeCast _ (extractStridedSlice S8192x1 ![0, 0] (res_main_values V) slices_S8192x2_S8192x1_0_0) shapeCasts_S8192x1_S8192)
/-- and of the second. -/
def wt1 : S8192.Idx → EReal :=
  mulf (F := Ideal) (φ := .f32) (res_main_v129 V) (shapeCast _ (extractStridedSlice S8192x1 ![0, 1] (res_main_values V) slices_S8192x2_S8192x1_0_1) shapeCasts_S8192x1_S8192)

variable (hg : ∀ t e, ⊥ < g V t e)

section
include hg

theorem wt0_at (t : Fin 8192) : wt0 V (ix1 t) = if pos0 (g V) t < 1280 then mx (g V t) else 0 := by
  have h : (shapeCast S8192 (extractStridedSlice S8192x1 ![0, 0] (res_main_values V) slices_S8192x2_S8192x1_0_0) shapeCasts_S8192x1_S8192 : S8192.Idx → EReal) (ix1 t)
      = mx (g V t) := (Layout.col_vec _ _ t).trans ((Routing.slice_col0 _ _ t (by norm_num)).trans (p_at V hg t))
  exact Eq.trans (congrArg₂ (fun a b : EReal => a * b) (v74_at V hg t) h) (keep_mul _ _)

theorem wt1_at (t : Fin 8192) : wt1 V (ix1 t) = if pos1 (g V) t < 1280 then mx (rest (g V t)) else 0 := by
  have h : (shapeCast S8192 (extractStridedSlice S8192x1 ![0, 1] (res_main_values V) slices_S8192x2_S8192x1_0_1) shapeCasts_S8192x1_S8192 : S8192.Idx → EReal) (ix1 t)
      = mx (rest (g V t)) := (Layout.col_vec _ _ t).trans ((slice_col1 _ _ t).trans (q_at V hg t))
  exact Eq.trans (congrArg₂ (fun a b : EReal => a * b) (v129_at V hg t) h) (keep_mul _ _)

/-- The first result. -/
theorem res0 : (shapeCast S4x2048x1024 (rowsR (res_main_v165 V) (res_main_v42 V) (res_main_v76 V) (res_main_v97 V) (res_main_v131 V) (wt0 V) (wt1 V))
      shapeCasts_S8192x1024_S4x2048x1024 : S4x2048x1024.Idx → EReal)
    = Spec.out0 (A0 V) (A1 V) (A2 V) (A3 V) (A4 V) (A5 V) := by
  funext i
  idx_vars i
  refine (Layout.rows_batch _ _ i0 i1 i2).trans ?_
  refine (rowsR_at (res_main_v165 V) (res_main_v42 V) (res_main_v76 V) (res_main_v97 V) (res_main_v131 V) (wt0 V) (wt1 V) (Spec.at2 i0 i1) i2
    (top (g V (Spec.at2 i0 i1))) (top2 (g V (Spec.at2 i0 i1)))
    ⟨min (pos0 (g V) (Spec.at2 i0 i1)) 1279, by omega⟩ ⟨min (pos1 (g V) (Spec.at2 i0 i1)) 1279, by omega⟩
    (i0_fst V hg _) (i0_snd V hg _) (i1_fst V hg _) (i1_snd V hg _)).trans ?_
  rw [v165_at V hg, v165_at V hg, wt0_at V hg, wt1_at V hg]
  rfl

end

/-! ## The second result -/

/-- The sums of the columns. -/
def colsR (x : S8192x16.Idx → EReal) : S16.Idx → EReal :=
  Host.reduceAdd (F := Ideal) (φ := .f32) x (constant S_ .f32 0x00000000#32) reducesTo_S8192x16_S16_d0 h_S_

theorem colsR_at (x : S8192x16.Idx → EReal) (e : Fin 16) : colsR x (ix1 e) = ∑ t : Fin 8192, x (ix2 t e) := by
  unfold colsR
  pointwise

/-- The loss of the two vectors of column sums. -/
def lossR (a b : S16.Idx → EReal) : S_.Idx → EReal :=
  mulf (F := Ideal) (φ := .f32) (mulf (F := Ideal) (φ := .f32) (Host.reduceAdd (F := Ideal) (φ := .f32)
    (mulf (F := Ideal) (φ := .f32)
      (Host.divf (F := Ideal) (φ := .f32) a (broadcastInDim S16 ![] bcast_S_S16 (constant S_ .f32 0x46000000#32)))
      (Host.divf (F := Ideal) (φ := .f32) b (broadcastInDim S16 ![] bcast_S_S16 (constant S_ .f32 0x46000000#32))))
    (constant S_ .f32 0x00000000#32) reducesTo_S16_S_d0 h_S_) (constant S_ .f32 0x41800000#32)) (constant S_ .f32 0x3C23D70A#32)

theorem lossR_at (a b : S16.Idx → EReal) (i : S_.Idx) : lossR a b i
    = (∑ e, Ideal.div (a (ix1 e)) (Ideal.ofBits .f32 0x46000000#32) * Ideal.div (b (ix1 e)) (Ideal.ofBits .f32 0x46000000#32))
      * Ideal.ofBits .f32 0x41800000#32 * Ideal.ofBits .f32 0x3C23D70A#32 := by
  unfold lossR
  pointwise

/-- The tokens' first choices as rows of zeros and a one. -/
def hotR (v : IVec S8192 32) : S8192x16.Idx → EReal :=
  uitofp (F := Ideal) .f32 (cmpi .eq (broadcastInDim S8192x16 ![0, 1] bcast_S8192x1_S8192x16_0_1 (broadcastInDim S8192x1 ![0] bcast_S8192_S8192x1_0 v))
    (broadcastInDim S8192x16 ![0, 1] bcast_S1x16_S8192x16_0_1 (iotaInDim S1x16 32 1)))

theorem hot_word (a b : Fin 16) : IntOp.cmpi .eq (BitVec.ofNat 32 a.val) (BitVec.ofNat 32 b.val) = if a = b then 1#1 else 0#1 := by
  revert a b; decide

theorem hot_num (a b : Fin 16) :
    (FloatOps.uitofp .f32 (IntOp.cmpi .eq (BitVec.ofNat 32 a.val) (BitVec.ofNat 32 b.val)) : Ideal .f32) = Spec.ind a b := by
  rw [hot_word]
  unfold Spec.ind
  split
  · show (((1#1 : BitVec 1).toNat : ℝ) : EReal) = 1
    rw [show (1#1 : BitVec 1).toNat = 1 from rfl]; norm_num
  · show (((0#1 : BitVec 1).toNat : ℝ) : EReal) = 0
    rw [show (0#1 : BitVec 1).toNat = 0 from rfl]; norm_num

theorem hotR_at (v : IVec S8192 32) (t : Fin 8192) (k : Fin 16) (h : v (ix1 t) = BitVec.ofNat 32 k.val) (e : Fin 16) :
    hotR v (ix2 t e) = Spec.ind k e := by
  refine Eq.trans ?_ (hot_num k e)
  rw [← h]
  unfold hotR
  pointwise

include hg

/-- The second result. -/
theorem res1 : lossR (colsR (res_main_v12 V)) (colsR (hotR (res_main_v42 V))) = Spec.out1 (A0 V) (A1 V) := by
  funext i
  have h0 : ∀ e, colsR (res_main_v12 V) (ix1 e) = ∑ t, g V t e := fun e =>
    (colsR_at (res_main_v12 V) e).trans (Finset.sum_congr rfl fun t _ => v12_at V t e)
  have h1 : ∀ e, colsR (hotR (res_main_v42 V)) (ix1 e) = ∑ t, Spec.ind (top (g V t)) e := fun e =>
    (colsR_at (hotR (res_main_v42 V)) e).trans (Finset.sum_congr rfl fun t _ => hotR_at _ t _ (v42_at V hg t) e)
  refine (lossR_at _ _ i).trans ?_
  simp only [h0, h1]
  rfl

end Cert.ReferenceIdeal.RefValue
-- ==== Proof.Value.Finite.lean ====
/-
  With finite tokens and gating weights every gate lies above `-∞`.
-/
module

public import proofs.«01_k».proof.Pre_finite_gate
public import proofs.«01_k».proof.Proof.Value.Inputs
public import Idealize.ShloMosaic.Lib.ReduceAll
public import Idealize.ShloMosaic.Lib.IdealHost

@[expose] public section

noncomputable section

namespace Cert.Spec

open Idealize.ShloMosaic

theorem inf_word : Ideal.ofBits .f32 0x7F800000#32 = ⊤ := by simp [Ideal.ofBits, Ideal.ieee]

/-- A number whose absolute value lies below `+∞` is real. -/
theorem real_of_abs (x : EReal) (h : max x (-x) < ⊤) : ∃ r : ℝ, x = (r : EReal) := by
  induction x using EReal.rec with
  | bot => simp at h
  | coe r => exact ⟨r, rfl⟩
  | top => simp at h

theorem sum_real {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The softmax of sixteen reals lies above `-∞`. -/
theorem soft_gt (l : Fin 16 → EReal) (h : ∀ e, ∃ r : ℝ, l e = (r : EReal)) (e : Fin 16) : ⊥ < soft l e := by
  choose r hr using h
  obtain ⟨k, hk⟩ := mx_mem l
  have hm : mx l = ((r k : ℝ) : EReal) := by rw [← hk, hr]
  have he : ∀ i, Ideal.exp (l i - mx l) = ((Real.exp (r i - r k) : ℝ) : EReal) := fun i => by
    rw [hm, hr, ← EReal.coe_sub]; rfl
  have hs : (∑ i, Ideal.exp (l i - mx l)) = ((∑ i, Real.exp (r i - r k) : ℝ) : EReal) := by
    simp only [he]; exact sum_real _ _
  have hp : 0 < ∑ i, Real.exp (r i - r k) := Finset.sum_pos (fun i _ => Real.exp_pos _) ⟨0, Finset.mem_univ _⟩
  unfold soft
  rw [hs, he]
  unfold Ideal.div
  rw [if_neg (by rw [EReal.coe_eq_zero]; exact hp.ne'), ← EReal.coe_inv, ← EReal.coe_mul]
  exact EReal.bot_lt_coe _

/-- So do the gates of real tokens and weights. -/
theorem gate_gt (x : Fin 8192 → Fin 1024 → EReal) (w : Fin 1024 → Fin 16 → EReal) (hx : ∀ t d, ∃ r : ℝ, x t d = (r : EReal))
    (hw : ∀ d e, ∃ r : ℝ, w d e = (r : EReal)) (t : Fin 8192) (e : Fin 16) : ⊥ < gate x w t e := by
  choose a ha using hx
  choose b hb using hw
  refine soft_gt _ (fun k => ⟨∑ d, a t d * b d k, ?_⟩) e
  unfold logit
  rw [← sum_real]
  refine Finset.sum_congr rfl fun d _ => ?_
  rw [ha, hb, EReal.coe_mul]

/-- An array all of whose entries have absolute value below `+∞`, as the precondition states it. -/
theorem real_of_all {s : Shape} (x : s.Idx → EReal) (b : (⟨0, ![]⟩ : Shape).BroadcastsInDim s (![] : Fin 0 → Fin s.rank))
    {axes : List (Fin s.rank)} (h : s.ReducesTo axes ⟨0, ![]⟩) (hu : 0 < (⟨0, ![]⟩ : Shape).numel) (j : (⟨0, ![]⟩ : Shape).Idx)
    (e : Host.reduce IntOp.andi (cmpf (F := Ideal) (φ := .f32) .olt (Host.absf (F := Ideal) (φ := .f32) x)
      (broadcastInDim s ![] b (constant ⟨0, ![]⟩ .f32 0x7F800000#32 : FVec Ideal ⟨0, ![]⟩ .f32))) (constantI ⟨0, ![]⟩ 1 1#1) h hu j = 1#1)
    (i : s.Idx) : ∃ r : ℝ, x i = (r : EReal) := by
  haveI : Subsingleton (⟨0, ![]⟩ : Shape).Idx := ⟨fun a b => funext fun k => k.elim0⟩
  have h1 := Host.reduce_andi_all _ _ _ _ j e i
  refine real_of_abs _ ?_
  have h2 : BitVec.ofBool (decide (max (x i) (-x i) < Ideal.ofBits .f32 0x7F800000#32)) = 1#1 := h1
  rw [inf_word] at h2
  by_contra hn
  rw [decide_eq_false hn] at h2
  exact absurd h2 (by decide)

theorem and_one (a b : BitVec 1) (h : IntOp.andi a b = 1#1) : a = 1#1 ∧ b = 1#1 := by
  revert a b; decide

/-- The precondition gives the gates' bound. -/
theorem gs_gt [Cert.Pre_finite_gate.Facts] (A0 : (⟨3, ![4, 2048, 1024]⟩ : Shape).Idx → EReal) (A1 : (⟨2, ![1024, 16]⟩ : Shape).Idx → EReal)
    (A2 : (⟨3, ![16, 1024, 4096]⟩ : Shape).Idx → EReal) (A3 : (⟨2, ![16, 4096]⟩ : Shape).Idx → EReal)
    (A4 : (⟨3, ![16, 4096, 1024]⟩ : Shape).Idx → EReal) (A5 : (⟨2, ![16, 1024]⟩ : Shape).Idx → EReal)
    (j : (⟨0, ![]⟩ : Shape).Idx) (h : Cert.Pre_finite_gate.fn (F := Ideal) A0 A1 A2 A3 A4 A5 j = 1#1) (t : Fin 8192) (e : Fin 16) :
    ⊥ < gs A0 A1 t e := by
  obtain ⟨h0, h1⟩ := and_one _ _ h
  exact gate_gt _ _ (fun t d => real_of_all A0 _ _ _ j h0 _) (fun d e => real_of_all A1 _ _ _ j h1 _) t e

end Cert.Spec
-- ==== Proof.Algebraic.lean ====
/-
  The value claim: from the same arguments the kernel and the reference leave the same two results.
-/
module

public import proofs.«01_k».proof.Proof.Frames
public import proofs.«01_k».proof.Proof.Value.Kernel
public import proofs.«01_k».proof.Proof.Value.RefOut
public import proofs.«01_k».proof.Proof.Value.Finite

@[expose] public section

set_option maxRecDepth 16384

noncomputable section

namespace Cert.Proof

open Idealize.ShloMosaic Idealize.SL.Sem

attribute [local instance] preFacts

variable (m : (ℓ : Loc Cert.KernelIdeal.nD Cert.KernelIdeal.τ Cert.KernelIdeal.sig) → Buf (Elt Ideal) ℓ)

/-- The arguments on a device. -/
abbrev X0 (c : Dev Cert.KernelIdeal.nD) : (⟨3, ![4, 2048, 1024]⟩ : Shape).Idx → EReal :=
  m ((c.tc : Thread Cert.KernelIdeal.nD Cert.KernelIdeal.τ).loc Cert.KernelIdeal.main_arg0)
abbrev X1 (c : Dev Cert.KernelIdeal.nD) : (⟨2, ![1024, 16]⟩ : Shape).Idx → EReal :=
  m ((c.tc : Thread Cert.KernelIdeal.nD Cert.KernelIdeal.τ).loc Cert.KernelIdeal.main_arg1)
abbrev X2 (c : Dev Cert.KernelIdeal.nD) : (⟨3, ![16, 1024, 4096]⟩ : Shape).Idx → EReal :=
  m ((c.tc : Thread Cert.KernelIdeal.nD Cert.KernelIdeal.τ).loc Cert.KernelIdeal.main_arg2)
abbrev X3 (c : Dev Cert.KernelIdeal.nD) : (⟨2, ![16, 4096]⟩ : Shape).Idx → EReal :=
  m ((c.tc : Thread Cert.KernelIdeal.nD Cert.KernelIdeal.τ).loc Cert.KernelIdeal.main_arg3)
abbrev X4 (c : Dev Cert.KernelIdeal.nD) : (⟨3, ![16, 4096, 1024]⟩ : Shape).Idx → EReal :=
  m ((c.tc : Thread Cert.KernelIdeal.nD Cert.KernelIdeal.τ).loc Cert.KernelIdeal.main_arg4)
abbrev X5 (c : Dev Cert.KernelIdeal.nD) : (⟨2, ![16, 1024]⟩ : Shape).Idx → EReal :=
  m ((c.tc : Thread Cert.KernelIdeal.nD Cert.KernelIdeal.τ).loc Cert.KernelIdeal.main_arg5)

/-- The reference's first result is the mathematics' first result of the arguments it is given, -/
theorem first_of (V : Valuation Cert.ReferenceIdeal.τ Cert.ReferenceIdeal.sig (Elt Ideal))
    (a0 : (⟨3, ![4, 2048, 1024]⟩ : Shape).Idx → EReal) (a1 : (⟨2, ![1024, 16]⟩ : Shape).Idx → EReal)
    (a2 : (⟨3, ![16, 1024, 4096]⟩ : Shape).Idx → EReal) (a3 : (⟨2, ![16, 4096]⟩ : Shape).Idx → EReal)
    (a4 : (⟨3, ![16, 4096, 1024]⟩ : Shape).Idx → EReal) (a5 : (⟨2, ![16, 1024]⟩ : Shape).Idx → EReal)
    (h0 : Cert.ReferenceIdeal.RefValue.A0 V = a0) (h1 : Cert.ReferenceIdeal.RefValue.A1 V = a1) (h2 : Cert.ReferenceIdeal.RefValue.A2 V = a2)
    (h3 : Cert.ReferenceIdeal.RefValue.A3 V = a3) (h4 : Cert.ReferenceIdeal.RefValue.A4 V = a4) (h5 : Cert.ReferenceIdeal.RefValue.A5 V = a5) :
    Spec.out0 (Cert.ReferenceIdeal.RefValue.A0 V) (Cert.ReferenceIdeal.RefValue.A1 V) (Cert.ReferenceIdeal.RefValue.A2 V)
      (Cert.ReferenceIdeal.RefValue.A3 V) (Cert.ReferenceIdeal.RefValue.A4 V) (Cert.ReferenceIdeal.RefValue.A5 V)
      = Spec.out0 a0 a1 a2 a3 a4 a5 := by
  rw [h0, h1, h2, h3, h4, h5]

/-- and so is its second. -/
theorem second_of (V : Valuation Cert.ReferenceIdeal.τ Cert.ReferenceIdeal.sig (Elt Ideal))
    (a0 : (⟨3, ![4, 2048, 1024]⟩ : Shape).Idx → EReal) (a1 : (⟨2, ![1024, 16]⟩ : Shape).Idx → EReal)
    (h0 : Cert.ReferenceIdeal.RefValue.A0 V = a0) (h1 : Cert.ReferenceIdeal.RefValue.A1 V = a1) :
    Spec.out1 (Cert.ReferenceIdeal.RefValue.A0 V) (Cert.ReferenceIdeal.RefValue.A1 V) = Spec.out1 a0 a1 := by
  rw [h0, h1]

theorem gate_of (V : Valuation Cert.ReferenceIdeal.τ Cert.ReferenceIdeal.sig (Elt Ideal))
    (a0 : (⟨3, ![4, 2048, 1024]⟩ : Shape).Idx → EReal) (a1 : (⟨2, ![1024, 16]⟩ : Shape).Idx → EReal)
    (h0 : Cert.ReferenceIdeal.RefValue.A0 V = a0) (h1 : Cert.ReferenceIdeal.RefValue.A1 V = a1)
    (h : ∀ t e, ⊥ < Spec.gs a0 a1 t e) (t : Fin 8192) (e : Fin 16) : ⊥ < Cert.ReferenceIdeal.RefValue.g V t e := by
  subst h0; subst h1; exact h t e

theorem gates (hp : Cert.Pre_KernelIdeal_finite_gate m) (c : Dev Cert.KernelIdeal.nD) (t : Fin 8192) (e : Fin 16) :
    ⊥ < Spec.gs (X0 m c) (X1 m c) t e :=
  Spec.gs_gt (X0 m c) (X1 m c) (X2 m c) (X3 m c) (X4 m c) (X5 m c) (fun k => k.elim0) (congrFun (hp c) _) t e

theorem algebraic : Cert.algebraic_KernelIdeal_ReferenceIdeal_pre_finite_gate := by
  intro m g m' g' hp ha
  refine ⟨fun c => Spec.out0 (X0 m c) (X1 m c) (X2 m c) (X3 m c) (X4 m c) (X5 m c), fun c => Spec.out1 (X0 m c) (X1 m c), ?_, ?_⟩
  · refine (θ_run (Cert.KernelIdeal.defs (F := Ideal)) _ _).mono (fun r h c => ?_) (Cert.KernelIdeal.Run.run m g)
    obtain ⟨h1, h2, h3⟩ := h.1 c
    exact ⟨h2.trans (Cert.KernelIdeal.KernelValue.out0 m c), h3.trans (Cert.KernelIdeal.KernelValue.out1 m c), h1⟩
  · refine (θ_run (Cert.ReferenceIdeal.defs (F := Ideal)) _ _).mono (fun r h c => ?_) (Cert.ReferenceIdeal.Value.run (F := Ideal) m' g')
    obtain ⟨h1, h2, h3⟩ := h c
    obtain ⟨a0, a1, a2, a3, a4, a5⟩ := ha c
    have hg := gate_of (StableHlo.launchContents m' c) (X0 m c) (X1 m c) a0 a1 (gates m hp c)
    exact ⟨h1.trans ((Cert.ReferenceIdeal.RefValue.res0 (StableHlo.launchContents m' c) hg).trans (first_of _ _ _ _ _ _ _ a0 a1 a2 a3 a4 a5)),
      h2.trans ((Cert.ReferenceIdeal.RefValue.res1 (StableHlo.launchContents m' c) hg).trans (second_of _ _ _ a0 a1)), h3⟩

end Cert.Proof

end
-- ==== Proof.lean ====
/-
  The proof of `Cert.Claim`.
-/
module

public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, preFacts,
  frame_kernel, frame_kernelIdeal, frame_kernelIdeal_pre, frame_reference, frame_reference_pre, trivial, algebraic⟩

end Cert.Proof

end
